-- ==== Defs.lean ====
def Pre_Kernel [hPre_tables : Cert.Pre_tables.Facts] (m : (ℓ : Loc Cert.Kernel.nD Cert.Kernel.τ Cert.Kernel.sig) → Buf (Elt Bits) ℓ) : Prop :=
  ∀ c : Dev Cert.Kernel.nD,
    (Cert.Pre_tables.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))).1 = (fun _ => 1#1)
    ∧ (Cert.Pre_tables.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))).2.1 = (fun _ => 1#1)
    ∧ (Cert.Pre_tables.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))).2.2 = (fun _ => 1#1)

def Pre_KernelIdeal [hPre_tables : Cert.Pre_tables.Facts] (m : (ℓ : Loc Cert.KernelIdeal.nD Cert.KernelIdeal.τ Cert.KernelIdeal.sig) → Buf (Elt Ideal) ℓ) : Prop :=
  ∀ c : Dev Cert.KernelIdeal.nD,
    (Cert.Pre_tables.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).1 = (fun _ => 1#1)
    ∧ (Cert.Pre_tables.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.1 = (fun _ => 1#1)
    ∧ (Cert.Pre_tables.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2 = (fun _ => 1#1)

def Pre_ReferenceIdeal [hPre_tables : Cert.Pre_tables.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_tables.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).1 = (fun _ => 1#1)
    ∧ (Cert.Pre_tables.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.1 = (fun _ => 1#1)
    ∧ (Cert.Pre_tables.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def quiescent_Kernel [hKernel : Cert.Kernel.Facts] [hPre_tables : Cert.Pre_tables.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] [hPre_tables : Cert.Pre_tables.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] [hPre_tables : Cert.Pre_tables.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3)
      ∧ r.2.mem ((c.tc : Thread Cert.Kernel9.nD Cert.Kernel9.τ).loc Cert.Kernel9.main_arg4) = m ((c.tc : Thread Cert.Kernel9.nD Cert.Kernel9.τ).loc Cert.Kernel9.main_arg4))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
      ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3)
      ∧ r.2.mem ((c.tc : Thread Cert.Reference9Ideal.nD Cert.Reference9Ideal.τ).loc Cert.Reference9Ideal.main_arg4) = m ((c.tc : Thread Cert.Reference9Ideal.nD Cert.Reference9Ideal.τ).loc Cert.Reference9Ideal.main_arg4))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2)
      ∧ r.2.mem ((c.tc : Thread Cert.Kernel10.nD Cert.Kernel10.τ).loc Cert.Kernel10.main_arg3) = m ((c.tc : Thread Cert.Kernel10.nD Cert.Kernel10.τ).loc Cert.Kernel10.main_arg3)
      ∧ r.2.mem ((c.tc : Thread Cert.Kernel10.nD Cert.Kernel10.τ).loc Cert.Kernel10.main_arg4) = m ((c.tc : Thread Cert.Kernel10.nD Cert.Kernel10.τ).loc Cert.Kernel10.main_arg4))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
      ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3)
      ∧ r.2.mem ((c.tc : Thread Cert.Reference10Ideal.nD Cert.Reference10Ideal.τ).loc Cert.Reference10Ideal.main_arg4) = m ((c.tc : Thread Cert.Reference10Ideal.nD Cert.Reference10Ideal.τ).loc Cert.Reference10Ideal.main_arg4))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2)
      ∧ r.2.mem ((c.tc : Thread Cert.Kernel11.nD Cert.Kernel11.τ).loc Cert.Kernel11.main_arg3) = m ((c.tc : Thread Cert.Kernel11.nD Cert.Kernel11.τ).loc Cert.Kernel11.main_arg3)
      ∧ r.2.mem ((c.tc : Thread Cert.Kernel11.nD Cert.Kernel11.τ).loc Cert.Kernel11.main_arg4) = m ((c.tc : Thread Cert.Kernel11.nD Cert.Kernel11.τ).loc Cert.Kernel11.main_arg4)
      ∧ r.2.mem ((c.tc : Thread Cert.Kernel11.nD Cert.Kernel11.τ).loc Cert.Kernel11.main_arg5) = m ((c.tc : Thread Cert.Kernel11.nD Cert.Kernel11.τ).loc Cert.Kernel11.main_arg5))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
      ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
      ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4)
      ∧ r.2.mem ((c.tc : Thread Cert.Kernel11Ideal.nD Cert.Kernel11Ideal.τ).loc Cert.Kernel11Ideal.main_arg5) = m ((c.tc : Thread Cert.Kernel11Ideal.nD Cert.Kernel11Ideal.τ).loc Cert.Kernel11Ideal.main_arg5))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2)
      ∧ r.2.mem ((c.tc : Thread Cert.Reference11Ideal.nD Cert.Reference11Ideal.τ).loc Cert.Reference11Ideal.main_arg3) = m ((c.tc : Thread Cert.Reference11Ideal.nD Cert.Reference11Ideal.τ).loc Cert.Reference11Ideal.main_arg3)
      ∧ r.2.mem ((c.tc : Thread Cert.Reference11Ideal.nD Cert.Reference11Ideal.τ).loc Cert.Reference11Ideal.main_arg4) = m ((c.tc : Thread Cert.Reference11Ideal.nD Cert.Reference11Ideal.τ).loc Cert.Reference11Ideal.main_arg4)
      ∧ r.2.mem ((c.tc : Thread Cert.Reference11Ideal.nD Cert.Reference11Ideal.τ).loc Cert.Reference11Ideal.main_arg5) = m ((c.tc : Thread Cert.Reference11Ideal.nD Cert.Reference11Ideal.τ).loc Cert.Reference11Ideal.main_arg5))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_tables : Cert.Pre_tables.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v0) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v0) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v1) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v1) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v0)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v1) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v0)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v1) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)) →
    ∃ (v0 : (c : Dev Cert.Kernel8Ideal.nD) → Buf (Elt Ideal) ((c.tc : Thread Cert.Kernel8Ideal.nD Cert.Kernel8Ideal.τ).loc Cert.Kernel8Ideal.main_v0)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v4) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)
      ∧ m' ((c.tc : Thread Cert.Reference9Ideal.nD Cert.Reference9Ideal.τ).loc Cert.Reference9Ideal.main_arg4) = m ((c.tc : Thread Cert.Kernel9Ideal.nD Cert.Kernel9Ideal.τ).loc Cert.Kernel9Ideal.main_arg4)) →
    ∃ (v0 : (c : Dev Cert.Kernel9Ideal.nD) → Buf (Elt Ideal) ((c.tc : Thread Cert.Kernel9Ideal.nD Cert.Kernel9Ideal.τ).loc Cert.Kernel9Ideal.main_v1)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v1) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
          ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v26) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3)
          ∧ r.2.mem ((c.tc : Thread Cert.Reference9Ideal.nD Cert.Reference9Ideal.τ).loc Cert.Reference9Ideal.main_arg4) = m' ((c.tc : Thread Cert.Reference9Ideal.nD Cert.Reference9Ideal.τ).loc Cert.Reference9Ideal.main_arg4))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)
      ∧ m' ((c.tc : Thread Cert.Reference10Ideal.nD Cert.Reference10Ideal.τ).loc Cert.Reference10Ideal.main_arg3) = m ((c.tc : Thread Cert.Kernel10Ideal.nD Cert.Kernel10Ideal.τ).loc Cert.Kernel10Ideal.main_arg3)
      ∧ m' ((c.tc : Thread Cert.Reference10Ideal.nD Cert.Reference10Ideal.τ).loc Cert.Reference10Ideal.main_arg4) = m ((c.tc : Thread Cert.Kernel10Ideal.nD Cert.Kernel10Ideal.τ).loc Cert.Kernel10Ideal.main_arg4)) →
    ∃ (v0 : (c : Dev Cert.Kernel10Ideal.nD) → Buf (Elt Ideal) ((c.tc : Thread Cert.Kernel10Ideal.nD Cert.Kernel10Ideal.τ).loc Cert.Kernel10Ideal.main_v1)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v1) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
          ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
          ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v26) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2)
          ∧ r.2.mem ((c.tc : Thread Cert.Reference10Ideal.nD Cert.Reference10Ideal.τ).loc Cert.Reference10Ideal.main_arg3) = m' ((c.tc : Thread Cert.Reference10Ideal.nD Cert.Reference10Ideal.τ).loc Cert.Reference10Ideal.main_arg3)
          ∧ r.2.mem ((c.tc : Thread Cert.Reference10Ideal.nD Cert.Reference10Ideal.τ).loc Cert.Reference10Ideal.main_arg4) = m' ((c.tc : Thread Cert.Reference10Ideal.nD Cert.Reference10Ideal.τ).loc Cert.Reference10Ideal.main_arg4))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)
      ∧ m' ((c.tc : Thread Cert.Reference11Ideal.nD Cert.Reference11Ideal.τ).loc Cert.Reference11Ideal.main_arg3) = m ((c.tc : Thread Cert.Kernel11Ideal.nD Cert.Kernel11Ideal.τ).loc Cert.Kernel11Ideal.main_arg3)
      ∧ m' ((c.tc : Thread Cert.Reference11Ideal.nD Cert.Reference11Ideal.τ).loc Cert.Reference11Ideal.main_arg4) = m ((c.tc : Thread Cert.Kernel11Ideal.nD Cert.Kernel11Ideal.τ).loc Cert.Kernel11Ideal.main_arg4)
      ∧ m' ((c.tc : Thread Cert.Reference11Ideal.nD Cert.Reference11Ideal.τ).loc Cert.Reference11Ideal.main_arg5) = m ((c.tc : Thread Cert.Kernel11Ideal.nD Cert.Kernel11Ideal.τ).loc Cert.Kernel11Ideal.main_arg5)) →
    ∃ (v0 : (c : Dev Cert.Kernel11Ideal.nD) → Buf (Elt Ideal) ((c.tc : Thread Cert.Kernel11Ideal.nD Cert.Kernel11Ideal.τ).loc Cert.Kernel11Ideal.main_v8)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v8) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
          ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
          ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4)
          ∧ r.2.mem ((c.tc : Thread Cert.Kernel11Ideal.nD Cert.Kernel11Ideal.τ).loc Cert.Kernel11Ideal.main_arg5) = m ((c.tc : Thread Cert.Kernel11Ideal.nD Cert.Kernel11Ideal.τ).loc Cert.Kernel11Ideal.main_arg5))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v29) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2)
          ∧ r.2.mem ((c.tc : Thread Cert.Reference11Ideal.nD Cert.Reference11Ideal.τ).loc Cert.Reference11Ideal.main_arg3) = m' ((c.tc : Thread Cert.Reference11Ideal.nD Cert.Reference11Ideal.τ).loc Cert.Reference11Ideal.main_arg3)
          ∧ r.2.mem ((c.tc : Thread Cert.Reference11Ideal.nD Cert.Reference11Ideal.τ).loc Cert.Reference11Ideal.main_arg4) = m' ((c.tc : Thread Cert.Reference11Ideal.nD Cert.Reference11Ideal.τ).loc Cert.Reference11Ideal.main_arg4)
          ∧ r.2.mem ((c.tc : Thread Cert.Reference11Ideal.nD Cert.Reference11Ideal.τ).loc Cert.Reference11Ideal.main_arg5) = m' ((c.tc : Thread Cert.Reference11Ideal.nD Cert.Reference11Ideal.τ).loc Cert.Reference11Ideal.main_arg5))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hPre_tables : Cert.Pre_tables.Facts),
    quiescent_Kernel (hKernel := hKernel) (hPre_tables := hPre_tables)
    ∧ quiescent_KernelIdeal (hKernelIdeal := hKernelIdeal) (hPre_tables := hPre_tables)
    ∧ quiescent_ReferenceIdeal (hReferenceIdeal := hReferenceIdeal) (hPre_tables := hPre_tables)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ preserves_Kernel_KernelIdeal
    ∧ algebraic_KernelIdeal_ReferenceIdeal (hKernelIdeal := hKernelIdeal) (hReferenceIdeal := hReferenceIdeal) (hPre_tables := hPre_tables)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
-- ==== Pre_tables.lean ====
abbrev S24576x2048 : Shape := ⟨2, ![24576, 2048]⟩
abbrev S8x2048x5632 : Shape := ⟨3, ![8, 2048, 5632]⟩
abbrev S8x5632x2048 : Shape := ⟨3, ![8, 5632, 2048]⟩
abbrev S24576x1 : Shape := ⟨2, ![24576, 1]⟩
abbrev S24 : Shape := ⟨1, ![24]⟩
abbrev S1 : Shape := ⟨1, ![1]⟩
abbrev S_ : Shape := ⟨0, ![]⟩

class Facts : Prop where
  bcast_S_S24 : S_.BroadcastsInDim S24 (![] : Fin 0 → Fin S24.rank)
  bcast_S_S1 : S_.BroadcastsInDim S1 (![] : Fin 0 → Fin S1.rank)

variable [Facts]

def fn {F : FTy → Type} [FloatOps F] (main_arg0 : FVec F S24576x2048 .bf16) (main_arg1 : FVec F S8x2048x5632 .f32) (main_arg2 : FVec F S8x2048x5632 .f32) (main_arg3 : FVec F S8x5632x2048 .f32) (main_arg4 : FVec F S24576x1 .f32) (main_arg5 : IVec S24 32) (main_arg6 : IVec S1 32) : IVec S24 1 × IVec S24 1 × IVec S1 1 :=
  let main_c : IVec S_ 32 := constantI S_ 32 0#32
  let main_v0 : IVec S24 32 := broadcastInDim S24 ![] bcast_S_S24 main_c
  let main_v1 : IVec S24 1 := cmpi .sge main_arg5 main_v0
  let main_c_0 : IVec S_ 32 := constantI S_ 32 8#32
  let main_v2 : IVec S24 32 := broadcastInDim S24 ![] bcast_S_S24 main_c_0
  let main_v3 : IVec S24 1 := cmpi .slt main_arg5 main_v2
  let main_c_1 : IVec S_ 32 := constantI S_ 32 1#32
  let main_v4 : IVec S1 32 := broadcastInDim S1 ![] bcast_S_S1 main_c_1
  let main_v5 : IVec S1 1 := cmpi .sge main_arg6 main_v4
  (main_v1, main_v3, main_v5)
-- ==== Kernel.lean ====
abbrev S24576x2048 : Shape := ⟨2, ![24576, 2048]⟩
abbrev S8x2048x5632 : Shape := ⟨3, ![8, 2048, 5632]⟩
abbrev S8x5632x2048 : Shape := ⟨3, ![8, 5632, 2048]⟩
abbrev S24576x1 : Shape := ⟨2, ![24576, 1]⟩
abbrev S24 : Shape := ⟨1, ![24]⟩
abbrev S1 : Shape := ⟨1, ![1]⟩
abbrev S_ : Shape := ⟨0, ![]⟩
abbrev S24x1 : Shape := ⟨2, ![24, 1]⟩
abbrev S1024x2048 : Shape := ⟨2, ![1024, 2048]⟩
abbrev S1x2048x256 : Shape := ⟨3, ![1, 2048, 256]⟩
abbrev S1x256x2048 : Shape := ⟨3, ![1, 256, 2048]⟩
abbrev S1024x1 : Shape := ⟨2, ![1024, 1]⟩
abbrev S2048x256 : Shape := ⟨2, ![2048, 256]⟩
abbrev S1024x256 : Shape := ⟨2, ![1024, 256]⟩
abbrev S256x2048 : Shape := ⟨2, ![256, 2048]⟩

abbrev nBuf : Space → Nat
  | .hbm => 21
  | .vmem => 12
  | .smem => 2
  | _ => 0

abbrev bufTy : (tb : Table) → Fin (tcTables nBuf tb) → BufTy
  | .hbm, ⟨0, _⟩ => ⟨S24576x2048, .bf16⟩
  | .hbm, ⟨1, _⟩ => ⟨S8x2048x5632, .f32⟩
  | .hbm, ⟨2, _⟩ => ⟨S8x2048x5632, .f32⟩
  | .hbm, ⟨3, _⟩ => ⟨S8x5632x2048, .f32⟩
  | .hbm, ⟨4, _⟩ => ⟨S24576x1, .f32⟩
  | .hbm, ⟨5, _⟩ => ⟨S24, .i32⟩
  | .hbm, ⟨6, _⟩ => ⟨S24, .i32⟩
  | .hbm, ⟨7, _⟩ => ⟨S_, .i32⟩
  | .hbm, ⟨8, _⟩ => ⟨S_, .i32⟩
  | .hbm, ⟨9, _⟩ => ⟨S_, .i32⟩
  | .hbm, ⟨10, _⟩ => ⟨S24, .i32⟩
  | .hbm, ⟨11, _⟩ => ⟨S24, .i32⟩
  | .hbm, ⟨12, _⟩ => ⟨S_, .i32⟩
  | .hbm, ⟨13, _⟩ => ⟨S24, .i32⟩
  | .hbm, ⟨14, _⟩ => ⟨S24, .i1⟩
  | .hbm, ⟨15, _⟩ => ⟨S_, .i32⟩
  | .hbm, ⟨16, _⟩ => ⟨S24, .i32⟩
  | .hbm, ⟨17, _⟩ => ⟨S24, .i32⟩
  | .hbm, ⟨18, _⟩ => ⟨S24, .i32⟩
  | .hbm, ⟨19, _⟩ => ⟨S24x1, .i32⟩
  | .hbm, ⟨20, _⟩ => ⟨S24576x2048, .f32⟩
  | .local _ .vmem, ⟨0, _⟩ => ⟨S1024x2048, .bf16⟩
  | .local _ .vmem, ⟨1, _⟩ => ⟨S1024x2048, .bf16⟩
  | .local _ .vmem, ⟨2, _⟩ => ⟨S1x2048x256, .f32⟩
  | .local _ .vmem, ⟨3, _⟩ => ⟨S1x2048x256, .f32⟩
  | .local _ .vmem, ⟨4, _⟩ => ⟨S1x2048x256, .f32⟩
  | .local _ .vmem, ⟨5, _⟩ => ⟨S1x2048x256, .f32⟩
  | .local _ .vmem, ⟨6, _⟩ => ⟨S1x256x2048, .f32⟩
  | .local _ .vmem, ⟨7, _⟩ => ⟨S1x256x2048, .f32⟩
  | .local _ .vmem, ⟨8, _⟩ => ⟨S1024x1, .f32⟩
  | .local _ .vmem, ⟨9, _⟩ => ⟨S1024x1, .f32⟩
  | .local _ .vmem, ⟨10, _⟩ => ⟨S1024x2048, .f32⟩
  | .local _ .vmem, ⟨11, _⟩ => ⟨S1024x2048, .f32⟩
  | .local _ .smem, ⟨0, _⟩ => ⟨S24, .i32⟩
  | .local _ .smem, ⟨1, _⟩ => ⟨S1, .i32⟩
  | _, _ => ⟨S24576x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_c : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_c_0 : Ref sig .tc := ⟨.hbm, 12, rfl⟩
abbrev main_v5 : Ref sig .tc := ⟨.hbm, 13, rfl⟩
abbrev main_v6 : Ref sig .tc := ⟨.hbm, 14, rfl⟩
abbrev main_c_1 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v12 : Ref sig .tc := ⟨.hbm, 20, rfl⟩
abbrev main_v11 : Ref sig .tc := ⟨.smem, 0, rfl⟩
abbrev main_arg6 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![24, 22], ![false, false]⟩

abbrev pre0 : Pipeline.Prefetch sig := ⟨2, ![main_v11.idx, main_arg6.idx], fun | 0 => main_v11.names | 1 => main_arg6.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond1 (i : grid0.Coords) : BitVec 1 :=
  let arg1 : BitVec 32 := BitVec.ofNat 32 (i 1).val
  let c0_i32 : BitVec 32 := 0#32
  let v2 : BitVec 1 := Scalar.cmpi .eq arg1 c0_i32
  let v3 : BitVec 32 := Scalar.extui v2
  let c0_i32_0 : BitVec 32 := 0#32
  let v4 : BitVec 1 := Scalar.cmpi .ne v3 c0_i32_0
  v4

def k0_cond2 (i : grid0.Coords) (v0 : BitVec 32) : BitVec 1 :=
  let arg0 : BitVec 32 := BitVec.ofNat 32 (i 0).val
  let v1 : BitVec 1 := Scalar.cmpi .slt arg0 v0
  let v5 : BitVec 32 := Scalar.extui v1
  let c0_i32_1 : BitVec 32 := 0#32
  let v6 : BitVec 1 := Scalar.cmpi .ne v5 c0_i32_1
  v6

def k0_cond3 (i : grid0.Coords) : BitVec 1 :=
  let arg1 : BitVec 32 := BitVec.ofNat 32 (i 1).val
  let c21_i32 : BitVec 32 := 21#32
  let v7 : BitVec 1 := Scalar.cmpi .eq arg1 c21_i32
  let v8 : BitVec 32 := Scalar.extui v7
  let c0_i32_2 : BitVec 32 := 0#32
  let v9 : BitVec 1 := Scalar.cmpi .ne v8 c0_i32_2
  v9

def cc0_transform_0 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let c0 : Index := 0#32
  let v0 : BitVec 32 := pf.at 1 (Rect.unit (s := S1) ![0] S1.size inb_S1_S1_0) numel1_S1
  let c1_i32 : BitVec 32 := 1#32
  let v1 : BitVec 32 := Scalar.subi v0 c1_i32
  let v2 : BitVec 32 := Scalar.minsi arg0 v1
  let c0_i32 : BitVec 32 := 0#32
  let c0_i32_0 : BitVec 32 := 0#32
  ![v2.toNat, c0_i32.toNat]

def cc0_transform_1 (k0_off1_inb : ∀ i : grid0.Coords, ∀ a, (k0_off1 i) a + S1.size a ≤ S24.size a) (numel1_S1 : S1.numel = 1) (inb_S1_S1_0 : ∀ a, (![0] : Fin 1 → Nat) a + S1.size a ≤ S1.size a) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S24) ![v0.toNat] S1.size (k0_off1_inb i)) numel1_S1
  let c0 : Index := 0#32
  let v2 : BitVec 32 := pf.at 1 (Rect.unit (s := S1) ![0] S1.size inb_S1_S1_0) numel1_S1
  let v3 : BitVec 1 := Scalar.cmpi .slt arg0 v2
  let c21_i32 : BitVec 32 := 21#32
  let v4 : BitVec 32 := Scalar.select v3 arg1 c21_i32
  let c0_i32 : BitVec 32 := 0#32
  let c0_i32_0 : BitVec 32 := 0#32
  ![v1.toNat, c0_i32.toNat, v4.toNat]

def cc0_transform_2 (k0_off1_inb : ∀ i : grid0.Coords, ∀ a, (k0_off1 i) a + S1.size a ≤ S24.size a) (numel1_S1 : S1.numel = 1) (inb_S1_S1_0 : ∀ a, (![0] : Fin 1 → Nat) a + S1.size a ≤ S1.size a) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S24) ![v0.toNat] S1.size (k0_off1_inb i)) numel1_S1
  let c0 : Index := 0#32
  let v2 : BitVec 32 := pf.at 1 (Rect.unit (s := S1) ![0] S1.size inb_S1_S1_0) numel1_S1
  let v3 : BitVec 1 := Scalar.cmpi .slt arg0 v2
  let c21_i32 : BitVec 32 := 21#32
  let v4 : BitVec 32 := Scalar.select v3 arg1 c21_i32
  let c0_i32 : BitVec 32 := 0#32
  let c0_i32_0 : BitVec 32 := 0#32
  ![v1.toNat, c0_i32.toNat, v4.toNat]

def cc0_transform_3 (k0_off1_inb : ∀ i : grid0.Coords, ∀ a, (k0_off1 i) a + S1.size a ≤ S24.size a) (numel1_S1 : S1.numel = 1) (inb_S1_S1_0 : ∀ a, (![0] : Fin 1 → Nat) a + S1.size a ≤ S1.size a) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S24) ![v0.toNat] S1.size (k0_off1_inb i)) numel1_S1
  let c0 : Index := 0#32
  let v2 : BitVec 32 := pf.at 1 (Rect.unit (s := S1) ![0] S1.size inb_S1_S1_0) numel1_S1
  let v3 : BitVec 1 := Scalar.cmpi .slt arg0 v2
  let c21_i32 : BitVec 32 := 21#32
  let v4 : BitVec 32 := Scalar.select v3 arg1 c21_i32
  let c0_i32 : BitVec 32 := 0#32
  let c0_i32_0 : BitVec 32 := 0#32
  ![v1.toNat, v4.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x2048x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2048x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1024x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== ReferenceIdeal.lean ====
abbrev S24576x2048 : Shape := ⟨2, ![24576, 2048]⟩
abbrev S8x2048x5632 : Shape := ⟨3, ![8, 2048, 5632]⟩
abbrev S8x5632x2048 : Shape := ⟨3, ![8, 5632, 2048]⟩
abbrev S24576x1 : Shape := ⟨2, ![24576, 1]⟩
abbrev S24 : Shape := ⟨1, ![24]⟩
abbrev S1 : Shape := ⟨1, ![1]⟩
abbrev S8x5632x24576 : Shape := ⟨3, ![8, 5632, 24576]⟩
abbrev S8x24576x5632 : Shape := ⟨3, ![8, 24576, 5632]⟩
abbrev S_ : Shape := ⟨0, ![]⟩
abbrev S8x24576x2048 : Shape := ⟨3, ![8, 24576, 2048]⟩
abbrev S24x1024 : Shape := ⟨2, ![24, 1024]⟩
abbrev S24576 : Shape := ⟨1, ![24576]⟩
abbrev S8 : Shape := ⟨1, ![8]⟩
abbrev S1x8 : Shape := ⟨2, ![1, 8]⟩
abbrev S24576x8 : Shape := ⟨2, ![24576, 8]⟩

abbrev nBuf : Space → Nat
  | .hbm => 45
  | .vmem => 0
  | .smem => 0
  | _ => 0

abbrev bufTy : (tb : Table) → Fin (tcTables nBuf tb) → BufTy
  | .hbm, ⟨0, _⟩ => ⟨S24576x2048, .bf16⟩
  | .hbm, ⟨1, _⟩ => ⟨S8x2048x5632, .f32⟩
  | .hbm, ⟨2, _⟩ => ⟨S8x2048x5632, .f32⟩
  | .hbm, ⟨3, _⟩ => ⟨S8x5632x2048, .f32⟩
  | .hbm, ⟨4, _⟩ => ⟨S24576x1, .f32⟩
  | .hbm, ⟨5, _⟩ => ⟨S24, .i32⟩
  | .hbm, ⟨6, _⟩ => ⟨S1, .i32⟩
  | .hbm, ⟨7, _⟩ => ⟨S24576x2048, .f32⟩
  | .hbm, ⟨8, _⟩ => ⟨S8x5632x24576, .f32⟩
  | .hbm, ⟨9, _⟩ => ⟨S8x24576x5632, .f32⟩
  | .hbm, ⟨10, _⟩ => ⟨S8x24576x5632, .f32⟩
  | .hbm, ⟨11, _⟩ => ⟨S8x24576x5632, .f32⟩
  | .hbm, ⟨12, _⟩ => ⟨S_, .f32⟩
  | .hbm, ⟨13, _⟩ => ⟨S8x24576x5632, .f32⟩
  | .hbm, ⟨14, _⟩ => ⟨S8x24576x5632, .f32⟩
  | .hbm, ⟨15, _⟩ => ⟨S_, .f32⟩
  | .hbm, ⟨16, _⟩ => ⟨S8x24576x5632, .f32⟩
  | .hbm, ⟨17, _⟩ => ⟨S8x24576x5632, .f32⟩
  | .hbm, ⟨18, _⟩ => ⟨S8x24576x5632, .f32⟩
  | .hbm, ⟨19, _⟩ => ⟨S8x5632x24576, .f32⟩
  | .hbm, ⟨20, _⟩ => ⟨S8x24576x5632, .f32⟩
  | .hbm, ⟨21, _⟩ => ⟨S8x24576x5632, .f32⟩
  | .hbm, ⟨22, _⟩ => ⟨S8x24576x2048, .f32⟩
  | .hbm, ⟨23, _⟩ => ⟨S24x1024, .i32⟩
  | .hbm, ⟨24, _⟩ => ⟨S24576, .i32⟩
  | .hbm, ⟨25, _⟩ => ⟨S24576x1, .i32⟩
  | .hbm, ⟨26, _⟩ => ⟨S24, .i32⟩
  | .hbm, ⟨27, _⟩ => ⟨S24, .i32⟩
  | .hbm, ⟨28, _⟩ => ⟨S24, .i1⟩
  | .hbm, ⟨29, _⟩ => ⟨S24x1024, .i1⟩
  | .hbm, ⟨30, _⟩ => ⟨S24576, .i1⟩
  | .hbm, ⟨31, _⟩ => ⟨S24576x1, .i1⟩
  | .hbm, ⟨32, _⟩ => ⟨S8, .i32⟩
  | .hbm, ⟨33, _⟩ => ⟨S1x8, .i32⟩
  | .hbm, ⟨34, _⟩ => ⟨S24576x8, .i32⟩
  | .hbm, ⟨35, _⟩ => ⟨S24576x8, .i32⟩
  | .hbm, ⟨36, _⟩ => ⟨S24576x8, .i1⟩
  | .hbm, ⟨37, _⟩ => ⟨S24576x8, .i1⟩
  | .hbm, ⟨38, _⟩ => ⟨S24576x8, .i1⟩
  | .hbm, ⟨39, _⟩ => ⟨S_, .f32⟩
  | .hbm, ⟨40, _⟩ => ⟨S_, .f32⟩
  | .hbm, ⟨41, _⟩ => ⟨S24576x8, .f32⟩
  | .hbm, ⟨42, _⟩ => ⟨S24576x8, .f32⟩
  | .hbm, ⟨43, _⟩ => ⟨S24576x8, .f32⟩
  | .hbm, ⟨44, _⟩ => ⟨S24576x2048, .f32⟩
  | _, _ => ⟨S24576x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_call0_v0 : Ref sig .tc := ⟨.hbm, 10, rfl⟩
abbrev main_call0_v1 : Ref sig .tc := ⟨.hbm, 11, rfl⟩
abbrev main_call0_cst : Ref sig .tc := ⟨.hbm, 12, rfl⟩
abbrev main_call0_v2 : Ref sig .tc := ⟨.hbm, 13, rfl⟩
abbrev main_call0_v3 : Ref sig .tc := ⟨.hbm, 14, rfl⟩
abbrev main_call0_cst_0 : Ref sig .tc := ⟨.hbm, 15, rfl⟩
abbrev main_call0_v4 : Ref sig .tc := ⟨.hbm, 16, rfl⟩
abbrev main_call0_v5 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_cst : Ref sig .tc := ⟨.hbm, 39, rfl⟩
abbrev main_call1_v0 : Ref sig .tc := ⟨.hbm, 40, rfl⟩
abbrev main_call1_v1 : Ref sig .tc := ⟨.hbm, 41, rfl⟩
abbrev main_call1_v2 : Ref sig .tc := ⟨.hbm, 42, rfl⟩
abbrev main_v24 : Ref sig .tc := ⟨.hbm, 43, rfl⟩
abbrev main_v25 : Ref sig .tc := ⟨.hbm, 44, rfl⟩

abbrev nD : Nat := 1
abbrev τ : Topo := Topo.v7x

variable {F : FTy → Type} [FloatOps F]
-- ==== Kernel2.lean ====
abbrev S8704x2048 : Shape := ⟨2, ![8704, 2048]⟩
abbrev S2048x2048 : Shape := ⟨2, ![2048, 2048]⟩
abbrev S512x2048 : Shape := ⟨2, ![512, 2048]⟩
abbrev S2048x1024 : Shape := ⟨2, ![2048, 1024]⟩
abbrev S512x1024 : Shape := ⟨2, ![512, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8704x2048, .f32⟩
  | .hbm, ⟨1, _⟩ => ⟨S2048x2048, .f32⟩
  | .hbm, ⟨2, _⟩ => ⟨S8704x2048, .f32⟩
  | .local _ .vmem, ⟨0, _⟩ => ⟨S512x2048, .f32⟩
  | .local _ .vmem, ⟨1, _⟩ => ⟨S512x2048, .f32⟩
  | .local _ .vmem, ⟨2, _⟩ => ⟨S2048x1024, .f32⟩
  | .local _ .vmem, ⟨3, _⟩ => ⟨S2048x1024, .f32⟩
  | .local _ .vmem, ⟨4, _⟩ => ⟨S512x1024, .f32⟩
  | .local _ .vmem, ⟨5, _⟩ => ⟨S512x1024, .f32⟩
  | .local _ .vmem, ⟨6, _⟩ => ⟨S2048x1024, .bf16⟩
  | _, _ => ⟨S8704x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 17], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference2Ideal.lean ====
abbrev S8704x2048 : Shape := ⟨2, ![8704, 2048]⟩
abbrev S2048x2048 : Shape := ⟨2, ![2048, 2048]⟩

abbrev nBuf : Space → Nat
  | .hbm => 3
  | .vmem => 0
  | .smem => 0
  | _ => 0

abbrev bufTy : (tb : Table) → Fin (tcTables nBuf tb) → BufTy
  | .hbm, ⟨0, _⟩ => ⟨S8704x2048, .f32⟩
  | .hbm, ⟨1, _⟩ => ⟨S2048x2048, .f32⟩
  | .hbm, ⟨2, _⟩ => ⟨S8704x2048, .f32⟩
  | _, _ => ⟨S8704x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Kernel3.lean ====
abbrev S8704x2048 : Shape := ⟨2, ![8704, 2048]⟩
abbrev S2048x2048 : Shape := ⟨2, ![2048, 2048]⟩
abbrev S512x2048 : Shape := ⟨2, ![512, 2048]⟩
abbrev S2048x1024 : Shape := ⟨2, ![2048, 1024]⟩
abbrev S512x1024 : Shape := ⟨2, ![512, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8704x2048, .f32⟩
  | .hbm, ⟨1, _⟩ => ⟨S2048x2048, .f32⟩
  | .hbm, ⟨2, _⟩ => ⟨S8704x2048, .f32⟩
  | .local _ .vmem, ⟨0, _⟩ => ⟨S512x2048, .f32⟩
  | .local _ .vmem, ⟨1, _⟩ => ⟨S512x2048, .f32⟩
  | .local _ .vmem, ⟨2, _⟩ => ⟨S2048x1024, .f32⟩
  | .local _ .vmem, ⟨3, _⟩ => ⟨S2048x1024, .f32⟩
  | .local _ .vmem, ⟨4, _⟩ => ⟨S512x1024, .f32⟩
  | .local _ .vmem, ⟨5, _⟩ => ⟨S512x1024, .f32⟩
  | .local _ .vmem, ⟨6, _⟩ => ⟨S2048x1024, .bf16⟩
  | _, _ => ⟨S8704x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 17], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference3Ideal.lean ====
abbrev S8704x2048 : Shape := ⟨2, ![8704, 2048]⟩
abbrev S2048x2048 : Shape := ⟨2, ![2048, 2048]⟩

abbrev nBuf : Space → Nat
  | .hbm => 3
  | .vmem => 0
  | .smem => 0
  | _ => 0

abbrev bufTy : (tb : Table) → Fin (tcTables nBuf tb) → BufTy
  | .hbm, ⟨0, _⟩ => ⟨S8704x2048, .f32⟩
  | .hbm, ⟨1, _⟩ => ⟨S2048x2048, .f32⟩
  | .hbm, ⟨2, _⟩ => ⟨S8704x2048, .f32⟩
  | _, _ => ⟨S8704x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Kernel4.lean ====
abbrev S8704x2048 : Shape := ⟨2, ![8704, 2048]⟩
abbrev S2048x2048 : Shape := ⟨2, ![2048, 2048]⟩
abbrev S512x2048 : Shape := ⟨2, ![512, 2048]⟩
abbrev S2048x1024 : Shape := ⟨2, ![2048, 1024]⟩
abbrev S512x1024 : Shape := ⟨2, ![512, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8704x2048, .f32⟩
  | .hbm, ⟨1, _⟩ => ⟨S2048x2048, .f32⟩
  | .hbm, ⟨2, _⟩ => ⟨S8704x2048, .bf16⟩
  | .local _ .vmem, ⟨0, _⟩ => ⟨S512x2048, .f32⟩
  | .local _ .vmem, ⟨1, _⟩ => ⟨S512x2048, .f32⟩
  | .local _ .vmem, ⟨2, _⟩ => ⟨S2048x1024, .f32⟩
  | .local _ .vmem, ⟨3, _⟩ => ⟨S2048x1024, .f32⟩
  | .local _ .vmem, ⟨4, _⟩ => ⟨S512x1024, .bf16⟩
  | .local _ .vmem, ⟨5, _⟩ => ⟨S512x1024, .bf16⟩
  | .local _ .vmem, ⟨6, _⟩ => ⟨S2048x1024, .bf16⟩
  | _, _ => ⟨S8704x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 17], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference4Ideal.lean ====
abbrev S8704x2048 : Shape := ⟨2, ![8704, 2048]⟩
abbrev S2048x2048 : Shape := ⟨2, ![2048, 2048]⟩

abbrev nBuf : Space → Nat
  | .hbm => 4
  | .vmem => 0
  | .smem => 0
  | _ => 0

abbrev bufTy : (tb : Table) → Fin (tcTables nBuf tb) → BufTy
  | .hbm, ⟨0, _⟩ => ⟨S8704x2048, .f32⟩
  | .hbm, ⟨1, _⟩ => ⟨S2048x2048, .f32⟩
  | .hbm, ⟨2, _⟩ => ⟨S8704x2048, .f32⟩
  | .hbm, ⟨3, _⟩ => ⟨S8704x2048, .bf16⟩
  | _, _ => ⟨S8704x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Kernel5.lean ====
abbrev S8704x2048 : Shape := ⟨2, ![8704, 2048]⟩
abbrev S2048x2048 : Shape := ⟨2, ![2048, 2048]⟩
abbrev S512x2048 : Shape := ⟨2, ![512, 2048]⟩
abbrev S2048x1024 : Shape := ⟨2, ![2048, 1024]⟩
abbrev S512x1024 : Shape := ⟨2, ![512, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8704x2048, .bf16⟩
  | .hbm, ⟨1, _⟩ => ⟨S2048x2048, .f32⟩
  | .hbm, ⟨2, _⟩ => ⟨S8704x2048, .f32⟩
  | .local _ .vmem, ⟨0, _⟩ => ⟨S512x2048, .bf16⟩
  | .local _ .vmem, ⟨1, _⟩ => ⟨S512x2048, .bf16⟩
  | .local _ .vmem, ⟨2, _⟩ => ⟨S2048x1024, .f32⟩
  | .local _ .vmem, ⟨3, _⟩ => ⟨S2048x1024, .f32⟩
  | .local _ .vmem, ⟨4, _⟩ => ⟨S512x1024, .f32⟩
  | .local _ .vmem, ⟨5, _⟩ => ⟨S512x1024, .f32⟩
  | .local _ .vmem, ⟨6, _⟩ => ⟨S2048x1024, .bf16⟩
  | _, _ => ⟨S8704x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 17], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference5Ideal.lean ====
abbrev S8704x2048 : Shape := ⟨2, ![8704, 2048]⟩
abbrev S2048x2048 : Shape := ⟨2, ![2048, 2048]⟩

abbrev nBuf : Space → Nat
  | .hbm => 4
  | .vmem => 0
  | .smem => 0
  | _ => 0

abbrev bufTy : (tb : Table) → Fin (tcTables nBuf tb) → BufTy
  | .hbm, ⟨0, _⟩ => ⟨S8704x2048, .bf16⟩
  | .hbm, ⟨1, _⟩ => ⟨S2048x2048, .f32⟩
  | .hbm, ⟨2, _⟩ => ⟨S8704x2048, .f32⟩
  | .hbm, ⟨3, _⟩ => ⟨S8704x2048, .f32⟩
  | _, _ => ⟨S8704x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Kernel6.lean ====
abbrev S8704x2048 : Shape := ⟨2, ![8704, 2048]⟩
abbrev S2048x2048 : Shape := ⟨2, ![2048, 2048]⟩
abbrev S512x2048 : Shape := ⟨2, ![512, 2048]⟩
abbrev S2048x1024 : Shape := ⟨2, ![2048, 1024]⟩
abbrev S512x1024 : Shape := ⟨2, ![512, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8704x2048, .bf16⟩
  | .hbm, ⟨1, _⟩ => ⟨S2048x2048, .f32⟩
  | .hbm, ⟨2, _⟩ => ⟨S8704x2048, .f32⟩
  | .local _ .vmem, ⟨0, _⟩ => ⟨S512x2048, .bf16⟩
  | .local _ .vmem, ⟨1, _⟩ => ⟨S512x2048, .bf16⟩
  | .local _ .vmem, ⟨2, _⟩ => ⟨S2048x1024, .f32⟩
  | .local _ .vmem, ⟨3, _⟩ => ⟨S2048x1024, .f32⟩
  | .local _ .vmem, ⟨4, _⟩ => ⟨S512x1024, .f32⟩
  | .local _ .vmem, ⟨5, _⟩ => ⟨S512x1024, .f32⟩
  | .local _ .vmem, ⟨6, _⟩ => ⟨S2048x1024, .bf16⟩
  | _, _ => ⟨S8704x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 17], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference6Ideal.lean ====
abbrev S8704x2048 : Shape := ⟨2, ![8704, 2048]⟩
abbrev S2048x2048 : Shape := ⟨2, ![2048, 2048]⟩

abbrev nBuf : Space → Nat
  | .hbm => 4
  | .vmem => 0
  | .smem => 0
  | _ => 0

abbrev bufTy : (tb : Table) → Fin (tcTables nBuf tb) → BufTy
  | .hbm, ⟨0, _⟩ => ⟨S8704x2048, .bf16⟩
  | .hbm, ⟨1, _⟩ => ⟨S2048x2048, .f32⟩
  | .hbm, ⟨2, _⟩ => ⟨S8704x2048, .f32⟩
  | .hbm, ⟨3, _⟩ => ⟨S8704x2048, .f32⟩
  | _, _ => ⟨S8704x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Kernel7.lean ====
abbrev S8704x2048 : Shape := ⟨2, ![8704, 2048]⟩
abbrev S2048x2048 : Shape := ⟨2, ![2048, 2048]⟩
abbrev S512x2048 : Shape := ⟨2, ![512, 2048]⟩
abbrev S2048x1024 : Shape := ⟨2, ![2048, 1024]⟩
abbrev S512x1024 : Shape := ⟨2, ![512, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8704x2048, .bf16⟩
  | .hbm, ⟨1, _⟩ => ⟨S2048x2048, .f32⟩
  | .hbm, ⟨2, _⟩ => ⟨S8704x2048, .f32⟩
  | .local _ .vmem, ⟨0, _⟩ => ⟨S512x2048, .bf16⟩
  | .local _ .vmem, ⟨1, _⟩ => ⟨S512x2048, .bf16⟩
  | .local _ .vmem, ⟨2, _⟩ => ⟨S2048x1024, .f32⟩
  | .local _ .vmem, ⟨3, _⟩ => ⟨S2048x1024, .f32⟩
  | .local _ .vmem, ⟨4, _⟩ => ⟨S512x1024, .f32⟩
  | .local _ .vmem, ⟨5, _⟩ => ⟨S512x1024, .f32⟩
  | .local _ .vmem, ⟨6, _⟩ => ⟨S2048x1024, .bf16⟩
  | _, _ => ⟨S8704x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 17], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference7Ideal.lean ====
abbrev S8704x2048 : Shape := ⟨2, ![8704, 2048]⟩
abbrev S2048x2048 : Shape := ⟨2, ![2048, 2048]⟩

abbrev nBuf : Space → Nat
  | .hbm => 4
  | .vmem => 0
  | .smem => 0
  | _ => 0

abbrev bufTy : (tb : Table) → Fin (tcTables nBuf tb) → BufTy
  | .hbm, ⟨0, _⟩ => ⟨S8704x2048, .bf16⟩
  | .hbm, ⟨1, _⟩ => ⟨S2048x2048, .f32⟩
  | .hbm, ⟨2, _⟩ => ⟨S8704x2048, .f32⟩
  | .hbm, ⟨3, _⟩ => ⟨S8704x2048, .f32⟩
  | _, _ => ⟨S8704x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Kernel8.lean ====
abbrev S8704x2048 : Shape := ⟨2, ![8704, 2048]⟩
abbrev S2048x2048 : Shape := ⟨2, ![2048, 2048]⟩
abbrev S512x2048 : Shape := ⟨2, ![512, 2048]⟩
abbrev S2048x1024 : Shape := ⟨2, ![2048, 1024]⟩
abbrev S512x1024 : Shape := ⟨2, ![512, 1024]⟩

abbrev nBuf : Space → Nat
  | .hbm => 5
  | .vmem => 11
  | .smem => 0
  | _ => 0

abbrev bufTy : (tb : Table) → Fin (tcTables nBuf tb) → BufTy
  | .hbm, ⟨0, _⟩ => ⟨S8704x2048, .bf16⟩
  | .hbm, ⟨1, _⟩ => ⟨S2048x2048, .f32⟩
  | .hbm, ⟨2, _⟩ => ⟨S8704x2048, .f32⟩
  | .hbm, ⟨3, _⟩ => ⟨S8704x2048, .f32⟩
  | .hbm, ⟨4, _⟩ => ⟨S8704x2048, .f32⟩
  | .local _ .vmem, ⟨0, _⟩ => ⟨S512x2048, .bf16⟩
  | .local _ .vmem, ⟨1, _⟩ => ⟨S512x2048, .bf16⟩
  | .local _ .vmem, ⟨2, _⟩ => ⟨S2048x1024, .f32⟩
  | .local _ .vmem, ⟨3, _⟩ => ⟨S2048x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S2048x1024, .bf16⟩
  | _, _ => ⟨S8704x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![2, 17], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference8Ideal.lean ====
abbrev S8704x2048 : Shape := ⟨2, ![8704, 2048]⟩
abbrev S2048x2048 : Shape := ⟨2, ![2048, 2048]⟩

abbrev nBuf : Space → Nat
  | .hbm => 9
  | .vmem => 0
  | .smem => 0
  | _ => 0

abbrev bufTy : (tb : Table) → Fin (tcTables nBuf tb) → BufTy
  | .hbm, ⟨0, _⟩ => ⟨S8704x2048, .bf16⟩
  | .hbm, ⟨1, _⟩ => ⟨S2048x2048, .f32⟩
  | .hbm, ⟨2, _⟩ => ⟨S8704x2048, .f32⟩
  | .hbm, ⟨3, _⟩ => ⟨S8704x2048, .f32⟩
  | .hbm, ⟨4, _⟩ => ⟨S8704x2048, .f32⟩
  | .hbm, ⟨5, _⟩ => ⟨S8704x2048, .f32⟩
  | .hbm, ⟨6, _⟩ => ⟨S8704x2048, .f32⟩
  | .hbm, ⟨7, _⟩ => ⟨S8704x2048, .f32⟩
  | .hbm, ⟨8, _⟩ => ⟨S8704x2048, .f32⟩
  | _, _ => ⟨S8704x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩

abbrev nD : Nat := 1
abbrev τ : Topo := Topo.v7x

variable {F : FTy → Type} [FloatOps F]
-- ==== Kernel9.lean ====
abbrev S8704x2048 : Shape := ⟨2, ![8704, 2048]⟩
abbrev S2048x2048 : Shape := ⟨2, ![2048, 2048]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩

abbrev nBuf : Space → Nat
  | .hbm => 7
  | .vmem => 9
  | .smem => 0
  | _ => 0

abbrev bufTy : (tb : Table) → Fin (tcTables nBuf tb) → BufTy
  | .hbm, ⟨0, _⟩ => ⟨S8704x2048, .bf16⟩
  | .hbm, ⟨1, _⟩ => ⟨S2048x2048, .f32⟩
  | .hbm, ⟨2, _⟩ => ⟨S8704x2048, .f32⟩
  | .hbm, ⟨3, _⟩ => ⟨S1x2048, .f32⟩
  | .hbm, ⟨4, _⟩ => ⟨S1x2048, .f32⟩
  | .hbm, ⟨5, _⟩ => ⟨S2048x2048, .bf16⟩
  | .hbm, ⟨6, _⟩ => ⟨S8704x2048, .f32⟩
  | .local _ .vmem, ⟨0, _⟩ => ⟨S256x2048, .bf16⟩
  | .local _ .vmem, ⟨1, _⟩ => ⟨S256x2048, .bf16⟩
  | .local _ .vmem, ⟨2, _⟩ => ⟨S2048x2048, .bf16⟩
  | .local _ .vmem, ⟨3, _⟩ => ⟨S256x2048, .f32⟩
  | .local _ .vmem, ⟨4, _⟩ => ⟨S256x2048, .f32⟩
  | .local _ .vmem, ⟨5, _⟩ => ⟨S1x2048, .f32⟩
  | .local _ .vmem, ⟨6, _⟩ => ⟨S1x2048, .f32⟩
  | .local _ .vmem, ⟨7, _⟩ => ⟨S256x2048, .f32⟩
  | .local _ .vmem, ⟨8, _⟩ => ⟨S256x2048, .f32⟩
  | _, _ => ⟨S8704x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨2, ![1, 34], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, false]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference9Ideal.lean ====
abbrev S8704x2048 : Shape := ⟨2, ![8704, 2048]⟩
abbrev S2048x2048 : Shape := ⟨2, ![2048, 2048]⟩
abbrev S1x2048 : Shape := ⟨2, ![1, 2048]⟩
abbrev S_ : Shape := ⟨0, ![]⟩
abbrev S8704 : Shape := ⟨1, ![8704]⟩
abbrev S8704x1 : Shape := ⟨2, ![8704, 1]⟩

abbrev nBuf : Space → Nat
  | .hbm => 38
  | .vmem => 0
  | .smem => 0
  | _ => 0

abbrev bufTy : (tb : Table) → Fin (tcTables nBuf tb) → BufTy
  | .hbm, ⟨0, _⟩ => ⟨S8704x2048, .bf16⟩
  | .hbm, ⟨1, _⟩ => ⟨S2048x2048, .f32⟩
  | .hbm, ⟨2, _⟩ => ⟨S8704x2048, .f32⟩
  | .hbm, ⟨3, _⟩ => ⟨S1x2048, .f32⟩
  | .hbm, ⟨4, _⟩ => ⟨S1x2048, .f32⟩
  | .hbm, ⟨5, _⟩ => ⟨S_, .f32⟩
  | .hbm, ⟨6, _⟩ => ⟨S8704x2048, .f32⟩
  | .hbm, ⟨7, _⟩ => ⟨S8704x2048, .f32⟩
  | .hbm, ⟨8, _⟩ => ⟨S8704x2048, .f32⟩
  | .hbm, ⟨9, _⟩ => ⟨S8704x2048, .f32⟩
  | .hbm, ⟨10, _⟩ => ⟨S8704x2048, .f32⟩
  | .hbm, ⟨11, _⟩ => ⟨S_, .f32⟩
  | .hbm, ⟨12, _⟩ => ⟨S8704, .f32⟩
  | .hbm, ⟨13, _⟩ => ⟨S8704x1, .f32⟩
  | .hbm, ⟨14, _⟩ => ⟨S_, .f32⟩
  | .hbm, ⟨15, _⟩ => ⟨S8704x1, .f32⟩
  | .hbm, ⟨16, _⟩ => ⟨S8704x1, .f32⟩
  | .hbm, ⟨17, _⟩ => ⟨S8704x2048, .f32⟩
  | .hbm, ⟨18, _⟩ => ⟨S8704x2048, .f32⟩
  | .hbm, ⟨19, _⟩ => ⟨S8704x2048, .f32⟩
  | .hbm, ⟨20, _⟩ => ⟨S_, .f32⟩
  | .hbm, ⟨21, _⟩ => ⟨S8704, .f32⟩
  | .hbm, ⟨22, _⟩ => ⟨S8704x1, .f32⟩
  | .hbm, ⟨23, _⟩ => ⟨S_, .f32⟩
  | .hbm, ⟨24, _⟩ => ⟨S8704x1, .f32⟩
  | .hbm, ⟨25, _⟩ => ⟨S8704x1, .f32⟩
  | .hbm, ⟨26, _⟩ => ⟨S8704x2048, .f32⟩
  | .hbm, ⟨27, _⟩ => ⟨S8704x2048, .f32⟩
  | .hbm, ⟨28, _⟩ => ⟨S_, .f32⟩
  | .hbm, ⟨29, _⟩ => ⟨S8704x1, .f32⟩
  | .hbm, ⟨30, _⟩ => ⟨S8704x1, .f32⟩
  | .hbm, ⟨31, _⟩ => ⟨S8704x1, .f32⟩
  | .hbm, ⟨32, _⟩ => ⟨S8704x2048, .f32⟩
  | .hbm, ⟨33, _⟩ => ⟨S8704x2048, .f32⟩
  | .hbm, ⟨34, _⟩ => ⟨S8704x2048, .f32⟩
  | .hbm, ⟨35, _⟩ => ⟨S8704x2048, .f32⟩
  | .hbm, ⟨36, _⟩ => ⟨S8704x2048, .f32⟩
  | .hbm, ⟨37, _⟩ => ⟨S8704x2048, .f32⟩
  | _, _ => ⟨S8704x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_cst_3 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_4 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩

abbrev nD : Nat := 1
abbrev τ : Topo := Topo.v7x

variable {F : FTy → Type} [FloatOps F]
-- ==== Kernel10.lean ====
abbrev S8704x2048 : Shape := ⟨2, ![8704, 2048]⟩
abbrev S2048x2048 : Shape := ⟨2, ![2048, 2048]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩

abbrev nBuf : Space → Nat
  | .hbm => 7
  | .vmem => 9
  | .smem => 0
  | _ => 0

abbrev bufTy : (tb : Table) → Fin (tcTables nBuf tb) → BufTy
  | .hbm, ⟨0, _⟩ => ⟨S8704x2048, .bf16⟩
  | .hbm, ⟨1, _⟩ => ⟨S2048x2048, .f32⟩
  | .hbm, ⟨2, _⟩ => ⟨S8704x2048, .f32⟩
  | .hbm, ⟨3, _⟩ => ⟨S1x2048, .f32⟩
  | .hbm, ⟨4, _⟩ => ⟨S1x2048, .f32⟩
  | .hbm, ⟨5, _⟩ => ⟨S2048x2048, .bf16⟩
  | .hbm, ⟨6, _⟩ => ⟨S8704x2048, .f32⟩
  | .local _ .vmem, ⟨0, _⟩ => ⟨S256x2048, .bf16⟩
  | .local _ .vmem, ⟨1, _⟩ => ⟨S256x2048, .bf16⟩
  | .local _ .vmem, ⟨2, _⟩ => ⟨S2048x2048, .bf16⟩
  | .local _ .vmem, ⟨3, _⟩ => ⟨S256x2048, .f32⟩
  | .local _ .vmem, ⟨4, _⟩ => ⟨S256x2048, .f32⟩
  | .local _ .vmem, ⟨5, _⟩ => ⟨S1x2048, .f32⟩
  | .local _ .vmem, ⟨6, _⟩ => ⟨S1x2048, .f32⟩
  | .local _ .vmem, ⟨7, _⟩ => ⟨S256x2048, .f32⟩
  | .local _ .vmem, ⟨8, _⟩ => ⟨S256x2048, .f32⟩
  | _, _ => ⟨S8704x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨2, ![1, 34], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, false]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference10Ideal.lean ====
abbrev S8704x2048 : Shape := ⟨2, ![8704, 2048]⟩
abbrev S2048x2048 : Shape := ⟨2, ![2048, 2048]⟩
abbrev S1x2048 : Shape := ⟨2, ![1, 2048]⟩
abbrev S_ : Shape := ⟨0, ![]⟩
abbrev S8704 : Shape := ⟨1, ![8704]⟩
abbrev S8704x1 : Shape := ⟨2, ![8704, 1]⟩

abbrev nBuf : Space → Nat
  | .hbm => 38
  | .vmem => 0
  | .smem => 0
  | _ => 0

abbrev bufTy : (tb : Table) → Fin (tcTables nBuf tb) → BufTy
  | .hbm, ⟨0, _⟩ => ⟨S8704x2048, .bf16⟩
  | .hbm, ⟨1, _⟩ => ⟨S2048x2048, .f32⟩
  | .hbm, ⟨2, _⟩ => ⟨S8704x2048, .f32⟩
  | .hbm, ⟨3, _⟩ => ⟨S1x2048, .f32⟩
  | .hbm, ⟨4, _⟩ => ⟨S1x2048, .f32⟩
  | .hbm, ⟨5, _⟩ => ⟨S_, .f32⟩
  | .hbm, ⟨6, _⟩ => ⟨S8704x2048, .f32⟩
  | .hbm, ⟨7, _⟩ => ⟨S8704x2048, .f32⟩
  | .hbm, ⟨8, _⟩ => ⟨S8704x2048, .f32⟩
  | .hbm, ⟨9, _⟩ => ⟨S8704x2048, .f32⟩
  | .hbm, ⟨10, _⟩ => ⟨S8704x2048, .f32⟩
  | .hbm, ⟨11, _⟩ => ⟨S_, .f32⟩
  | .hbm, ⟨12, _⟩ => ⟨S8704, .f32⟩
  | .hbm, ⟨13, _⟩ => ⟨S8704x1, .f32⟩
  | .hbm, ⟨14, _⟩ => ⟨S_, .f32⟩
  | .hbm, ⟨15, _⟩ => ⟨S8704x1, .f32⟩
  | .hbm, ⟨16, _⟩ => ⟨S8704x1, .f32⟩
  | .hbm, ⟨17, _⟩ => ⟨S8704x2048, .f32⟩
  | .hbm, ⟨18, _⟩ => ⟨S8704x2048, .f32⟩
  | .hbm, ⟨19, _⟩ => ⟨S8704x2048, .f32⟩
  | .hbm, ⟨20, _⟩ => ⟨S_, .f32⟩
  | .hbm, ⟨21, _⟩ => ⟨S8704, .f32⟩
  | .hbm, ⟨22, _⟩ => ⟨S8704x1, .f32⟩
  | .hbm, ⟨23, _⟩ => ⟨S_, .f32⟩
  | .hbm, ⟨24, _⟩ => ⟨S8704x1, .f32⟩
  | .hbm, ⟨25, _⟩ => ⟨S8704x1, .f32⟩
  | .hbm, ⟨26, _⟩ => ⟨S8704x2048, .f32⟩
  | .hbm, ⟨27, _⟩ => ⟨S8704x2048, .f32⟩
  | .hbm, ⟨28, _⟩ => ⟨S_, .f32⟩
  | .hbm, ⟨29, _⟩ => ⟨S8704x1, .f32⟩
  | .hbm, ⟨30, _⟩ => ⟨S8704x1, .f32⟩
  | .hbm, ⟨31, _⟩ => ⟨S8704x1, .f32⟩
  | .hbm, ⟨32, _⟩ => ⟨S8704x2048, .f32⟩
  | .hbm, ⟨33, _⟩ => ⟨S8704x2048, .f32⟩
  | .hbm, ⟨34, _⟩ => ⟨S8704x2048, .f32⟩
  | .hbm, ⟨35, _⟩ => ⟨S8704x2048, .f32⟩
  | .hbm, ⟨36, _⟩ => ⟨S8704x2048, .f32⟩
  | .hbm, ⟨37, _⟩ => ⟨S8704x2048, .f32⟩
  | _, _ => ⟨S8704x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_cst_3 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_4 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩

abbrev nD : Nat := 1
abbrev τ : Topo := Topo.v7x

variable {F : FTy → Type} [FloatOps F]
-- ==== Kernel11.lean ====
abbrev S8704x2048 : Shape := ⟨2, ![8704, 2048]⟩
abbrev S2048x5632 : Shape := ⟨2, ![2048, 5632]⟩
abbrev S5632x2048 : Shape := ⟨2, ![5632, 2048]⟩
abbrev S1x2048 : Shape := ⟨2, ![1, 2048]⟩
abbrev S1x2048x5632 : Shape := ⟨3, ![1, 2048, 5632]⟩
abbrev S1x5632x2048 : Shape := ⟨3, ![1, 5632, 2048]⟩
abbrev S_ : Shape := ⟨0, ![]⟩
abbrev S16 : Shape := ⟨1, ![16]⟩
abbrev S1 : Shape := ⟨1, ![1]⟩
abbrev S544x2048 : Shape := ⟨2, ![544, 2048]⟩
abbrev S1x2048x512 : Shape := ⟨3, ![1, 2048, 512]⟩
abbrev S1x512x2048 : Shape := ⟨3, ![1, 512, 2048]⟩
abbrev S2048x512 : Shape := ⟨2, ![2048, 512]⟩
abbrev S544x512 : Shape := ⟨2, ![544, 512]⟩
abbrev S512x2048 : Shape := ⟨2, ![512, 2048]⟩
abbrev S544 : Shape := ⟨1, ![544]⟩
abbrev S544x1 : Shape := ⟨2, ![544, 1]⟩

abbrev nBuf : Space → Nat
  | .hbm => 15
  | .vmem => 13
  | .smem => 2
  | _ => 0

abbrev bufTy : (tb : Table) → Fin (tcTables nBuf tb) → BufTy
  | .hbm, ⟨0, _⟩ => ⟨S8704x2048, .f32⟩
  | .hbm, ⟨1, _⟩ => ⟨S2048x5632, .f32⟩
  | .hbm, ⟨2, _⟩ => ⟨S2048x5632, .f32⟩
  | .hbm, ⟨3, _⟩ => ⟨S5632x2048, .f32⟩
  | .hbm, ⟨4, _⟩ => ⟨S1x2048, .f32⟩
  | .hbm, ⟨5, _⟩ => ⟨S1x2048, .f32⟩
  | .hbm, ⟨6, _⟩ => ⟨S1x2048x5632, .f32⟩
  | .hbm, ⟨7, _⟩ => ⟨S1x2048x5632, .bf16⟩
  | .hbm, ⟨8, _⟩ => ⟨S1x2048x5632, .f32⟩
  | .hbm, ⟨9, _⟩ => ⟨S1x2048x5632, .bf16⟩
  | .hbm, ⟨10, _⟩ => ⟨S1x5632x2048, .f32⟩
  | .hbm, ⟨11, _⟩ => ⟨S1x5632x2048, .bf16⟩
  | .hbm, ⟨12, _⟩ => ⟨S_, .i32⟩
  | .hbm, ⟨13, _⟩ => ⟨S_, .i32⟩
  | .hbm, ⟨14, _⟩ => ⟨S8704x2048, .f32⟩
  | .local _ .vmem, ⟨0, _⟩ => ⟨S544x2048, .f32⟩
  | .local _ .vmem, ⟨1, _⟩ => ⟨S544x2048, .f32⟩
  | .local _ .vmem, ⟨2, _⟩ => ⟨S1x2048x512, .bf16⟩
  | .local _ .vmem, ⟨3, _⟩ => ⟨S1x2048x512, .bf16⟩
  | .local _ .vmem, ⟨4, _⟩ => ⟨S1x2048x512, .bf16⟩
  | .local _ .vmem, ⟨5, _⟩ => ⟨S1x2048x512, .bf16⟩
  | .local _ .vmem, ⟨6, _⟩ => ⟨S1x512x2048, .bf16⟩
  | .local _ .vmem, ⟨7, _⟩ => ⟨S1x512x2048, .bf16⟩
  | .local _ .vmem, ⟨8, _⟩ => ⟨S1x2048, .f32⟩
  | .local _ .vmem, ⟨9, _⟩ => ⟨S1x2048, .f32⟩
  | .local _ .vmem, ⟨10, _⟩ => ⟨S544x2048, .f32⟩
  | .local _ .vmem, ⟨11, _⟩ => ⟨S544x2048, .f32⟩
  | .local _ .vmem, ⟨12, _⟩ => ⟨S544x2048, .bf16⟩
  | .local _ .smem, ⟨0, _⟩ => ⟨S16, .i32⟩
  | .local _ .smem, ⟨1, _⟩ => ⟨S1, .i32⟩
  | _, _ => ⟨S8704x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_c : Ref sig .tc := ⟨.hbm, 12, rfl⟩
abbrev main_c_0 : Ref sig .tc := ⟨.hbm, 13, rfl⟩
abbrev main_v8 : Ref sig .tc := ⟨.hbm, 14, rfl⟩
abbrev main_v6 : Ref sig .tc := ⟨.smem, 0, rfl⟩
abbrev main_v7 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![16, 11], ![false, false]⟩

abbrev pre0 : Pipeline.Prefetch sig := ⟨2, ![main_v6.idx, main_v7.idx], fun | 0 => main_v6.names | 1 => main_v7.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond1 (i : grid0.Coords) : BitVec 1 :=
  let arg1 : BitVec 32 := BitVec.ofNat 32 (i 1).val
  let c0_i32 : BitVec 32 := 0#32
  let v2 : BitVec 1 := Scalar.cmpi .eq arg1 c0_i32
  let v3 : BitVec 32 := Scalar.extui v2
  let c0_i32_0 : BitVec 32 := 0#32
  let v4 : BitVec 1 := Scalar.cmpi .ne v3 c0_i32_0
  v4

def k0_cond2 (i : grid0.Coords) (v0 : BitVec 32) : BitVec 1 :=
  let arg0 : BitVec 32 := BitVec.ofNat 32 (i 0).val
  let v1 : BitVec 1 := Scalar.cmpi .slt arg0 v0
  let v5 : BitVec 32 := Scalar.extui v1
  let c0_i32_1 : BitVec 32 := 0#32
  let v6 : BitVec 1 := Scalar.cmpi .ne v5 c0_i32_1
  v6

def k0_cond3 (i : grid0.Coords) : BitVec 1 :=
  let arg1 : BitVec 32 := BitVec.ofNat 32 (i 1).val
  let c10_i32 : BitVec 32 := 10#32
  let v7 : BitVec 1 := Scalar.cmpi .eq arg1 c10_i32
  let v8 : BitVec 32 := Scalar.extui v7
  let c0_i32_2 : BitVec 32 := 0#32
  let v9 : BitVec 1 := Scalar.cmpi .ne v8 c0_i32_2
  v9

def cc0_transform_0 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let c0 : Index := 0#32
  let v0 : BitVec 32 := pf.at 1 (Rect.unit (s := S1) ![0] S1.size inb_S1_S1_0) numel1_S1
  let c1_i32 : BitVec 32 := 1#32
  let v1 : BitVec 32 := Scalar.subi v0 c1_i32
  let v2 : BitVec 32 := Scalar.minsi arg0 v1
  let c0_i32 : BitVec 32 := 0#32
  let c0_i32_0 : BitVec 32 := 0#32
  ![v2.toNat, c0_i32.toNat]

def cc0_transform_1 (k0_off1_inb : ∀ i : grid0.Coords, ∀ a, (k0_off1 i) a + S1.size a ≤ S16.size a) (numel1_S1 : S1.numel = 1) (inb_S1_S1_0 : ∀ a, (![0] : Fin 1 → Nat) a + S1.size a ≤ S1.size a) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S16) ![v0.toNat] S1.size (k0_off1_inb i)) numel1_S1
  let c0 : Index := 0#32
  let v2 : BitVec 32 := pf.at 1 (Rect.unit (s := S1) ![0] S1.size inb_S1_S1_0) numel1_S1
  let v3 : BitVec 1 := Scalar.cmpi .slt arg0 v2
  let c10_i32 : BitVec 32 := 10#32
  let v4 : BitVec 32 := Scalar.select v3 arg1 c10_i32
  let c0_i32 : BitVec 32 := 0#32
  let c0_i32_0 : BitVec 32 := 0#32
  ![v1.toNat, c0_i32.toNat, v4.toNat]

def cc0_transform_2 (k0_off1_inb : ∀ i : grid0.Coords, ∀ a, (k0_off1 i) a + S1.size a ≤ S16.size a) (numel1_S1 : S1.numel = 1) (inb_S1_S1_0 : ∀ a, (![0] : Fin 1 → Nat) a + S1.size a ≤ S1.size a) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S16) ![v0.toNat] S1.size (k0_off1_inb i)) numel1_S1
  let c0 : Index := 0#32
  let v2 : BitVec 32 := pf.at 1 (Rect.unit (s := S1) ![0] S1.size inb_S1_S1_0) numel1_S1
  let v3 : BitVec 1 := Scalar.cmpi .slt arg0 v2
  let c10_i32 : BitVec 32 := 10#32
  let v4 : BitVec 32 := Scalar.select v3 arg1 c10_i32
  let c0_i32 : BitVec 32 := 0#32
  let c0_i32_0 : BitVec 32 := 0#32
  ![v1.toNat, c0_i32.toNat, v4.toNat]

def cc0_transform_3 (k0_off1_inb : ∀ i : grid0.Coords, ∀ a, (k0_off1 i) a + S1.size a ≤ S16.size a) (numel1_S1 : S1.numel = 1) (inb_S1_S1_0 : ∀ a, (![0] : Fin 1 → Nat) a + S1.size a ≤ S1.size a) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S16) ![v0.toNat] S1.size (k0_off1_inb i)) numel1_S1
  let c0 : Index := 0#32
  let v2 : BitVec 32 := pf.at 1 (Rect.unit (s := S1) ![0] S1.size inb_S1_S1_0) numel1_S1
  let v3 : BitVec 1 := Scalar.cmpi .slt arg0 v2
  let c10_i32 : BitVec 32 := 10#32
  let v4 : BitVec 32 := Scalar.select v3 arg1 c10_i32
  let c0_i32 : BitVec 32 := 0#32
  let c0_i32_0 : BitVec 32 := 0#32
  ![v1.toNat, v4.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S544x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S544x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== Reference11Ideal.lean ====
abbrev S8704x2048 : Shape := ⟨2, ![8704, 2048]⟩
abbrev S2048x5632 : Shape := ⟨2, ![2048, 5632]⟩
abbrev S5632x2048 : Shape := ⟨2, ![5632, 2048]⟩
abbrev S1x2048 : Shape := ⟨2, ![1, 2048]⟩
abbrev S_ : Shape := ⟨0, ![]⟩
abbrev S8704x5632 : Shape := ⟨2, ![8704, 5632]⟩
abbrev S8704 : Shape := ⟨1, ![8704]⟩
abbrev S8704x1 : Shape := ⟨2, ![8704, 1]⟩

abbrev nBuf : Space → Nat
  | .hbm => 50
  | .vmem => 0
  | .smem => 0
  | _ => 0

abbrev bufTy : (tb : Table) → Fin (tcTables nBuf tb) → BufTy
  | .hbm, ⟨0, _⟩ => ⟨S8704x2048, .f32⟩
  | .hbm, ⟨1, _⟩ => ⟨S2048x5632, .f32⟩
  | .hbm, ⟨2, _⟩ => ⟨S2048x5632, .f32⟩
  | .hbm, ⟨3, _⟩ => ⟨S5632x2048, .f32⟩
  | .hbm, ⟨4, _⟩ => ⟨S1x2048, .f32⟩
  | .hbm, ⟨5, _⟩ => ⟨S1x2048, .f32⟩
  | .hbm, ⟨6, _⟩ => ⟨S_, .f32⟩
  | .hbm, ⟨7, _⟩ => ⟨S8704x2048, .f32⟩
  | .hbm, ⟨8, _⟩ => ⟨S8704x2048, .f32⟩
  | .hbm, ⟨9, _⟩ => ⟨S8704x5632, .f32⟩
  | .hbm, ⟨10, _⟩ => ⟨S8704x5632, .f32⟩
  | .hbm, ⟨11, _⟩ => ⟨S8704x5632, .f32⟩
  | .hbm, ⟨12, _⟩ => ⟨S_, .f32⟩
  | .hbm, ⟨13, _⟩ => ⟨S8704x5632, .f32⟩
  | .hbm, ⟨14, _⟩ => ⟨S8704x5632, .f32⟩
  | .hbm, ⟨15, _⟩ => ⟨S_, .f32⟩
  | .hbm, ⟨16, _⟩ => ⟨S8704x5632, .f32⟩
  | .hbm, ⟨17, _⟩ => ⟨S8704x5632, .f32⟩
  | .hbm, ⟨18, _⟩ => ⟨S8704x5632, .f32⟩
  | .hbm, ⟨19, _⟩ => ⟨S8704x5632, .f32⟩
  | .hbm, ⟨20, _⟩ => ⟨S8704x5632, .f32⟩
  | .hbm, ⟨21, _⟩ => ⟨S8704x2048, .f32⟩
  | .hbm, ⟨22, _⟩ => ⟨S8704x2048, .f32⟩
  | .hbm, ⟨23, _⟩ => ⟨S_, .f32⟩
  | .hbm, ⟨24, _⟩ => ⟨S8704, .f32⟩
  | .hbm, ⟨25, _⟩ => ⟨S8704x1, .f32⟩
  | .hbm, ⟨26, _⟩ => ⟨S_, .f32⟩
  | .hbm, ⟨27, _⟩ => ⟨S8704x1, .f32⟩
  | .hbm, ⟨28, _⟩ => ⟨S8704x1, .f32⟩
  | .hbm, ⟨29, _⟩ => ⟨S8704x2048, .f32⟩
  | .hbm, ⟨30, _⟩ => ⟨S8704x2048, .f32⟩
  | .hbm, ⟨31, _⟩ => ⟨S8704x2048, .f32⟩
  | .hbm, ⟨32, _⟩ => ⟨S_, .f32⟩
  | .hbm, ⟨33, _⟩ => ⟨S8704, .f32⟩
  | .hbm, ⟨34, _⟩ => ⟨S8704x1, .f32⟩
  | .hbm, ⟨35, _⟩ => ⟨S_, .f32⟩
  | .hbm, ⟨36, _⟩ => ⟨S8704x1, .f32⟩
  | .hbm, ⟨37, _⟩ => ⟨S8704x1, .f32⟩
  | .hbm, ⟨38, _⟩ => ⟨S8704x2048, .f32⟩
  | .hbm, ⟨39, _⟩ => ⟨S8704x2048, .f32⟩
  | .hbm, ⟨40, _⟩ => ⟨S_, .f32⟩
  | .hbm, ⟨41, _⟩ => ⟨S8704x1, .f32⟩
  | .hbm, ⟨42, _⟩ => ⟨S8704x1, .f32⟩
  | .hbm, ⟨43, _⟩ => ⟨S8704x1, .f32⟩
  | .hbm, ⟨44, _⟩ => ⟨S8704x2048, .f32⟩
  | .hbm, ⟨45, _⟩ => ⟨S8704x2048, .f32⟩
  | .hbm, ⟨46, _⟩ => ⟨S8704x2048, .f32⟩
  | .hbm, ⟨47, _⟩ => ⟨S8704x2048, .f32⟩
  | .hbm, ⟨48, _⟩ => ⟨S8704x2048, .f32⟩
  | .hbm, ⟨49, _⟩ => ⟨S8704x2048, .f32⟩
  | _, _ => ⟨S8704x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_call0_v0 : Ref sig .tc := ⟨.hbm, 10, rfl⟩
abbrev main_call0_v1 : Ref sig .tc := ⟨.hbm, 11, rfl⟩
abbrev main_call0_cst : Ref sig .tc := ⟨.hbm, 12, rfl⟩
abbrev main_call0_v2 : Ref sig .tc := ⟨.hbm, 13, rfl⟩
abbrev main_call0_v3 : Ref sig .tc := ⟨.hbm, 14, rfl⟩
abbrev main_call0_cst_0 : Ref sig .tc := ⟨.hbm, 15, rfl⟩
abbrev main_call0_v4 : Ref sig .tc := ⟨.hbm, 16, rfl⟩
abbrev main_call0_v5 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_cst_0 : Ref sig .tc := ⟨.hbm, 23, rfl⟩
abbrev main_v8 : Ref sig .tc := ⟨.hbm, 24, rfl⟩
abbrev main_v9 : Ref sig .tc := ⟨.hbm, 25, rfl⟩
abbrev main_cst_1 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_cst_2 : Ref sig .tc := ⟨.hbm, 32, rfl⟩
abbrev main_v15 : Ref sig .tc := ⟨.hbm, 33, rfl⟩
abbrev main_v16 : Ref sig .tc := ⟨.hbm, 34, rfl⟩
abbrev main_cst_3 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_cst_4 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩

abbrev nD : Nat := 1
abbrev τ : Topo := Topo.v7x

variable {F : FTy → Type} [FloatOps F]
-- ==== Proof.Step.lean ====
/- One grid point of the expert kernel: what its body makes of the output block. -/
module

public import proofs.«01_k».proof.Proof.Gen.KernelIdeal.Launch
public import proofs.«01_k».proof.Proof.Gen.KernelIdeal.Skeleton
public import Idealize.ShloMosaic.Lib.Pipeline.FrameBody
public import Idealize.ShloMosaic.Lib.Pipeline.Kit
public import Idealize.ShloMosaic.Lib.Pipeline.Value
public import Idealize.ShloMosaic.Lib.Pipeline.ValueKit.Acc
public import Idealize.ShloMosaic.Lib.Ring
public import Idealize.ShloMosaic.Lib.Tactic
public import Idealize.ShloMosaic.Lib.WordCmp

@[expose] public section

set_option maxRecDepth 16384

noncomputable section

namespace Cert.KernelIdeal.Moe

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The resources a proof about the machine holds. -/
abbrev Mod (F : FTy → Type) := MT nD τ sig Unit (Elt F) ℕ (UR sig nD τ) ℕ

/-- The table of experts, and the count of tiles in use, as the body is handed them. -/
abbrev tabE : Memref sig .tc .smem S24 .i32 := Memref.whole main_v11
abbrev tabN : Memref sig .tc .smem S1 .i32 := Memref.whole main_arg6

/-- The contents of a table on core `c`. -/
abbrev Words (c : Dev nD) {S : Shape} (M : Memref sig .tc .smem S .i32) : Type := Buf (Elt F) (M.view.loc (c : Thread nD τ))

/-- A table held for reading at the contents `f`. -/
abbrev held (c : Dev nD) {S : Shape} (M : Memref sig .tc .smem S .i32) (f : Words (F := F) c M) : sProp (Mod F) :=
  M.view.loc (c : Thread nD τ) ↦{fullShare.right} f

/-- The count of tiles in use, as the body reads it. -/
abbrev count (c : Dev nD) (f : Words (F := F) c tabN) : BitVec 32 :=
  tabN.view.readAt (Elt F) (Rect.unit (s := S1) ![0] S1.size inb_S1_S1_0).toLoadRect f (Shape.Idx.first (numel1_S1.symm ▸ Nat.one_pos))

/-- What the body makes of an output block `d`: cleared at a tile's first point, grown where the tile is in use,
    weighted at its last point. -/
def step (i : grid0.Coords) (v : BitVec 32) (x0 : Vec F S1024x2048 .bf16) (x1 x2 : Vec F S1x2048x256 .f32) (x3 : Vec F S1x256x2048 .f32)
    (x4 : Vec F S1024x1 .f32) (d : Vec F S1024x2048 .f32) : Vec F S1024x2048 .f32 :=
  let a : Vec F S1024x2048 .f32 := if k0_cond1 i = 1#1 then k0_pay1 else d
  let b : Vec F S1024x2048 .f32 := if k0_cond2 i v = 1#1 then k0_pay2 x0 x1 x2 a x3 else a
  if k0_cond3 i = 1#1 then k0_pay3 b x4 else b

/-- A point neither first nor last, of a tile not in use, leaves the block as it is. -/
theorem step_idle {i : grid0.Coords} {v : BitVec 32} {x0 : Vec F S1024x2048 .bf16} {x1 x2 : Vec F S1x2048x256 .f32} {x3 : Vec F S1x256x2048 .f32}
    {x4 : Vec F S1024x1 .f32} {d : Vec F S1024x2048 .f32} (h1 : ¬k0_cond1 i = 1#1) (h2 : ¬k0_cond2 i v = 1#1) (h3 : ¬k0_cond3 i = 1#1) :
    step i v x0 x1 x2 x3 x4 d = d := by
  unfold step
  simp only [if_neg h1, if_neg h2, if_neg h3]

/-- A store of a whole block, last, leaves what it stored. -/
theorem last_store {S : Shape} {e : EltTy} {sp : Space} (v : View sig .tc sp S e) (f : v.ty.Contents (Elt F)) {off : Fin S.rank → Nat}
    (inb : ∀ a, off a + S.size a ≤ S.size a) (w : S.Idx → Elt F e) (L : List (View.Piece (Elt F) S e)) (h : off = fun _ => 0) :
    v.read (Elt F) (v.writes (Elt F) f ((⟨Rect.unit off S.size inb, w⟩ : View.Piece (Elt F) S e) :: L)) = w := by
  rw [View.read_writes_eq_canon v f _ (fun y => ⟨_, List.mem_cons_self, View.mem_set_unit_zero h inb y⟩), View.canon_cons_unit_zero h inb w L]

theorem zero2 : (![0, 0] : Fin 2 → ℕ) = fun _ => 0 := by decide

set_option maxHeartbeats 800000 in
/-- The body at any point, on any whole staging buffers: the inputs and the tables as they were, the output block one
    step on. -/
theorem body_run (c : Dev nD) (i : grid0.Coords) (a4 : Memref sig .tc .vmem S1024x2048 .bf16) (w4 : a4.IsWhole)
    (a5 : Memref sig .tc .vmem S1x2048x256 .f32) (w5 : a5.IsWhole) (a6 : Memref sig .tc .vmem S1x2048x256 .f32) (w6 : a6.IsWhole)
    (a7 : Memref sig .tc .vmem S1x256x2048 .f32) (w7 : a7.IsWhole) (a8 : Memref sig .tc .vmem S1024x1 .f32) (w8 : a8.IsWhole)
    (a9 : Memref sig .tc .vmem S1024x2048 .f32) (w9 : a9.IsWhole) (x0 : Vec F S1024x2048 .bf16) (x1 x2 : Vec F S1x2048x256 .f32)
    (x3 : Vec F S1x256x2048 .f32) (x4 : Vec F S1024x1 .f32) (d : Vec F S1024x2048 .f32) (te : Words (F := F) c tabE) (tn : Words (F := F) c tabN)
    (E : Set ℕ) (K : PUnit → sProp (Mod F)) :
    iprop(owns (c : Thread nD τ) a4 fullShare x0 ∗ owns (c : Thread nD τ) a5 fullShare x1 ∗ owns (c : Thread nD τ) a6 fullShare x2
        ∗ owns (c : Thread nD τ) a7 fullShare x3 ∗ owns (c : Thread nD τ) a8 fullShare x4 ∗ owns (c : Thread nD τ) a9 fullShare d
        ∗ held c tabE te ∗ held c tabN tn
        ∗ (iprop(owns (c : Thread nD τ) a4 fullShare x0 ∗ owns (c : Thread nD τ) a5 fullShare x1 ∗ owns (c : Thread nD τ) a6 fullShare x2
            ∗ owns (c : Thread nD τ) a7 fullShare x3 ∗ owns (c : Thread nD τ) a8 fullShare x4
            ∗ owns (c : Thread nD τ) a9 fullShare (step i (count c tn) x0 x1 x2 x3 x4 d)
            ∗ held c tabE te ∗ held c tabN tn) -∗ K ⟨⟩))
      ⊢ wp frame (wpE (defs₀ (F := F)) Variants.none c none) E
          (cc0_moe_ffn i tabE (Memref.isWhole_whole _) tabN (Memref.isWhole_whole _) a4 w4 a5 w5 a6 w6 a7 w7 a8 w8 a9 w9) K := by
  simp only [cc0_moe_ffn_eq_skeleton]; unfold cc0_moe_ffn_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, HT0, HT1, Hk⟩
  obtain rfl := w4.eq_unread hf0; obtain rfl := w5.eq_unread hf1; obtain rfl := w6.eq_unread hf2; obtain rfl := w7.eq_unread hf3
  obtain rfl := w8.eq_unread hf4; obtain rfl := w9.eq_unread hf5
  by_cases h1 : k0_cond1 i = 1#1 <;> by_cases h2 : k0_cond2 i (count c tn) = 1#1 <;> by_cases h3 : k0_cond3 i = 1#1
  all_goals
    sl_exec (disch := first | sl_exact h1 | sl_exact h2 | sl_exact h3)
    sl_step
    iapply Hk
    isplitl [H0]
    · iexists _; isplitr; · ipureintro; exact w4.read_unread _
      iexact H0
    isplitl [H1]
    · iexists _; isplitr; · ipureintro; exact w5.read_unread _
      iexact H1
    isplitl [H2]
    · iexists _; isplitr; · ipureintro; exact w6.read_unread _
      iexact H2
    isplitl [H3]
    · iexists _; isplitr; · ipureintro; exact w7.read_unread _
      iexact H3
    isplitl [H4]
    · iexists _; isplitr; · ipureintro; exact w8.read_unread _
      iexact H4
    isplitl [H5]
    · iexists _; isplitr
      swap; · iexact H5
      ipureintro
      unfold step
      simp only [h1, h2, h3, if_true, if_false]
      first
        | refine (last_store a9.view _ _ _ _ zero2).trans ?_
          frame_out
        | exact hf5
    isplitl [HT0]; · iexact HT0
    iexact HT1

end Cert.KernelIdeal.Moe

end
-- ==== Proof.Frame.lean ====
/- The expert kernel runs to the end from any memory whose tables pick blocks inside the arrays, and what its output block
   holds at every point. -/
module

public import proofs.«01_k».proof.Proof.Step
public import Idealize.ShloMosaic.Lib.Claim

@[expose] public section

set_option maxRecDepth 16384

noncomputable section

namespace Cert.KernelIdeal.Moe

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-! ## The memory when the pipeline begins -/

/-- Core `c`'s buffers after the host's operations. -/
abbrev entry (c : Dev nD) (b : Ref sig .tc) : Buf (Elt F) ((c : Thread nD τ).loc b) := StableHlo.after hostOps0 (fun b => m (c, b)) b

theorem host_fresh : (hostOps0 : List (HloOp τ sig (Elt F))).Forall fun op => op.fresh = ∅ := by
  simp only [List.Forall]; repeat' constructor

set_option maxHeartbeats 800000 in
theorem host_main (𝒱₀ : Variants) :
    Pipeline.HMainP (Ix := Unit) (Name := ℕ) (U := UR sig nD τ) (Lvl := ℕ) pcfgs 0 defs₀ 𝒱₀ m (main (F := F)) (entry m) :=
  Pipeline.hmainP_prefix pcfgs 0 defs₀ 𝒱₀ m main hostOps0 hostOps0_sub host_fresh main_chain

/-- The host's operations write no argument. -/
theorem entry_arg (c : Dev nD) (b : Ref sig .tc) (hb : b ∈ [main_arg0, main_arg1, main_arg2, main_arg3, main_arg4, main_arg5, main_arg6]) :
    entry m c b = m ((c : Thread nD τ).loc b) := by
  simp only [List.mem_cons, List.not_mem_nil, or_false] at hb
  rcases hb with rfl | rfl | rfl | rfl | rfl | rfl | rfl
  all_goals
    refine StableHlo.after_of_forall_not_mem (b := Proc.devRef .tc _) _ _ (List.forall_iff_forall_mem.mp ?_)
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)

/-! ## The tables -/

/-- The tables' words when the pipeline begins. -/
def tbl : pre0.Contents (Elt F) := fun j => entry m (0 : Dev nD) (pre0.ref j)

theorem entry_pre (c : Dev nD) (j : Fin 2) : entry m c (pre0.ref j) = tbl m j := by
  obtain rfl : c = 0 := Subsingleton.elim _ _; rfl

/-- The blocks the tables' words pick lie inside the arrays. -/
abbrev Ok : Prop := ok0 (F := F) (tbl m)
abbrev adm (hO : Ok m) : (pcfg0 (F := F)).Adm := ⟨tbl m, hO⟩
abbrev cfgM (hO : Ok m) : Pipeline.Cfg sig Λ₀ := cfg0 (adm m hO)

theorem tables_held (c : Dev nD) :
    (Pipeline.ΦT pre0 (tbl m) c : sProp (Mod F)) = iprop(held c tabE (tbl m 0) ∗ held c tabN (tbl m 1)) := by
  unfold Pipeline.ΦT Pipeline.prefHeld
  rw [show (Finset.univ : Finset (Fin 2)) = insert (0 : Fin 2) {(1 : Fin 2)} from by decide,
    bigSep_insert (by decide), bigSep_singleton]
  rfl

/-- The count of tiles in use. -/
abbrev cnt : BitVec 32 := (tbl m).atD 1 ![0]

theorem count_eq (c : Dev nD) : count c (tbl m 1) = cnt m := by
  obtain rfl : c = 0 := Subsingleton.elim _ _
  rfl

/-! ## The windows' blocks -/

/-- Window `w`'s block at point `t`. -/
def iblk (hO : Ok m) (c : Dev nD) (w : Fin (cfgM m hO).W) (t : Fin (cfgM m hO).N) :
    (((cfgM m hO).win w).xblock ((cfgM m hO).grid.coords t)).Idx → Elt F ((cfgM m hO).win w).elt :=
  (((cfgM m hO).win w).blk t).view.read (Elt F) (entry m c (Pipeline.arrRef spec0 w))

theorem first_iff : ∀ t : Fin grid0.N, k0_cond1 (grid0.coords t) = 1#1 ↔ t.val % 22 = 0 :=
  (fun t => by
    have ht : t.val < 528 := Nat.lt_of_lt_of_eq t.isLt N_0
    have e0 : (grid0.coords t 0).val = t.val / 22 % 24 := Pipeline.Grid.coords_val t 0 (by decide) rfl
    have e1 : (grid0.coords t 1).val = t.val / 1 % 22 := Pipeline.Grid.coords_val t 1 (by decide) rfl
    simp only [k0_cond1, e0, e1]
    word_cmp
   : ∀ t : Fin grid0.N, k0_cond1 (grid0.coords t) = 1#1 ↔ t.val % 22 = 0)

theorem last_iff : ∀ t : Fin grid0.N, k0_cond3 (grid0.coords t) = 1#1 ↔ t.val % 22 = 21 :=
  (fun t => by
    have ht : t.val < 528 := Nat.lt_of_lt_of_eq t.isLt N_0
    have e0 : (grid0.coords t 0).val = t.val / 22 % 24 := Pipeline.Grid.coords_val t 0 (by decide) rfl
    have e1 : (grid0.coords t 1).val = t.val / 1 % 22 := Pipeline.Grid.coords_val t 1 (by decide) rfl
    simp only [k0_cond3, e0, e1]
    word_cmp
   : ∀ t : Fin grid0.N, k0_cond3 (grid0.coords t) = 1#1 ↔ t.val % 22 = 21)

/-- The output block is written back at a tile's last point. -/
theorem flush5 (a : (pcfg0 (F := F)).Adm) : ∀ t : Fin (cfg0 a).N, ((cfg0 a).win 5).flush t = true ↔ t.val % 22 = 21 :=
  (fun t => Pipeline.Window.flushOf_reads cc0_transform_5 reads0_5 hreads0_5 0 (by decide) (by decide) (Pipeline.Window.sep_of_coord cc0_transform_5 0 0 (fun _ => rfl) (by decide)) (P := 22) (m := 21) (by decide) rfl t : ∀ t : Fin grid0.N, Pipeline.Window.flushOf grid0 true cc0_transform_5 t = true ↔ t.val % 22 = 21)

/-! ## The output block, point by point -/

/-- One step at point `t`, on the blocks there. -/
def stepAt (hO : Ok m) (c : Dev nD) (t : Fin (cfgM m hO).N) (d : Vec F S1024x2048 .f32) : Vec F S1024x2048 .f32 :=
  step (grid0.coords t) (cnt m) (iblk m hO c 0 t) (iblk m hO c 1 t) (iblk m hO c 2 t) (iblk m hO c 3 t) (iblk m hO c 4 t) d

/-- What the output block holds after point `n`. -/
def outs (hO : Ok m) (c : Dev nD) : (n : ℕ) → n < (cfgM m hO).N → Vec F S1024x2048 .f32
  | 0, h => stepAt m hO c ⟨0, h⟩ k0_pay1
  | n + 1, h => stepAt m hO c ⟨n + 1, h⟩ (outs hO c n (Nat.lt_of_succ_lt h))

/-- At a tile's first point the step takes nothing from the block before. -/
theorem stepAt_first (hO : Ok m) (c : Dev nD) (t : Fin (cfgM m hO).N) (h : t.val % 22 = 0) (d d' : Vec F S1024x2048 .f32) :
    stepAt m hO c t d = stepAt m hO c t d' := by
  unfold stepAt step
  simp only [if_pos ((first_iff t).mpr h)]

theorem outs_first (hO : Ok m) (c : Dev nD) (t : Fin (cfgM m hO).N) (h : t.val % 22 = 0) (d : Vec F S1024x2048 .f32) :
    outs m hO c t.val t.isLt = stepAt m hO c t d := by
  obtain ⟨n, hn⟩ := t
  cases n with
  | zero => exact stepAt_first m hO c _ h _ _
  | succ n => exact stepAt_first m hO c _ h _ _

theorem outs_next (hO : Ok m) (c : Dev nD) (t : Fin (cfgM m hO).N) (h : t.val ≠ 0) :
    outs m hO c t.val t.isLt = stepAt m hO c t (outs m hO c (t.val - 1) (Nat.lt_of_le_of_lt (Nat.sub_le _ _) t.isLt)) := by
  obtain ⟨n, hn⟩ := t
  cases n with
  | zero => exact absurd rfl h
  | succ n => rfl

/-! ## The pipeline's proof data -/

def dats (hO : Ok m) (_ : Fin 1) (c : Dev nD) : Dat τ (Elt F) Unit ℕ (UR sig nD τ) ℕ (cfgM m hO) c where
  A w := entry m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => iblk m hO c 4 t
    | ⟨5, _⟩ => outs m hO c t.val t.isLt
  Φ _ := iprop(Pipeline.ΦA spec0 c ∗ Pipeline.ΦT pre0 (tbl m) c)
  q _ := fullShare
  owed _ := 0

theorem A_eq (hO : Ok m) (c : Dev nD) (w : Fin (cfgM m hO).W) : (dats m hO 0 c).A w = entry m c (Pipeline.arrRef spec0 w) := by
  dsimp only [dats]

theorem after0 (hO : Ok m) (c : Dev nD) (t : Fin (cfgM m hO).N) : (dats m hO 0 c).after 0 t = iblk m hO c 0 t := by dsimp only [dats]; try rfl
theorem after1 (hO : Ok m) (c : Dev nD) (t : Fin (cfgM m hO).N) : (dats m hO 0 c).after 1 t = iblk m hO c 1 t := by dsimp only [dats]; try rfl
theorem after2 (hO : Ok m) (c : Dev nD) (t : Fin (cfgM m hO).N) : (dats m hO 0 c).after 2 t = iblk m hO c 2 t := by dsimp only [dats]; try rfl
theorem after3 (hO : Ok m) (c : Dev nD) (t : Fin (cfgM m hO).N) : (dats m hO 0 c).after 3 t = iblk m hO c 3 t := by dsimp only [dats]; try rfl
theorem after4 (hO : Ok m) (c : Dev nD) (t : Fin (cfgM m hO).N) : (dats m hO 0 c).after 4 t = iblk m hO c 4 t := by dsimp only [dats]; try rfl
theorem after5 (hO : Ok m) (c : Dev nD) (t : Fin (cfgM m hO).N) : (dats m hO 0 c).after 5 t = outs m hO c t.val t.isLt := by dsimp only [dats]; try rfl

theorem before0 (hO : Ok m) (c : Dev nD) (t : Fin (cfgM m hO).N) (d) : (dats m hO 0 c).before 0 t d = iblk m hO c 0 t :=
  ((dats m hO 0 c).before_in_eq_fetched 0 rfl (fun _ => rfl) (fun _ _ _ => rfl)
    (fun t => by rw [after0]; unfold Dat.blockOf iblk; rw [A_eq]; try rfl) t d).trans (by unfold Dat.fetched Dat.blockOf iblk; rw [A_eq]; try rfl)
theorem before1 (hO : Ok m) (c : Dev nD) (t : Fin (cfgM m hO).N) (d) : (dats m hO 0 c).before 1 t d = iblk m hO c 1 t :=
  ((dats m hO 0 c).before_in_eq_fetched 1 rfl (fun _ => rfl) (fun _ _ _ => rfl)
    (fun t => by rw [after1]; unfold Dat.blockOf iblk; rw [A_eq]; try rfl) t d).trans (by unfold Dat.fetched Dat.blockOf iblk; rw [A_eq]; try rfl)
theorem before2 (hO : Ok m) (c : Dev nD) (t : Fin (cfgM m hO).N) (d) : (dats m hO 0 c).before 2 t d = iblk m hO c 2 t :=
  ((dats m hO 0 c).before_in_eq_fetched 2 rfl (fun _ => rfl) (fun _ _ _ => rfl)
    (fun t => by rw [after2]; unfold Dat.blockOf iblk; rw [A_eq]; try rfl) t d).trans (by unfold Dat.fetched Dat.blockOf iblk; rw [A_eq]; try rfl)
theorem before3 (hO : Ok m) (c : Dev nD) (t : Fin (cfgM m hO).N) (d) : (dats m hO 0 c).before 3 t d = iblk m hO c 3 t :=
  ((dats m hO 0 c).before_in_eq_fetched 3 rfl (fun _ => rfl) (fun _ _ _ => rfl)
    (fun t => by rw [after3]; unfold Dat.blockOf iblk; rw [A_eq]; try rfl) t d).trans (by unfold Dat.fetched Dat.blockOf iblk; rw [A_eq]; try rfl)
theorem before4 (hO : Ok m) (c : Dev nD) (t : Fin (cfgM m hO).N) (d) : (dats m hO 0 c).before 4 t d = iblk m hO c 4 t :=
  ((dats m hO 0 c).before_in_eq_fetched 4 rfl (fun _ => rfl) (fun _ _ _ => rfl)
    (fun t => by rw [after4]; unfold Dat.blockOf iblk; rw [A_eq]; try rfl) t d).trans (by unfold Dat.fetched Dat.blockOf iblk; rw [A_eq]; try rfl)

/-- Where the output block is left alone. -/
theorem idle5 (hO : Ok m) (t : Fin (cfgM m hO).N) (h : (cfgM m hO).idle 5 ((cfgM m hO).grid.coords t) = true) :
    ¬k0_cond1 (grid0.coords t) = 1#1 ∧ ¬k0_cond2 (grid0.coords t) (cnt m) = 1#1 ∧ ¬k0_cond3 (grid0.coords t) = 1#1 := by
  have h' : (!(k0_cond1 (grid0.coords t) == 1#1) && !(k0_cond2 (grid0.coords t) (cnt m) == 1#1) && !(k0_cond3 (grid0.coords t) == 1#1)) = true := h
  simp only [Bool.and_eq_true, Bool.not_eq_true', beq_eq_false_iff_ne, ne_eq] at h'
  exact ⟨h'.1.1, h'.1.2, h'.2⟩

theorem stepAt_idle (hO : Ok m) (c : Dev nD) (t : Fin (cfgM m hO).N) (h : (cfgM m hO).idle 5 ((cfgM m hO).grid.coords t) = true)
    (d : Vec F S1024x2048 .f32) : stepAt m hO c t d = d :=
  step_idle (idle5 m hO t h).1 (idle5 m hO t h).2.1 (idle5 m hO t h).2.2

/-- Past a tile's first point the body finds the output block as the point before left it. -/
theorem before5 (hO : Ok m) (c : Dev nD) : ∀ (n : ℕ) (t : Fin (cfgM m hO).N), t.val = n → ¬t.val % 22 = 0 → ∀ d,
    (dats m hO 0 c).before 5 t d = outs m hO c (t.val - 1) (Nat.lt_of_le_of_lt (Nat.sub_le _ _) t.isLt) := by
  intro n
  induction n with
  | zero => intro t ht h0; omega
  | succ n ih =>
    intro t ht h0 d
    have hp : t.val - 1 < (cfgM m hO).N := Nat.lt_of_le_of_lt (Nat.sub_le _ _) t.isLt
    rw [(dats m hO 0 c).before_of_pos 5 t (by omega) (((cfgM m hO).win 5).fetch_out rfl t) d,
      if_neg (fun h => by have := (flush5 (adm m hO) _).mp h; dsimp only at this; omega)]
    unfold Dat.left
    cases hi : (cfgM m hO).idle 5 ((cfgM m hO).grid.coords ⟨t.val - 1, hp⟩) with
    | false =>
      dsimp only
      unfold Dat.kept
      rw [Pipeline.fill_of_clip_none 5 _ (fun _ => rfl) d ((dats m hO 0 c).after 5 _), Window.fill_cut]
      exact after5 m hO c ⟨t.val - 1, hp⟩
    | true =>
      dsimp only
      have h1 : ¬(t.val - 1) % 22 = 0 := fun h => (idle5 m hO _ hi).1 ((first_iff ⟨t.val - 1, hp⟩).mpr h)
      rw [ih ⟨t.val - 1, hp⟩ (by simp only; omega) h1 d]
      exact ((outs_next m hO c ⟨t.val - 1, hp⟩ (by simp only; omega)).trans (stepAt_idle m hO c ⟨t.val - 1, hp⟩ hi _)).symm

/-- The step on what the body finds is what the output block then holds. -/
theorem stepAt_before (hO : Ok m) (c : Dev nD) (t : Fin (cfgM m hO).N) (d) :
    stepAt m hO c t ((dats m hO 0 c).before 5 t d) = outs m hO c t.val t.isLt := by
  by_cases h : t.val % 22 = 0
  · exact (outs_first m hO c t h _).symm
  · rw [before5 m hO c t.val t rfl h d]
    exact (outs_next m hO c t (fun h' => h (by rw [h']))).symm

/-! ## The body obligation -/

abbrev ms0 (hO : Ok m) (t : Fin (cfgM m hO).N) : Memref sig .tc .vmem S1024x2048 .bf16 := spec0_0.stage ((cfgM m hO).slots t 0)
abbrev ms1 (hO : Ok m) (t : Fin (cfgM m hO).N) : Memref sig .tc .vmem S1x2048x256 .f32 := spec0_1.stage ((cfgM m hO).slots t 1)
abbrev ms2 (hO : Ok m) (t : Fin (cfgM m hO).N) : Memref sig .tc .vmem S1x2048x256 .f32 := spec0_2.stage ((cfgM m hO).slots t 2)
abbrev ms3 (hO : Ok m) (t : Fin (cfgM m hO).N) : Memref sig .tc .vmem S1x256x2048 .f32 := spec0_3.stage ((cfgM m hO).slots t 3)
abbrev ms4 (hO : Ok m) (t : Fin (cfgM m hO).N) : Memref sig .tc .vmem S1024x1 .f32 := spec0_4.stage ((cfgM m hO).slots t 4)
abbrev ms5 (hO : Ok m) (t : Fin (cfgM m hO).N) : Memref sig .tc .vmem S1024x2048 .f32 := spec0_5.stage ((cfgM m hO).slots t 5)

/-- The kernel's body at point `t`. -/
abbrev bodyAt (a : (pcfg0 (F := F)).Adm) (t : Fin (cfg0 a).N) : Prog (TpuEff nD τ sig (Elt F) Λ₀ .tc) PUnit :=
  cc0_moe_ffn (grid0.coords t) (Memref.whole main_v11) (Memref.isWhole_whole _) (Memref.whole main_arg6) (Memref.isWhole_whole _) (spec0_0.stage ((cfg0 a).slots t 0)) (hstage0_0 (((cfg0 a).slots t 0).cast nbuf0_0)) (spec0_1.stage ((cfg0 a).slots t 1)) (hstage0_1 (((cfg0 a).slots t 1).cast nbuf0_1)) (spec0_2.stage ((cfg0 a).slots t 2)) (hstage0_2 (((cfg0 a).slots t 2).cast nbuf0_2)) (spec0_3.stage ((cfg0 a).slots t 3)) (hstage0_3 (((cfg0 a).slots t 3).cast nbuf0_3)) (spec0_4.stage ((cfg0 a).slots t 4)) (hstage0_4 (((cfg0 a).slots t 4).cast nbuf0_4)) (spec0_5.stage ((cfg0 a).slots t 5)) (hstage0_5 (((cfg0 a).slots t 5).cast nbuf0_5))

def bodyPre (hO : Ok m) (c : Dev nD) (t : Fin (cfgM m hO).N) : sProp (Mod F) :=
  iprop((dats m hO 0 c).Φ t.castSucc ∗ (dats m hO 0 c).owesAt () t.castSucc
    ∗ (∃ d, owns (c : Thread nD τ) (ms0 m hO t) fullShare ((dats m hO 0 c).before 0 t d))
    ∗ (∃ d, owns (c : Thread nD τ) (ms1 m hO t) fullShare ((dats m hO 0 c).before 1 t d))
    ∗ (∃ d, owns (c : Thread nD τ) (ms2 m hO t) fullShare ((dats m hO 0 c).before 2 t d))
    ∗ (∃ d, owns (c : Thread nD τ) (ms3 m hO t) fullShare ((dats m hO 0 c).before 3 t d))
    ∗ (∃ d, owns (c : Thread nD τ) (ms4 m hO t) fullShare ((dats m hO 0 c).before 4 t d))
    ∗ (∃ d, owns (c : Thread nD τ) (ms5 m hO t) fullShare ((dats m hO 0 c).before 5 t d)))

/-- What the body hands back of the output block. -/
def left5 (hO : Ok m) (c : Dev nD) (t : Fin (cfgM m hO).N) : sProp (Mod F) :=
  match (cfgM m hO).idle 5 ((cfgM m hO).grid.coords t) with
  | true =>
    match ((cfgM m hO).win 5).flush t with
    | false => iprop(∃ d, owns (c : Thread nD τ) (ms5 m hO t) fullShare ((dats m hO 0 c).before 5 t d))
    | true => owns (c : Thread nD τ) (ms5 m hO t) fullShare ((dats m hO 0 c).after 5 t)
  | false => owns (c : Thread nD τ) (ms5 m hO t) fullShare ((dats m hO 0 c).after 5 t)

def bodyPost (hO : Ok m) (c : Dev nD) (t : Fin (cfgM m hO).N) : sProp (Mod F) :=
  iprop((dats m hO 0 c).Φ t.succ ∗ (dats m hO 0 c).owesAt () t.succ
    ∗ owns (c : Thread nD τ) (ms0 m hO t) fullShare ((dats m hO 0 c).after 0 t)
    ∗ owns (c : Thread nD τ) (ms1 m hO t) fullShare ((dats m hO 0 c).after 1 t)
    ∗ owns (c : Thread nD τ) (ms2 m hO t) fullShare ((dats m hO 0 c).after 2 t)
    ∗ owns (c : Thread nD τ) (ms3 m hO t) fullShare ((dats m hO 0 c).after 3 t)
    ∗ owns (c : Thread nD τ) (ms4 m hO t) fullShare ((dats m hO 0 c).after 4 t)
    ∗ left5 m hO c t)

/-- The output block one step on is what the body is to hand back. -/
theorem left5_of (hO : Ok m) (c : Dev nD) (t : Fin (cfgM m hO).N) (d) :
    (owns (c : Thread nD τ) (ms5 m hO t) fullShare (stepAt m hO c t ((dats m hO 0 c).before 5 t d)) : sProp (Mod F)) ⊢ left5 m hO c t := by
  unfold left5
  cases hi : (cfgM m hO).idle 5 ((cfgM m hO).grid.coords t) with
  | false =>
    dsimp only
    rw [stepAt_before, after5]
  | true =>
    cases hf : ((cfgM m hO).win 5).flush t with
    | false =>
      dsimp only
      refine BIBase.Entails.trans (BIBase.Entails.of_eq (congrArg (fun x => (owns (c : Thread nD τ) (ms5 m hO t) fullShare x : sProp (Mod F))) (stepAt_idle m hO c t hi ((dats m hO 0 c).before 5 t d)))) ?_
      iintro H
      iexists d
      iexact H
    | true =>
      dsimp only
      rw [stepAt_before, after5]

set_option maxHeartbeats 1600000 in
theorem sound_body (hO : Ok m) (c : Dev nD) (t : Fin (cfgM m hO).N) :
    bodyPre m hO c t ⊢ wp frame (wpE (defs₀ (F := F)) Variants.none c none) Set.univ (bodyAt (adm m hO) t) (fun _ => bodyPost m hO c t) := by
  unfold bodyPre bodyPost bodyAt
  simp only [before0, before1, before2, before3, before4]
  rw [show (dats m hO 0 c).Φ t.succ = (dats m hO 0 c).Φ t.castSucc from rfl,
    show (dats m hO 0 c).owesAt () t.succ = (dats m hO 0 c).owesAt () t.castSucc from rfl,
    after0, after1, after2, after3, after4]
  rw [show (dats m hO 0 c).Φ t.castSucc = iprop(Pipeline.ΦA spec0 c ∗ Pipeline.ΦT pre0 (tbl m) c) from rfl, tables_held]
  iintro ⟨⟨HΦ, ⟨HT0, HT1⟩⟩, Ho, ⟨%d0, H0⟩, ⟨%d1, H1⟩, ⟨%d2, H2⟩, ⟨%d3, H3⟩, ⟨%d4, H4⟩, ⟨%d5, H5⟩⟩
  iapply (body_run c (grid0.coords t) _ _ _ _ _ _ _ _ _ _ _ _ (iblk m hO c 0 t) (iblk m hO c 1 t) (iblk m hO c 2 t) (iblk m hO c 3 t) (iblk m hO c 4 t)
    ((dats m hO 0 c).before 5 t d5) (tbl m 0) (tbl m 1) Set.univ _)
  isplitl [H0]; · iexact H0
  isplitl [H1]; · iexact H1
  isplitl [H2]; · iexact H2
  isplitl [H3]; · iexact H3
  isplitl [H4]; · iexact H4
  isplitl [H5]; · iexact H5
  isplitl [HT0]; · iexact HT0
  isplitl [HT1]; · iexact HT1
  iintro ⟨H0, H1, H2, H3, H4, H5, HT0, HT1⟩
  isplitl [HΦ HT0 HT1]
  · isplitl [HΦ]
    · iexact HΦ
    isplitl [HT0]; · iexact HT0
    iexact HT1
  isplitl [Ho]; · iexact Ho
  isplitl [H0]; · iexact H0
  isplitl [H1]; · iexact H1
  isplitl [H2]; · iexact H2
  isplitl [H3]; · iexact H3
  isplitl [H4]; · iexact H4
  iapply (left5_of m hO c t d5)
  unfold stepAt
  rw [← count_eq m c]
  iexact H5

theorem body_row (hO : Ok m) (t : Fin (cfgM m hO).N) :
    defs₀ (F := F) .tc (cfgM m hO).body ((cfgM m hO).bodyArgs t ((cfgM m hO).slots t)) = bodyAt (adm m hO) t := by
  unfold defs₀; rw [Defs.onTc_tc]

theorem body_obligation (hO : Ok m) (c : Dev nD) : BodyObligation (dats (F := F) m hO 0 c) (defs₀ (F := F)) Variants.none () Set.univ := fun t => by
  rw [bigSep_W0, bigSep_W0, body_row m hO]
  exact triple_restated (sound_body m hO c t) rfl .rfl fun _ => .rfl

/-! ## The run -/

set_option backward.isDefEq.respectTransparency.types false in
/-- Every run ends, with the arrays at what the proof data says and every counter at zero. -/
theorem run_quiescent (hO : Ok m) : θ_run defs (onTc (τ := τ) (main (F := F))) (s₀ m ρ)
    (fun r => (Pipeline.FramePost (Pipeline.pin pcfgs fun _ => adm m hO) (dats m hO) 0 (entry m)) r ∧ r.2.sem = fun _ => 0) :=
  Pipeline.θ_run_frameP (Q' := _) pcfgs (fun _ => adm m hO) (dats m hO) (0 : Fin 1) launch0 defs₀ Variants.none m ρ main
    (hbody := fun c => (body_obligation m hO c).loose) (hshare := fun c => (dats m hO 0 c).share_full fun _ => rfl)
    (howed := fun _ _ => rfl) (V := entry m) (hmain := host_main m Variants.none) (hA := A_eq m hO) (hpf := entry_pre m)
    (hΦ := fun _ _ => rfl)

/-- The arguments end as they began, and every counter at zero. -/
theorem frame (hO : Ok m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  (θ_run defs _ _).mono (fun _ h => ⟨fun c =>
    ⟨(h.1 c).1 0 |>.trans (((dats m hO 0 c).arrAt_in 0 rfl _).trans ((A_eq m hO c 0).trans (entry_arg m c main_arg0 (by decide)))),
      (h.1 c).1 1 |>.trans (((dats m hO 0 c).arrAt_in 1 rfl _).trans ((A_eq m hO c 1).trans (entry_arg m c main_arg1 (by decide)))),
      (h.1 c).1 2 |>.trans (((dats m hO 0 c).arrAt_in 2 rfl _).trans ((A_eq m hO c 2).trans (entry_arg m c main_arg2 (by decide)))),
      (h.1 c).1 3 |>.trans (((dats m hO 0 c).arrAt_in 3 rfl _).trans ((A_eq m hO c 3).trans (entry_arg m c main_arg3 (by decide)))),
      (h.1 c).1 4 |>.trans (((dats m hO 0 c).arrAt_in 4 rfl _).trans ((A_eq m hO c 4).trans (entry_arg m c main_arg4 (by decide)))),
      ((h.1 c).2 main_arg5 (by decide : main_arg5 ∈ Pipeline.restRefs sig spec0)).trans (entry_arg m c main_arg5 (by decide)),
      ((h.1 c).2 main_arg6 (by decide : main_arg6 ∈ Pipeline.restRefs sig spec0)).trans (entry_arg m c main_arg6 (by decide))⟩, h.2⟩)
    (run_quiescent m ρ hO)

end Cert.KernelIdeal.Moe

end
-- ==== Proof.Table.lean ====
/- The words of the two tables when the pipeline begins, the blocks they pick, and that these lie inside the arrays. -/
module

public import proofs.«01_k».proof.Proof.Frame
public import Idealize.ShloMosaic.Lib.Routing.OpsSet
public import Idealize.ShloMosaic.Lib.Pointwise
public import Idealize.ShloMosaic.Lib.WordArith
public import Idealize.ShloMosaic.Lib.Affine

@[expose] public section

noncomputable section

namespace Cert.KernelIdeal.Moe

open Cert.KernelIdeal Cert.KernelIdeal.Gen
open Idealize.ShloMosaic Idealize.ShloMosaic.TcCoe Idealize.SL.Sem

variable {F : FTy → Type} [FloatOps F]
variable (m : (ℓ : Loc nD τ sig) → Buf (Elt F) ℓ)

/-- The tables the caller passes: tile `p` is expert `E p`'s, and the first `N` tiles are in use. -/
structure Tables (E : Fin 24 → Fin 8) (N : ℕ) : Prop where
  expert : ∀ p : Fin 24, m (((0 : Dev nD) : Thread nD τ).loc main_arg5) (ix1 p) = BitVec.ofNat 32 (E p).val
  count : m (((0 : Dev nD) : Thread nD τ).loc main_arg6) (ix1 (0 : Fin 1)) = BitVec.ofNat 32 N
  pos : 1 ≤ N
  lt : N < 2 ^ 31

/-- The tile whose expert tile `p`'s blocks are of. -/
def tile (N : ℕ) (p : Fin 24) : Fin 24 := ⟨min p.val (N - 1), Nat.lt_of_le_of_lt (Nat.min_le_left _ _) p.isLt⟩

variable {m} {E : Fin 24 → Fin 8} {N : ℕ} (hT : Tables m E N)

theorem slt_small {a b : ℕ} (ha : a < 2 ^ 31) (hb : b < 2 ^ 31) :
    (BitVec.ofNat 32 a).slt (BitVec.ofNat 32 b) = decide (a < b) := by
  rw [BitVec.slt, WordArith.toInt_ofNat_small _ ha, WordArith.toInt_ofNat_small _ hb]
  exact decide_eq_decide.mpr (by omega)

theorem sub_one {a : ℕ} (h1 : 1 ≤ a) : BitVec.ofNat 32 a - 1#32 = BitVec.ofNat 32 (a - 1) := by
  obtain ⟨b, rfl⟩ : ∃ b, a = b + 1 := ⟨a - 1, by omega⟩
  rw [Nat.add_sub_cancel, BitVec.ofNat_add, BitVec.add_sub_cancel]

theorem min_small {a b : ℕ} (ha : a < 2 ^ 31) (hb : b < 2 ^ 31) :
    IntOp.minsi (BitVec.ofNat 32 a) (BitVec.ofNat 32 b) = BitVec.ofNat 32 (min a b) := by
  unfold IntOp.minsi
  rw [slt_small ha hb]
  by_cases h : a < b
  · rw [decide_eq_true h, if_pos rfl, Nat.min_eq_left h.le]
  · rw [decide_eq_false h, if_neg (by decide), Nat.min_eq_right (by omega)]

include hT in
/-- The first table as the pipeline begins. -/
theorem tbl_expert (p : Fin 24) : (tbl m 0 : IVec S24 32) (ix1 p) = BitVec.ofNat 32 (E (tile N p)).val := by
  have hN := hT.pos
  have hN' := hT.lt
  have hp := p.isLt
  have e : (tbl m 0 : IVec S24 32) = Host.gather gather_S24_S24x1_S24_n_0_n_n_0_1_1 (m (((0 : Dev nD) : Thread nD τ).loc main_arg5) : IVec S24 32)
      (StableHlo.after hostOps0 (fun b => m ((0 : Dev nD), b)) (Proc.devRef .tc main_v10) : IVec S24x1 32) := by
    unfold tbl entry
    show StableHlo.after hostOps0 (fun b => m ((0 : Dev nD), b)) (Proc.devRef .tc main_v11) = _
    simp only [hostOps0, List.flatten_cons, List.flatten_nil, List.cons_append, List.nil_append, List.append_nil]
    after_results_simp
  have e2 : (StableHlo.after hostOps0 (fun b => m ((0 : Dev nD), b)) (Proc.devRef .tc main_v10) : IVec S24x1 32) (ix2 p (0 : Fin 1))
      = BitVec.ofNat 32 (tile N p).val := by
    simp only [hostOps0, List.flatten_cons, List.flatten_nil, List.cons_append, List.nil_append, List.append_nil]
    after_results_simp
    have hq : ∀ i, (fun i => shapeCast main_v1.ty.shape (m (0, Proc.tc.devRef main_arg6)) shapeCasts_S1_S_ i : IVec S_ 32) i = BitVec.ofNat 32 N := by
      intro i
      rw [← hT.count]
      refine congrArg (m (0, Proc.tc.devRef main_arg6)) (funext fun a => Fin.ext ?_)
      fin_cases a
      exact Nat.lt_one_iff.mp (Fin.isLt _)
    generalize (fun i => shapeCast main_v1.ty.shape (m (0, Proc.tc.devRef main_arg6)) shapeCasts_S1_S_ i : IVec S_ 32) = q at hq ⊢
    obtain rfl : q = fun _ => BitVec.ofNat 32 N := funext hq
    have hv : IntOp.minsi (BitVec.ofNat 32 p.val) (IntOp.subi (BitVec.ofNat 32 N) 1#32)
        = BitVec.ofNat 32 (tile N p).val := by
      unfold IntOp.subi
      rw [sub_one hN, min_small (by omega) (by omega)]
      rfl
    have hs : IntOp.cmpi .slt (BitVec.ofNat 32 (tile N p).val) 0#32 = 0#1 := by
      have ht := (tile N p).isLt
      have h0 := slt_small (a := (tile N p).val) (b := 0) (by omega) (by omega)
      unfold IntOp.cmpi
      dsimp only
      rw [show (0#32 : BitVec 32) = BitVec.ofNat 32 0 from rfl, h0]
      rw [decide_eq_false (by omega)]
      rfl
    show (if IntOp.cmpi .slt (IntOp.minsi (BitVec.ofNat 32 p.val) (IntOp.subi (BitVec.ofNat 32 N) 1#32)) 0#32 = 1#1 then _
      else IntOp.minsi (BitVec.ofNat 32 p.val) (IntOp.subi (BitVec.ofNat 32 N) 1#32)) = _
    rw [hv, hs, if_neg (by decide)]
  rw [e]
  exact (Routing.gather_take1 gather_S24_S24x1_S24_n_0_n_n_0_1_1 rfl rfl rfl rfl _ _ p (tile N p) e2 (by decide)).trans (hT.expert _)

include hT in
/-- The second table as the pipeline begins. -/
theorem tbl_count (i : S1.Idx) : (tbl m 1 : IVec S1 32) i = BitVec.ofNat 32 N := by
  rw [← hT.count]
  refine (congrFun (entry_arg m (0 : Dev nD) main_arg6 (by decide)) i).trans (congrArg (m (0, Proc.tc.devRef main_arg6)) (funext fun a => Fin.ext ?_))
  fin_cases a
  exact Nat.lt_one_iff.mp (i 0).isLt

include hT in
theorem cnt_eq : cnt m = BitVec.ofNat 32 N := tbl_count hT _

/-! ## The blocks the tables pick -/

/-- The stripe of hidden columns point `i` reads. -/
def stripe (N : ℕ) (i : grid0.Coords) : ℕ := if (i 0).val < N then (i 1).val else 21

include hT in
theorem ix_rows (i : grid0.Coords) : cc0_transform_0 inb_S1_S1_0 numel1_S1 (tbl m) i = ![(tile N (i 0)).val, 0] := by
  have h0 : (i 0).val < 24 := (i 0).isLt
  have hN := hT.pos
  have hN' := hT.lt
  unfold cc0_transform_0
  dsimp only
  rw [show (tbl m).at 1 (Rect.unit (s := S1) ![0] S1.size inb_S1_S1_0) numel1_S1 = BitVec.ofNat 32 N from tbl_count hT _]
  unfold Scalar.minsi Scalar.subi IntOp.subi
  rw [sub_one hN, min_small (by omega) (by omega), WordCmp.toNat_ofNat_of_lt (by omega)]
  rfl

include hT in
theorem expert_at (i : grid0.Coords) :
    (tbl m).at 0 (Rect.unit (s := S24) ![(Scalar.indexCast (BitVec.ofNat 32 (i 0).val) : Index).toNat] S1.size (k0_off1_inb i)) numel1_S1
      = BitVec.ofNat 32 (E (tile N (i 0))).val := by
  have h0 : (i 0).val < 24 := (i 0).isLt
  refine (congrArg (tbl m 0 : IVec S24 32) ?_).trans (tbl_expert hT (i 0))
  funext a
  fin_cases a
  refine Fin.ext ?_
  show (Scalar.indexCast (BitVec.ofNat 32 (i 0).val) : Index).toNat + _ = (i 0).val
  have e : (Scalar.indexCast (BitVec.ofNat 32 (i 0).val) : Index).toNat = (i 0).val := WordCmp.toNat_ofNat_of_lt (by omega)
  exact (Nat.add_zero _).trans e

include hT in
theorem stripe_at (i : grid0.Coords) :
    (Scalar.select (Scalar.cmpi .slt (BitVec.ofNat 32 (i 0).val) ((tbl m).at 1 (Rect.unit (s := S1) ![0] S1.size inb_S1_S1_0) numel1_S1))
      (BitVec.ofNat 32 (i 1).val) 21#32).toNat = stripe N i := by
  have h0 : (i 0).val < 24 := (i 0).isLt
  have h1 : (i 1).val < 22 := (i 1).isLt
  have hN' := hT.lt
  rw [show (tbl m).at 1 (Rect.unit (s := S1) ![0] S1.size inb_S1_S1_0) numel1_S1 = BitVec.ofNat 32 N from tbl_count hT _]
  unfold Scalar.cmpi IntOp.cmpi stripe
  dsimp only
  rw [slt_small (by omega) hN']
  by_cases h : (i 0).val < N
  · rw [decide_eq_true h, if_pos h]
    exact WordCmp.toNat_ofNat_of_lt (by omega)
  · rw [decide_eq_false h, if_neg h]
    rfl

include hT in
theorem ix_up (i : grid0.Coords) : cc0_transform_1 k0_off1_inb numel1_S1 inb_S1_S1_0 (tbl m) i = ![(E (tile N (i 0))).val, 0, stripe N i] := by
  have hE := (E (tile N (i 0))).isLt
  unfold cc0_transform_1
  dsimp only
  rw [expert_at hT, stripe_at hT, WordCmp.toNat_ofNat_of_lt (by omega)]
  rfl

include hT in
theorem ix_down (i : grid0.Coords) : cc0_transform_3 k0_off1_inb numel1_S1 inb_S1_S1_0 (tbl m) i = ![(E (tile N (i 0))).val, stripe N i, 0] := by
  have hE := (E (tile N (i 0))).isLt
  unfold cc0_transform_3
  dsimp only
  rw [expert_at hT, stripe_at hT, WordCmp.toNat_ofNat_of_lt (by omega)]
  rfl

theorem stripe_lt (N : ℕ) (i : grid0.Coords) : stripe N i < 22 := by
  have h1 : (i 1).val < 22 := (i 1).isLt
  unfold stripe
  split <;> omega

include hT in
/-- The blocks the tables pick lie inside the arrays. -/
theorem ok_of : Ok m := by
  refine ⟨fun i => ⟨?_, .inr ?_⟩, fun i => ⟨?_, .inl rfl⟩, fun i => ⟨?_, .inl rfl⟩, fun i => ⟨?_, .inl rfl⟩⟩
  · have ht := (tile N (i 0)).isLt
    rw [ix_rows hT]
    intro a
    fin_cases a
    · show ((tile N (i 0)).val + 1) * 1024 ≤ 24576
      omega
    · show (0 + 1) * 2048 ≤ 2048
      omega
  · exact Affine.block_words_dvd (of_decide_eq_true rfl) (by decide)
  · have hE := (E (tile N (i 0))).isLt
    have hs := stripe_lt N i
    rw [ix_up hT]
    intro a
    fin_cases a
    · show ((E (tile N (i 0))).val + 1) * 1 ≤ 8
      omega
    · show (0 + 1) * 2048 ≤ 2048
      omega
    · show (stripe N i + 1) * 256 ≤ 5632
      omega
  · have hE := (E (tile N (i 0))).isLt
    have hs := stripe_lt N i
    rw [show cc0_transform_2 k0_off1_inb numel1_S1 inb_S1_S1_0 (tbl m) i = cc0_transform_1 k0_off1_inb numel1_S1 inb_S1_S1_0 (tbl m) i from rfl, ix_up hT]
    intro a
    fin_cases a
    · show ((E (tile N (i 0))).val + 1) * 1 ≤ 8
      omega
    · show (0 + 1) * 2048 ≤ 2048
      omega
    · show (stripe N i + 1) * 256 ≤ 5632
      omega
  · have hE := (E (tile N (i 0))).isLt
    have hs := stripe_lt N i
    rw [ix_down hT]
    intro a
    fin_cases a
    · show ((E (tile N (i 0))).val + 1) * 1 ≤ 8
      omega
    · show (stripe N i + 1) * 256 ≤ 5632
      omega
    · show (0 + 1) * 2048 ≤ 2048
      omega

/-- The caller's tables, from what the precondition says of their words. -/
theorem tables_of (m : (ℓ : Loc nD τ sig) → Buf (Elt F) ℓ)
    (h0 : ∀ p : Fin 24, IntOp.cmpi .sge (m (((0 : Dev nD) : Thread nD τ).loc main_arg5) (ix1 p) : BitVec 32) 0#32 = 1#1)
    (h8 : ∀ p : Fin 24, IntOp.cmpi .slt (m (((0 : Dev nD) : Thread nD τ).loc main_arg5) (ix1 p) : BitVec 32) 8#32 = 1#1)
    (h1 : IntOp.cmpi .sge (m (((0 : Dev nD) : Thread nD τ).loc main_arg6) (ix1 (0 : Fin 1)) : BitVec 32) 1#32 = 1#1) :
    ∃ (E : Fin 24 → Fin 8) (N : ℕ), Tables m E N := by
  have bool_one : ∀ b : Bool, BitVec.ofBool b = 1#1 → b = true := by decide
  have word : ∀ w : BitVec 32, IntOp.cmpi .sge w 0#32 = 1#1 → IntOp.cmpi .slt w 8#32 = 1#1 → w.toNat < 8 := by
    intro w h h'
    have e1 := bool_one _ h
    have e2 := bool_one _ h'
    simp only [BitVec.sle, BitVec.slt, decide_eq_true_eq, BitVec.toInt_eq_toNat_cond] at e1 e2
    have := w.isLt
    split at e2 <;> simp at e1 e2 <;> omega
  have word1 : ∀ w : BitVec 32, IntOp.cmpi .sge w 1#32 = 1#1 → 1 ≤ w.toNat ∧ w.toNat < 2 ^ 31 := by
    intro w h
    have e1 := bool_one _ h
    simp only [BitVec.sle, decide_eq_true_eq, BitVec.toInt_eq_toNat_cond] at e1
    have := w.isLt
    have k1 : (1#32 : BitVec 32).toNat = 1 := rfl
    rw [k1] at e1
    split at e1 <;> simp at e1 <;> omega
  refine ⟨fun p => ⟨_, word _ (h0 p) (h8 p)⟩, _, ⟨fun p => ?_, ?_, (word1 _ h1).1, (word1 _ h1).2⟩⟩
  · rw [BitVec.ofNat_toNat, BitVec.setWidth_eq]
  · rw [BitVec.ofNat_toNat, BitVec.setWidth_eq]

end Cert.KernelIdeal.Moe

end
-- ==== Proof.Value.lean ====
/- What the expert kernel leaves in its result array, over the extended reals: each row of a tile in use is its expert's
   feed-forward of the row times the row's gate, and every other row is zero. -/
module

public import proofs.«01_k».proof.Proof.Table
public import Idealize.ShloMosaic.Lib.Pipeline.Value
public import Idealize.ShloMosaic.Lib.Pipeline.ReadBack
public import Idealize.ShloMosaic.Lib.Pipeline.ValueKit.Geometry

@[expose] public section

noncomputable section

namespace Cert.KernelIdeal.Moe

open Cert.KernelIdeal Cert.KernelIdeal.Gen
open Idealize.ShloMosaic Idealize.ShloMosaic.TcCoe Idealize.SL.Sem
open Idealize.ShloMosaic.Pipeline (Dat)

/-! ## The result -/

/-- A hidden value: the gate's sum times its logistic, times the other sum. -/
def gated (a b : EReal) : EReal := a * Ideal.logistic a * b

section
variable (x : Vec Ideal S24576x2048 .bf16) (w1 w3 : Vec Ideal S8x2048x5632 .f32) (w2 : Vec Ideal S8x5632x2048 .f32)
  (g : Vec Ideal S24576x1 .f32)

/-- Row `R`'s hidden value at column `k` for expert `e`. -/
def hid (e : Fin 8) (R : Fin 24576) (k : Fin 5632) : EReal :=
  gated (∑ d : Fin 2048, x (ix2 R d) * w1 (ix3 e d k)) (∑ d : Fin 2048, x (ix2 R d) * w3 (ix3 e d k))

/-- What hidden column `k` adds to row `R`'s result at column `l` for expert `e`. -/
def term (e : Fin 8) (R : Fin 24576) (l : Fin 2048) (k : ℕ) : EReal :=
  if h : k < 5632 then hid x w1 w3 e R ⟨k, h⟩ * w2 (ix3 e ⟨k, h⟩ l) else 0

/-- The tile of row `R`. -/
def tileOf (R : Fin 24576) : Fin 24 := ⟨R.val / 1024, by omega⟩

/-- What the kernel leaves in its result array. -/
def kerOut (E : Fin 24 → Fin 8) (N : ℕ) (y : S24576x2048.Idx) : EReal :=
  if (tileOf (y 0)).val < N then
    (∑ k ∈ Finset.range 5632, term x w1 w3 w2 (E (tileOf (y 0))) (y 0) (y 1) k) * g (ix2 (y 0) (0 : Fin 1))
  else 0

end

/-! ## The body's stores -/

theorem pay1_read (r : Fin 1024) (l : Fin 2048) : k0_pay1 (F := Ideal) (ix2 r l) = 0 := by
  unfold k0_pay1
  pointwise

theorem pay2_read (x : Vec Ideal S1024x2048 .bf16) (w1 w3 : Vec Ideal S1x2048x256 .f32) (a : Vec Ideal S1024x2048 .f32)
    (w2 : Vec Ideal S1x256x2048 .f32) (r : Fin 1024) (l : Fin 2048) : k0_pay2 x w1 w3 a w2 (ix2 r l) =
      a (ix2 r l) + ∑ j, gated (∑ d, x (ix2 r d) * w1 (ix3 (0 : Fin 1) d j)) (∑ d, x (ix2 r d) * w3 (ix3 (0 : Fin 1) d j)) * w2 (ix3 (0 : Fin 1) j l) := by
  unfold k0_pay2 gated
  pointwise

theorem pay3_read (a : Vec Ideal S1024x2048 .f32) (g : Vec Ideal S1024x1 .f32) (r : Fin 1024) (l : Fin 2048) :
    k0_pay3 a g (ix2 r l) = a (ix2 r l) * g (ix2 r (0 : Fin 1)) := by
  unfold k0_pay3
  pointwise

/-! ## The blocks -/

variable {m : (ℓ : Loc nD τ sig) → Buf (Elt Ideal) ℓ} {E : Fin 24 → Fin 8} {N : ℕ} (hT : Tables m E N) (hO : Ok m)

theorem coord0 (t : Fin grid0.N) : (grid0.coords t 0).val = t.val / 22 := by
  have ht : t.val < 528 := Nat.lt_of_lt_of_eq t.isLt N_0
  have e0 : (grid0.coords t 0).val = t.val / 22 % 24 := Pipeline.Grid.coords_val t 0 (by decide) rfl
  omega

theorem coord1 (t : Fin grid0.N) : (grid0.coords t 1).val = t.val % 22 := by
  have e1 : (grid0.coords t 1).val = t.val / 1 % 22 := Pipeline.Grid.coords_val t 1 (by decide) rfl
  omega

include hT in
/-- The body adds to the output block at the points of the tiles in use. -/
theorem active_iff (t : Fin grid0.N) : k0_cond2 (grid0.coords t) (cnt m) = 1#1 ↔ t.val / 22 < N := by
  have ht : t.val < 528 := Nat.lt_of_lt_of_eq t.isLt N_0
  have hN := hT.lt
  rw [cnt_eq hT]
  unfold k0_cond2
  rw [coord0]
  word_cmp

/-- Row `r` of the tile at point `n`. -/
def row (n : ℕ) (hn : n < 528) (r : Fin 1024) : Fin 24576 := ⟨n / 22 * 1024 + r.val, by omega⟩

/-- Point `t` is one of the 528. -/
theorem lt528 (t : Fin (cfgM m hO).N) : t.val < 528 := lt_of_lt_of_eq t.isLt N_0

/-- The tile at point `n`. -/
def tileAt (n : ℕ) (hn : n < 528) : Fin 24 := ⟨n / 22, by omega⟩

include hT in
theorem index0 (t : Fin (cfgM m hO).N) (h : t.val / 22 < N) : ((cfgM m hO).win 0).index t = ![t.val / 22, 0] := by
  refine (show ((cfgM m hO).win 0).index t = _ from ix_rows hT (grid0.coords t)).trans ?_
  have e := coord0 t
  rw [show tile N (grid0.coords t 0) = tileAt t.val (lt528 hO t) from Fin.ext (by unfold tile tileAt; simp only [e]; omega)]
  rfl

include hT in
theorem index1 (t : Fin (cfgM m hO).N) (h : t.val / 22 < N) :
    ((cfgM m hO).win 1).index t = ![(E (tileAt t.val (lt528 hO t))).val, 0, t.val % 22] := by
  refine (show ((cfgM m hO).win 1).index t = _ from ix_up hT (grid0.coords t)).trans ?_
  have e := coord0 t
  have e1 := coord1 t
  rw [show tile N (grid0.coords t 0) = tileAt t.val (lt528 hO t) from Fin.ext (by unfold tile tileAt; simp only [e]; omega),
    show stripe N (grid0.coords t) = t.val % 22 by unfold stripe; rw [e, if_pos h, e1]]

include hT in
theorem index2 (t : Fin (cfgM m hO).N) (h : t.val / 22 < N) :
    ((cfgM m hO).win 2).index t = ![(E (tileAt t.val (lt528 hO t))).val, 0, t.val % 22] := index1 hT hO t h

include hT in
theorem index3 (t : Fin (cfgM m hO).N) (h : t.val / 22 < N) :
    ((cfgM m hO).win 3).index t = ![(E (tileAt t.val (lt528 hO t))).val, t.val % 22, 0] := by
  refine (show ((cfgM m hO).win 3).index t = _ from ix_down hT (grid0.coords t)).trans ?_
  have e := coord0 t
  have e1 := coord1 t
  rw [show tile N (grid0.coords t 0) = tileAt t.val (lt528 hO t) from Fin.ext (by unfold tile tileAt; simp only [e]; omega),
    show stripe N (grid0.coords t) = t.val % 22 by unfold stripe; rw [e, if_pos h, e1]]

theorem index4 (t : Fin (cfgM m hO).N) : ((cfgM m hO).win 4).index t = ![t.val / 22, 0] := by
  refine (show ((cfgM m hO).win 4).index t = cc0_transform_4 (grid0.coords t) from rfl).trans ?_
  have ht : t.val < 528 := lt528 hO t
  unfold cc0_transform_4
  dsimp only
  rw [coord0, WordCmp.toNat_ofNat_of_lt (by omega)]
  rfl

theorem index5 (t : Fin (cfgM m hO).N) : ((cfgM m hO).win 5).index t = ![t.val / 22, 0] := index4 hO t

include hT in
theorem iblk0_read (c : Dev nD) (t : Fin (cfgM m hO).N) (h : t.val / 22 < N) (r : Fin 1024) (d : Fin 2048) :
    iblk m hO c 0 t (ix2 r d) = m ((c : Thread nD τ).loc main_arg0) (ix2 (row t.val (lt528 hO t) r) d) := by
  rw [← entry_arg m c main_arg0 (by decide)]
  blk_simp [iblk]
  refine congrArg _ (funext fun a => Fin.ext ?_)
  fin_cases a
  · blk_simp [index0 hT hO t h]; rfl
  · blk_simp [index0 hT hO t h]; rfl

include hT in
theorem iblk1_read (c : Dev nD) (t : Fin (cfgM m hO).N) (h : t.val / 22 < N) (d : Fin 2048) (j : Fin 256) :
    iblk m hO c 1 t (ix3 (0 : Fin 1) d j) = m ((c : Thread nD τ).loc main_arg1)
      (ix3 (E (tileAt t.val (lt528 hO t))) d (⟨t.val % 22 * 256 + j.val, by omega⟩ : Fin 5632)) := by
  rw [← entry_arg m c main_arg1 (by decide)]
  blk_simp [iblk]
  refine congrArg _ (funext fun a => Fin.ext ?_)
  fin_cases a
  · blk_simp [index1 hT hO t h]; rfl
  · blk_simp [index1 hT hO t h]; rfl
  · blk_simp [index1 hT hO t h]; rfl

include hT in
theorem iblk2_read (c : Dev nD) (t : Fin (cfgM m hO).N) (h : t.val / 22 < N) (d : Fin 2048) (j : Fin 256) :
    iblk m hO c 2 t (ix3 (0 : Fin 1) d j) = m ((c : Thread nD τ).loc main_arg2)
      (ix3 (E (tileAt t.val (lt528 hO t))) d (⟨t.val % 22 * 256 + j.val, by omega⟩ : Fin 5632)) := by
  rw [← entry_arg m c main_arg2 (by decide)]
  blk_simp [iblk]
  refine congrArg _ (funext fun a => Fin.ext ?_)
  fin_cases a
  · blk_simp [index2 hT hO t h]; rfl
  · blk_simp [index2 hT hO t h]; rfl
  · blk_simp [index2 hT hO t h]; rfl

include hT in
theorem iblk3_read (c : Dev nD) (t : Fin (cfgM m hO).N) (h : t.val / 22 < N) (j : Fin 256) (l : Fin 2048) :
    iblk m hO c 3 t (ix3 (0 : Fin 1) j l) = m ((c : Thread nD τ).loc main_arg3)
      (ix3 (E (tileAt t.val (lt528 hO t))) (⟨t.val % 22 * 256 + j.val, by omega⟩ : Fin 5632) l) := by
  rw [← entry_arg m c main_arg3 (by decide)]
  blk_simp [iblk]
  refine congrArg _ (funext fun a => Fin.ext ?_)
  fin_cases a
  · blk_simp [index3 hT hO t h]; rfl
  · blk_simp [index3 hT hO t h]; rfl
  · blk_simp [index3 hT hO t h]; rfl

theorem iblk4_read (c : Dev nD) (t : Fin (cfgM m hO).N) (r : Fin 1024) :
    iblk m hO c 4 t (ix2 r (0 : Fin 1)) = m ((c : Thread nD τ).loc main_arg4) (ix2 (row t.val (lt528 hO t) r) (0 : Fin 1)) := by
  rw [← entry_arg m c main_arg4 (by decide)]
  blk_simp [iblk]
  refine congrArg _ (funext fun a => Fin.ext ?_)
  fin_cases a
  · blk_simp [index4 hO t]; rfl
  · blk_simp [index4 hO t]

/-! ## The output block from point to point -/

/-- The row's expert sum up to hidden column `k` when the tile at point `n` is in use, otherwise zero. -/
def upTo (m : (ℓ : Loc nD τ sig) → Buf (Elt Ideal) ℓ) (E : Fin 24 → Fin 8) (N : ℕ) (c : Dev nD) (n : ℕ) (hn : n < 528) (r : Fin 1024) (l : Fin 2048) (k : ℕ) : EReal :=
  if n / 22 < N then
    ∑ i ∈ Finset.range k, term (m ((c : Thread nD τ).loc main_arg0)) (m ((c : Thread nD τ).loc main_arg1)) (m ((c : Thread nD τ).loc main_arg2))
      (m ((c : Thread nD τ).loc main_arg3)) (E (tileAt n hn)) (row n hn r) l i
  else 0

include hT in
/-- One point's products, added to the sum so far. -/
theorem added (c : Dev nD) (t : Fin (cfgM m hO).N) (h : t.val / 22 < N) (a : Vec Ideal S1024x2048 .f32) (r : Fin 1024) (l : Fin 2048)
    (ha : a (ix2 r l) = upTo m E N c t.val (lt528 hO t) r l (t.val % 22 * 256)) :
    k0_pay2 (iblk m hO c 0 t) (iblk m hO c 1 t) (iblk m hO c 2 t) a (iblk m hO c 3 t) (ix2 r l)
      = upTo m E N c t.val (lt528 hO t) r l (t.val % 22 * 256 + 256) := by
  refine (pay2_read _ _ _ _ _ r l).trans ?_
  rw [ha]
  unfold upTo
  rw [if_pos h, if_pos h, Finset.sum_range_add]
  refine congrArg (_ + ·) ?_
  rw [Finset.sum_range (n := 256)]
  refine Finset.sum_congr rfl fun j _ => ?_
  have hk : t.val % 22 * 256 + j.val < 5632 := by omega
  unfold term hid
  rw [dif_pos hk]
  refine congrArg₂ (· * ·) (congrArg₂ gated (Finset.sum_congr rfl fun d _ => ?_) (Finset.sum_congr rfl fun d _ => ?_)) ?_
  · rw [iblk0_read hT hO c t h, iblk1_read hT hO c t h]
  · rw [iblk0_read hT hO c t h, iblk2_read hT hO c t h]
  · rw [iblk3_read hT hO c t h]

/-- What the output block holds at a row and column after point `n`. -/
def after (m : (ℓ : Loc nD τ sig) → Buf (Elt Ideal) ℓ) (E : Fin 24 → Fin 8) (N : ℕ) (c : Dev nD) (n : ℕ) (hn : n < 528) (r : Fin 1024) (l : Fin 2048) : EReal :=
  if n % 22 = 21 then upTo m E N c n hn r l 5632 * m ((c : Thread nD τ).loc main_arg4) (ix2 (row n hn r) (0 : Fin 1))
  else upTo m E N c n hn r l (n % 22 * 256 + 256)

/-- The body's three branches, followed at one element. -/
theorem step_at {i : grid0.Coords} {v : BitVec 32} (x0 : Vec Ideal S1024x2048 .bf16) (x1 x2 : Vec Ideal S1x2048x256 .f32)
    (x3 : Vec Ideal S1x256x2048 .f32) (x4 : Vec Ideal S1024x1 .f32) (d : Vec Ideal S1024x2048 .f32) (r : Fin 1024) (l : Fin 2048)
    {u w z : EReal} (h1 : k0_cond1 i = 1#1 → 0 = u) (h1' : ¬k0_cond1 i = 1#1 → d (ix2 r l) = u)
    (h2 : k0_cond2 i v = 1#1 → ∀ a : Vec Ideal S1024x2048 .f32, a (ix2 r l) = u → k0_pay2 x0 x1 x2 a x3 (ix2 r l) = w)
    (h2' : ¬k0_cond2 i v = 1#1 → u = w) (h3 : k0_cond3 i = 1#1 → w * x4 (ix2 r (0 : Fin 1)) = z) (h3' : ¬k0_cond3 i = 1#1 → w = z) :
    step i v x0 x1 x2 x3 x4 d (ix2 r l) = z := by
  have ha : ((if k0_cond1 i = 1#1 then (k0_pay1 (F := Ideal)) else d : Vec Ideal S1024x2048 .f32)) (ix2 r l) = u := by
    by_cases h : k0_cond1 i = 1#1
    · rw [if_pos h]; exact (pay1_read r l).trans (h1 h)
    · rw [if_neg h]; exact h1' h
  unfold step
  revert ha
  generalize (if k0_cond1 i = 1#1 then (k0_pay1 (F := Ideal)) else d : Vec Ideal S1024x2048 .f32) = a
  intro ha
  have hb : ((if k0_cond2 i v = 1#1 then k0_pay2 x0 x1 x2 a x3 else a : Vec Ideal S1024x2048 .f32)) (ix2 r l) = w := by
    by_cases h : k0_cond2 i v = 1#1
    · rw [if_pos h]; exact h2 h a ha
    · rw [if_neg h]; exact ha.trans (h2' h)
  revert hb
  generalize (if k0_cond2 i v = 1#1 then k0_pay2 x0 x1 x2 a x3 else a : Vec Ideal S1024x2048 .f32) = b
  intro hb
  by_cases h : k0_cond3 i = 1#1
  · rw [if_pos h]
    exact (pay3_read b x4 r l).trans ((congrArg (· * x4 (ix2 r (0 : Fin 1))) hb).trans (h3 h))
  · rw [if_neg h]
    exact hb.trans (h3' h)

include hT in
theorem step_read (c : Dev nD) (t : Fin (cfgM m hO).N) (d : Vec Ideal S1024x2048 .f32) (r : Fin 1024) (l : Fin 2048)
    (hd : t.val % 22 ≠ 0 → d (ix2 r l) = upTo m E N c t.val (lt528 hO t) r l (t.val % 22 * 256)) :
    stepAt m hO c t d (ix2 r l) = after m E N c t.val (lt528 hO t) r l := by
  refine step_at _ _ _ _ _ d r l (u := upTo m E N c t.val (lt528 hO t) r l (t.val % 22 * 256))
    (w := upTo m E N c t.val (lt528 hO t) r l (t.val % 22 * 256 + 256)) (fun h => ?_) (fun h => hd (fun h' => h ((first_iff t).2 h')))
    (fun h a ha => added hT hO c t ((active_iff hT t).1 h) a r l ha) (fun h => ?_) (fun h => ?_) (fun h => ?_)
  · unfold upTo
    rw [(first_iff t).1 h]
    simp
  · have h' : ¬t.val / 22 < N := fun h' => h ((active_iff hT t).2 h')
    unfold upTo
    rw [if_neg h', if_neg h']
  · unfold after
    rw [if_pos ((last_iff t).1 h), (last_iff t).1 h]
    exact congrArg (fun q : EReal => _ * q) (iblk4_read hO c t r)
  · unfold after
    rw [if_neg (fun h' => h ((last_iff t).2 h'))]

include hT in
theorem state (c : Dev nD) : ∀ (n : ℕ) (hn : n < (cfgM m hO).N) (hN : n < 528) (r : Fin 1024) (l : Fin 2048),
    outs m hO c n hn (ix2 r l) = after m E N c n hN r l := by
  intro n
  induction n with
  | zero =>
    intro hn hN r l
    refine (congrFun (outs_first m hO c ⟨0, hn⟩ (Nat.zero_mod _) (k0_pay1 (F := Ideal))) _).trans ?_
    exact step_read hT hO c ⟨0, hn⟩ _ r l (fun h => absurd (Nat.zero_mod _) h)
  | succ n ih =>
    intro hn hN r l
    refine (congrFun (outs_next m hO c ⟨n + 1, hn⟩ (Nat.succ_ne_zero n)) _).trans ?_
    refine step_read hT hO c ⟨n + 1, hn⟩ _ r l (fun h => ?_)
    have h' : (n + 1) % 22 ≠ 0 := h
    have hrow : row n (Nat.lt_of_succ_lt hN) r = row (n + 1) hN r :=
      Fin.ext (by show n / 22 * 1024 + r.val = (n + 1) / 22 * 1024 + r.val; omega)
    have htile : tileAt n (Nat.lt_of_succ_lt hN) = tileAt (n + 1) hN :=
      Fin.ext (by show n / 22 = (n + 1) / 22; omega)
    refine (ih (Nat.lt_of_succ_lt hn) (Nat.lt_of_succ_lt hN) r l).trans ?_
    unfold after
    rw [if_neg (by omega)]
    unfold upTo
    rw [hrow, htile, show n / 22 = (n + 1) / 22 by omega, show n % 22 * 256 + 256 = (n + 1) % 22 * 256 by omega]

/-! ## The result array -/

/-- The result, as an array. -/
def G (m : (ℓ : Loc nD τ sig) → Buf (Elt Ideal) ℓ) (E : Fin 24 → Fin 8) (N : ℕ) (c : Dev nD) : Buf (Elt Ideal) ((c : Thread nD τ).loc main_v12) :=
  kerOut (m ((c : Thread nD τ).loc main_arg0)) (m ((c : Thread nD τ).loc main_arg1)) (m ((c : Thread nD τ).loc main_arg2))
    (m ((c : Thread nD τ).loc main_arg3)) (m ((c : Thread nD τ).loc main_arg4)) E N

include hT in
/-- The block after a tile's last point is the result at the tile's rows. -/
theorem last_block (c : Dev nD) (t : Fin (cfgM m hO).N) (hm : t.val % 22 = 21) (y : S1024x2048.Idx) (z : S24576x2048.Idx)
    (h0 : (z 0).val = t.val / 22 * 1024 + (y 0).val) (h1 : (z 1).val = (y 1).val) :
    outs m hO c t.val t.isLt y = G m E N c z := by
  have ht : t.val < 528 := lt528 hO t
  have hy0 : (y 0).val < 1024 := (y 0).isLt
  have hy1 : (y 1).val < 2048 := (y 1).isLt
  have hx : y = ix2 (⟨(y 0).val, hy0⟩ : Fin 1024) (⟨(y 1).val, hy1⟩ : Fin 2048) := by
    funext a
    fin_cases a <;> rfl
  have hr : z 0 = row t.val ht ⟨(y 0).val, hy0⟩ := Fin.ext h0
  have hl : z 1 = (⟨(y 1).val, hy1⟩ : Fin 2048) := Fin.ext h1
  rw [hx, state hT hO c t.val t.isLt ht]
  unfold G kerOut
  rw [hr, hl]
  have htile : tileOf (row t.val ht ⟨(y 0).val, hy0⟩) = tileAt t.val ht :=
    Fin.ext (by show (t.val / 22 * 1024 + (y 0).val) / 1024 = t.val / 22; omega)
  rw [htile]
  unfold after upTo
  rw [if_pos hm]
  show (if t.val / 22 < N then _ else _) * _ = if t.val / 22 < N then _ else _
  by_cases h : t.val / 22 < N
  · rw [if_pos h, if_pos h]
  · rw [if_neg h, if_neg h, zero_mul]

/-- Where an element of the block at point `t` lies in the array. -/
theorem emb5 (t : Fin (cfgM m hO).N) (y : S1024x2048.Idx) (z : S24576x2048.Idx) (f : Fin 2 → ℕ) (hf : f = ![t.val / 22, 0])
    (k0 : (z 0).val = f 0 * 1024 + 1 * (y 0).val) (k1 : (z 1).val = f 1 * 2048 + 1 * (y 1).val) :
    (z 0).val = t.val / 22 * 1024 + (y 0).val ∧ (z 1).val = (y 1).val := by
  subst hf
  have k0' : (z 0).val = t.val / 22 * 1024 + 1 * (y 0).val := k0
  have k1' : (z 1).val = 0 * 2048 + 1 * (y 1).val := k1
  exact ⟨by omega, by omega⟩

include hT in
/-- What a tile's last point writes back is its block of the result. -/
theorem flushed5 (c : Dev nD) (t : Fin (cfgM m hO).N) (hf : ((cfgM m hO).win 5).flush t = true) :
    (dats m hO 0 c).flushed 5 t = (((cfgM m hO).win 5).blk t).view.read (Elt Ideal) (G m E N c) := by
  show ((cfgM m hO).win 5).cut ((cfgM m hO).grid.coords t) ((dats m hO 0 c).after 5 t) = _
  rw [after5]
  have hm : t.val % 22 = 21 := (flush5 (adm m hO) t).mp hf
  refine funext fun (y : S1024x2048.Idx) => ?_
  have h := emb5 hO t y ((((cfgM m hO).win 5).blk t).view.emb y) (((cfgM m hO).win 5).index t) (index5 hO t) rfl rfl
  exact last_block hT hO c t hm y ((((cfgM m hO).win 5).blk t).view.emb y) h.1 h.2

/-- An index of the array is in point `t`'s block exactly when each coordinate is in the block's range. -/
theorem mem_blk5 (t : Fin (cfgM m hO).N) (i : S24576x2048.Idx) :
    i ∈ (((cfgM m hO).win 5).blk t).view.set ↔ ∀ a : Fin 2, ((cfgM m hO).win 5).index t a * S1024x2048.size a ≤ (i a).val
      ∧ (i a).val < ((cfgM m hO).win 5).index t a * S1024x2048.size a + S1024x2048.size a := by
  show i ∈ ((View.whole main_v12).slice (((cfgM m hO).win 5).rect t)).set ↔ _
  refine (Iff.of_eq (congrArg (i ∈ ·) (View.set_slice_whole main_v12 (((cfgM m hO).win 5).rect t)))).trans ?_
  exact Rect.mem_set_unit

/-- Every index is in the block some tile's last point writes back. -/
theorem covered5 (i : S24576x2048.Idx) :
    ∃ t : Fin (cfgM m hO).N, ((cfgM m hO).win 5).flush t = true ∧ i ∈ (((cfgM m hO).win 5).blk t).view.set := by
  have h0 : (i 0).val < 24576 := (i 0).isLt
  have h1 : (i 1).val < 2048 := (i 1).isLt
  have hlt : (i 0).val / 1024 * 22 + 21 < (cfgM m hO).N := lt_of_lt_of_eq (by omega : _ < 528) N_0.symm
  refine ⟨⟨(i 0).val / 1024 * 22 + 21, hlt⟩, (flush5 (adm m hO) _).2 (by show ((i 0).val / 1024 * 22 + 21) % 22 = 21; omega), ?_⟩
  rw [mem_blk5]
  have e := index5 hO ⟨(i 0).val / 1024 * 22 + 21, hlt⟩
  intro a
  rw [e]
  match a with
  | ⟨0, _⟩ =>
    show ((i 0).val / 1024 * 22 + 21) / 22 * 1024 ≤ (i 0).val ∧ (i 0).val < ((i 0).val / 1024 * 22 + 21) / 22 * 1024 + 1024
    omega
  | ⟨1, _⟩ =>
    show 0 * 2048 ≤ (i 1).val ∧ (i 1).val < 0 * 2048 + 2048
    omega

include hT in
/-- The array after the run. -/
theorem final5 (c : Dev nD) : (dats m hO 0 c).arrAt 5 (cfgM m hO).N = G m E N c :=
  (dats m hO 0 c).arrAt_eq_of_cover 5 _ (fun t hf => flushed5 hT hO c t hf) (fun i => covered5 hO i)

include hT in
/-- The run: the result array as `G` says, the arguments as they began. -/
theorem run (hO : Ok m) (ρ : Dev nD → PrngReg) : θ_run defs (onTc (τ := τ) (main (F := Ideal))) ⟨m, fun _ => 0, ρ⟩ (fun r => ∀ c : Dev nD,
      r.2.mem ((c.tc : Thread nD τ).loc main_v12) = G m E N c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c =>
    ⟨(h.1 c).1 5 |>.trans (final5 hT hO c),
      (h.1 c).1 0 |>.trans (((dats m hO 0 c).arrAt_in 0 rfl _).trans ((A_eq m hO c 0).trans (entry_arg m c main_arg0 (by decide)))),
      (h.1 c).1 1 |>.trans (((dats m hO 0 c).arrAt_in 1 rfl _).trans ((A_eq m hO c 1).trans (entry_arg m c main_arg1 (by decide)))),
      (h.1 c).1 2 |>.trans (((dats m hO 0 c).arrAt_in 2 rfl _).trans ((A_eq m hO c 2).trans (entry_arg m c main_arg2 (by decide)))),
      (h.1 c).1 3 |>.trans (((dats m hO 0 c).arrAt_in 3 rfl _).trans ((A_eq m hO c 3).trans (entry_arg m c main_arg3 (by decide)))),
      (h.1 c).1 4 |>.trans (((dats m hO 0 c).arrAt_in 4 rfl _).trans ((A_eq m hO c 4).trans (entry_arg m c main_arg4 (by decide)))),
      ((h.1 c).2 main_arg5 (by decide : main_arg5 ∈ Pipeline.restRefs sig spec0)).trans (entry_arg m c main_arg5 (by decide)),
      ((h.1 c).2 main_arg6 (by decide : main_arg6 ∈ Pipeline.restRefs sig spec0)).trans (entry_arg m c main_arg6 (by decide))⟩)
    (run_quiescent m ρ hO)

end Cert.KernelIdeal.Moe

end
-- ==== Proof.Ref.lean ====
/- The reference's result, at an index, and that it is the kernel's. -/
module

public import proofs.«01_k».proof.Proof.Gen.ReferenceIdeal.Read
public import proofs.«01_k».proof.Proof.Value
public import Idealize.ShloMosaic.Lib.Pointwise

@[expose] public section

noncomputable section

namespace Cert.KernelIdeal.Moe.Ref

open Cert.ReferenceIdeal Cert.ReferenceIdeal.Read Idealize.ShloMosaic Idealize.ShloMosaic.TcCoe

variable (x : (⟨S24576x2048, .bf16⟩ : BufTy).Contents (Elt Ideal)) (w1 w3 : (⟨S8x2048x5632, .f32⟩ : BufTy).Contents (Elt Ideal))
  (w2 : (⟨S8x5632x2048, .f32⟩ : BufTy).Contents (Elt Ideal)) (g : (⟨S24576x1, .f32⟩ : BufTy).Contents (Elt Ideal))
  (te : (⟨S24, .i32⟩ : BufTy).Contents (Elt Ideal)) (na : (⟨S1, .i32⟩ : BufTy).Contents (Elt Ideal))

theorem one_bits : Ideal.ofBits FTy.f32 0x3F800000#32 = 1 := by
  simp [Ideal.ofBits, Ideal.ieee, -EReal.coe_mul]
  norm_num
theorem zero_bits : Ideal.ofBits FTy.f32 0x00000000#32 = 0 := by simp [Ideal.ofBits, Ideal.ieee]

theorem up_read (e : Fin 8) (R : Fin 24576) (k : Fin 5632) :
    val_main_v2 (F := Ideal) x w1 (ix3 e R k) = ∑ d : Fin 2048, x (ix2 R d) * w1 (ix3 e d k) := by
  rw [val_main_v2_apply, val_main_v1_apply]
  refine Finset.sum_congr rfl fun d _ => (mul_comm (G := EReal) _ _).trans (congrArg₂ (fun a b : EReal => a * b) (congrArg x ?_) (congrArg w1 ?_))
  · funext a; fin_cases a <;> rfl
  · funext a; fin_cases a <;> rfl

theorem up3_read (e : Fin 8) (R : Fin 24576) (k : Fin 5632) :
    val_main_v5 (F := Ideal) x w3 (ix3 e R k) = ∑ d : Fin 2048, x (ix2 R d) * w3 (ix3 e d k) := by
  rw [val_main_v5_apply, val_main_v4_apply]
  refine Finset.sum_congr rfl fun d _ => (mul_comm (G := EReal) _ _).trans (congrArg₂ (fun a b : EReal => a * b) (congrArg x ?_) (congrArg w3 ?_))
  · funext a; fin_cases a <;> rfl
  · funext a; fin_cases a <;> rfl

/-- The reference's hidden value is the kernel's. -/
theorem hid_read (e : Fin 8) (R : Fin 24576) (k : Fin 5632) :
    val_main_v6 (F := Ideal) x w1 w3 (ix3 e R k) = hid x w1 w3 e R k := by
  rw [val_main_v6_apply, val_main_v3_apply, val_main_call0_v5_apply, val_main_call0_v4_apply, val_main_call0_cst_0_apply,
    val_main_call0_v3_apply, val_main_call0_v2_apply, val_main_call0_cst_apply, val_main_call0_v1_apply,
    val_main_call0_v0_apply, up_read, up3_read]
  unfold hid gated Ideal.logistic
  rw [← one_bits]
  rfl

/-- One expert's feed-forward of a row. -/
theorem down_read (e : Fin 8) (R : Fin 24576) (l : Fin 2048) :
    val_main_v7 (F := Ideal) x w1 w3 w2 (ix3 e R l) = ∑ k ∈ Finset.range 5632, term x w1 w3 w2 e R l k := by
  rw [val_main_v7_apply, Finset.sum_range]
  refine Finset.sum_congr rfl fun k _ => ?_
  unfold term
  rw [dif_pos k.isLt, ← hid_read]
  refine congrArg₂ (fun a b : EReal => a * b) (congrArg (val_main_v6 (F := Ideal) x w1 w3) ?_) (congrArg w2 ?_)
  · funext a; fin_cases a <;> rfl
  · funext a; fin_cases a <;> rfl

variable {E : Fin 24 → Fin 8} {N : ℕ}

/-- The reference's gate of a row for an expert. -/
theorem gate_read (hE : ∀ p : Fin 24, te (ix1 p) = BitVec.ofNat 32 (E p).val) (hN : na (ix1 (0 : Fin 1)) = BitVec.ofNat 32 N) (hlt : N < 2 ^ 31)
    (R : Fin 24576) (e : Fin 8) : val_main_v24 (F := Ideal) g te na (ix2 R e) =
      if e = E (tileOf R) ∧ (tileOf R).val < N then g (ix2 R (0 : Fin 1)) else 0 := by
  have hp : (tileOf R).val < 2 ^ 31 := Nat.lt_trans (tileOf R).isLt (by decide)
  have hc : val_main_v23 (F := Ideal) te na (ix2 R e) =
      IntOp.cmpi .eq (BitVec.ofNat 32 (E (tileOf R)).val) (BitVec.ofNat 32 e.val)
        &&& IntOp.cmpi .slt (BitVec.ofNat 32 (tileOf R).val) (BitVec.ofNat 32 N) := by
    rw [val_main_v23_apply, val_main_v21_apply, val_main_v19_apply, val_main_v10_apply, val_main_v9_apply, val_main_v8_apply,
      val_main_v20_apply, val_main_v18_apply, val_main_v17_apply, val_main_v22_apply, val_main_v16_apply, val_main_v15_apply,
      val_main_v14_apply, val_main_v13_apply, val_main_v11_apply, val_main_v12_apply, ← hE, ← hN]
    refine congrArg₂ (fun a b : BitVec 1 => a &&& b) (congrArg₂ (IntOp.cmpi .eq) (congrArg te ?_) rfl) (congrArg₂ (IntOp.cmpi .slt) rfl (congrArg na ?_))
    · funext a; fin_cases a; rfl
    · funext a; fin_cases a; rfl
  have hg : val_main_call1_v1 (F := Ideal) g (ix2 R e) = g (ix2 R (0 : Fin 1)) := by
    rw [val_main_call1_v1_apply]
    refine congrArg g ?_
    funext a; fin_cases a <;> rfl
  have hz : val_main_call1_v2 (F := Ideal) (ix2 R e) = 0 := by
    rw [val_main_call1_v2_apply, val_main_call1_v0_apply, val_main_cst_apply]
    exact zero_bits
  rw [val_main_v24_apply, hc, hg, hz]
  have h1 : IntOp.cmpi .eq (BitVec.ofNat 32 (E (tileOf R)).val) (BitVec.ofNat 32 e.val) = if e = E (tileOf R) then 1#1 else 0#1 := by
    exact (by decide : ∀ f e : Fin 8, IntOp.cmpi .eq (BitVec.ofNat 32 f.val) (BitVec.ofNat 32 e.val) = if e = f then 1#1 else 0#1) _ _
  have h2 : IntOp.cmpi .slt (BitVec.ofNat 32 (tileOf R).val) (BitVec.ofNat 32 N) = if (tileOf R).val < N then 1#1 else 0#1 := by
    show BitVec.ofBool ((BitVec.ofNat 32 (tileOf R).val).slt (BitVec.ofNat 32 N)) = _
    rw [slt_small hp hlt]
    by_cases h : (tileOf R).val < N
    · rw [if_pos h, decide_eq_true h]; rfl
    · rw [if_neg h, decide_eq_false h]; rfl
  rw [h1, h2]
  by_cases a : e = E (tileOf R) <;> by_cases b : (tileOf R).val < N <;> simp [a, b, Scalar.select]

/-- The reference's result is the kernel's. -/
theorem out_read (hE : ∀ p : Fin 24, te (ix1 p) = BitVec.ofNat 32 (E p).val) (hN : na (ix1 (0 : Fin 1)) = BitVec.ofNat 32 N) (hlt : N < 2 ^ 31)
    (y : S24576x2048.Idx) : val_main_v25 (F := Ideal) x w1 w3 w2 g te na y = kerOut x w1 w3 w2 g E N y := by
  obtain ⟨R, l, rfl⟩ : ∃ R l, y = ix2 R l := ⟨y 0, y 1, by funext a; fin_cases a <;> rfl⟩
  have hy : kerOut x w1 w3 w2 g E N (ix2 R l) = if (tileOf R).val < N then
      (∑ k ∈ Finset.range 5632, term x w1 w3 w2 (E (tileOf R)) R l k) * g (ix2 R (0 : Fin 1)) else 0 := rfl
  have he : ∀ e : Fin 8, val_main_v24 (F := Ideal) g te na (lidx_main_v25 (ix2 R l) e) * val_main_v7 (F := Ideal) x w1 w3 w2 (ridx_main_v25 (ix2 R l) e)
      = (if e = E (tileOf R) ∧ (tileOf R).val < N then g (ix2 R (0 : Fin 1)) else 0 : EReal) * ∑ k ∈ Finset.range 5632, term x w1 w3 w2 e R l k := fun e => by
    rw [← gate_read g te na hE hN hlt, ← down_read]
    refine congrArg₂ (fun a b : EReal => a * b) (congrArg (val_main_v24 (F := Ideal) g te na) ?_) (congrArg (val_main_v7 (F := Ideal) x w1 w3 w2) ?_)
    · funext a; fin_cases a <;> rfl
    · funext a; fin_cases a <;> rfl
  rw [val_main_v25_apply, hy, Finset.sum_congr rfl fun e _ => he e]
  rw [Finset.sum_eq_single (E (tileOf R)) (fun e _ h => by rw [if_neg (fun h' => h h'.1), zero_mul])
    (fun h => absurd (Finset.mem_univ _) h)]
  by_cases h : (tileOf R).val < N
  · rw [if_pos ⟨rfl, h⟩, if_pos h]
    exact mul_comm (G := EReal) _ _
  · rw [if_neg (fun h' => h h'.2), if_neg h, zero_mul]

end Cert.KernelIdeal.Moe.Ref

end
-- ==== Proof.Mat3.lean ====
/- The product of the rows with the value weights: what one grid point leaves in the result block and in the carried
   rounded weights, the result array after the run, and that it is the reference's product. -/
module

public import proofs.«01_k».proof.Proof.Gen.Kernel3Ideal.Value
public import proofs.«01_k».proof.Proof.Gen.Reference3Ideal.Read
public import Idealize.ShloMosaic.Lib.Pointwise
public import Idealize.ShloMosaic.Lib.Pipeline.Value
public import Idealize.ShloMosaic.Lib.Pipeline.ReadBack
public import Idealize.ShloMosaic.Lib.Pipeline.ValueKit.Geometry
public import Idealize.ShloMosaic.Lib.Pipeline.ValueKit.Acc

@[expose] public section

noncomputable section

namespace Cert.Mat3

open Cert.Kernel3Ideal Cert.Kernel3Ideal.Gen Idealize.ShloMosaic Idealize.ShloMosaic.TcCoe

variable (m : (ℓ : Loc nD τ sig) → Buf (Elt Ideal) ℓ)

/-- The first point of a block of columns: the weights are copied, rounded, and used. -/
theorem first_point (c : Dev nD) (t : Fin cfg0.N) (h0 : t.val % 17 = 0) :
    outsAt0 m c t.val t.isLt = (k0_pay2 (k0_pay1 (iblk m c 1 t)) (iblk m c 0 t), k0_pay1 (iblk m c 1 t)) := by
  rw [outsAt0_A m c t h0]
  frame_out

/-- Any other point uses the copy the point before left. -/
theorem other_point (c : Dev nD) (t : Fin cfg0.N) (h0 : ¬t.val % 17 = 0)
    (p : Vec Ideal S512x1024 .f32 × Vec Ideal S2048x1024 .bf16)
    (hp : outsAt0 m c (t.val - 1) (Nat.lt_of_le_of_lt (Nat.sub_le _ _) t.isLt) = p) :
    outsAt0 m c t.val t.isLt = (k0_pay2 p.2 (iblk m c 0 t), p.2) := by
  rw [outsAt0_B m c t h0, hp]
  frame_out
  try simp only [read_unread_whole]
  try unfold sout0_B_0
  try rfl

theorem pay1_read (w : Vec Ideal S2048x1024 .f32) (d : Fin 2048) (l : Fin 1024) :
    k0_pay1 w (ix2 d l) = w (ix2 d l) := by
  unfold k0_pay1
  pointwise

theorem pay2_read (w : Vec Ideal S2048x1024 .bf16) (x : Vec Ideal S512x2048 .f32) (r : Fin 512) (l : Fin 1024) :
    k0_pay2 w x (ix2 r l) = ∑ d, x (ix2 r d) * w (ix2 d l) := by
  unfold k0_pay2
  pointwise

/-- Row `r` of the block of rows at point `n`. -/
def row (n : ℕ) (r : Fin 512) : Fin 8704 := ⟨n % 17 * 512 + r.val, by omega⟩
/-- Column `l` of the block of columns at point `n`. -/
def col (n : ℕ) (hn : n < 34) (l : Fin 1024) : Fin 2048 := ⟨n / 17 * 1024 + l.val, by omega⟩

theorem index0 : ∀ t : Fin cfg0.N, win0_0.index t = ![t.val % 17, 0] := (by decide +kernel : ∀ t : Fin grid0.N, _)
theorem index1 : ∀ t : Fin cfg0.N, win0_1.index t = ![0, t.val / 17] := (by decide +kernel : ∀ t : Fin grid0.N, _)

theorem iblk0_read (c : Dev nD) (t : Fin cfg0.N) (r : Fin 512) (d : Fin 2048) :
    iblk m c 0 t (ix2 r d) = V m c main_arg0 (ix2 (row t.val r) d) := by
  blk_simp [iblk]
  refine congrArg _ (funext fun a => Fin.ext ?_)
  fin_cases a
  · blk_simp [index0]; rfl
  · blk_simp [index0]; rfl

theorem iblk1_read (c : Dev nD) (t : Fin cfg0.N) (d : Fin 2048) (l : Fin 1024) :
    iblk m c 1 t (ix2 d l) = V m c main_arg1 (ix2 d (col t.val (lt_of_lt_of_eq t.isLt N_0) l)) := by
  blk_simp [iblk]
  refine congrArg _ (funext fun a => Fin.ext ?_)
  fin_cases a
  · blk_simp [index1]; rfl
  · blk_simp [index1]; rfl

/-- A row times a column. -/
def prod (x : Vec Ideal S8704x2048 .f32) (w : Vec Ideal S2048x2048 .f32) (R : Fin 8704) (L : Fin 2048) : EReal :=
  ∑ d : Fin 2048, x (ix2 R d) * w (ix2 d L)

/-- After point `n` the carried copy is its block of columns and the result block the rows times these columns. -/
theorem state (c : Dev nD) : ∀ (n : ℕ) (hn : n < cfg0.N) (hN : n < 34),
    (∀ d l, (outsAt0 m c n hn).2 (ix2 d l) = V m c main_arg1 (ix2 d (col n hN l))) ∧
    (∀ r l, (outsAt0 m c n hn).1 (ix2 r l) = prod (V m c main_arg0) (V m c main_arg1) (row n r) (col n hN l)) := by
  intro n
  induction n with
  | zero =>
    intro hn hN
    rw [first_point m c ⟨0, hn⟩ rfl]
    refine ⟨fun d l => ?_, fun r l => ?_⟩
    · exact (pay1_read _ _ _).trans (iblk1_read m c _ d l)
    · refine (pay2_read _ _ _ _).trans ?_
      refine Finset.sum_congr rfl fun d _ => ?_
      rw [pay1_read, iblk1_read, iblk0_read]
  | succ n ih =>
    intro hn hN
    by_cases h0 : (n + 1) % 17 = 0
    · rw [first_point m c ⟨n + 1, hn⟩ h0]
      refine ⟨fun d l => ?_, fun r l => ?_⟩
      · exact (pay1_read _ _ _).trans (iblk1_read m c _ d l)
      · refine (pay2_read _ _ _ _).trans ?_
        refine Finset.sum_congr rfl fun d _ => ?_
        rw [pay1_read, iblk1_read, iblk0_read]
    · have hc : ∀ l, col n (by omega) l = col (n + 1) hN l := fun l => Fin.ext (by
        show n / 17 * 1024 + l.val = (n + 1) / 17 * 1024 + l.val
        have : n / 17 = (n + 1) / 17 := by omega
        rw [this])
      have hs := (ih (Nat.lt_of_succ_lt hn) (by omega)).1
      rw [other_point m c ⟨n + 1, hn⟩ h0 _ rfl]
      refine ⟨fun d l => (hs d l).trans (by rw [hc]), fun r l => ?_⟩
      refine (pay2_read _ _ _ _).trans ?_
      refine Finset.sum_congr rfl fun d _ => ?_
      rw [iblk0_read]
      exact congrArg₂ (fun a b : EReal => a * b) rfl ((hs d l).trans (by rw [hc]))

/-- The result array after the run. -/
theorem final (c : Dev nD) (y : S8704x2048.Idx) :
    Value.G2 m c y = prod (V m c main_arg0) (V m c main_arg1) (y 0) (y 1) := by
  have h0 : (y 0).val < 8704 := (y 0).isLt
  have h1 : (y 1).val < 2048 := (y 1).isLt
  have hp : Value.pt2Of y = (y 0).val / 512 + 17 * ((y 1).val / 1024) := by
    show 1 * ((y 0).val / 512 - 0) + 17 * ((y 1).val / 1024 - 0) = _
    omega
  have hN : Value.pt2Of y < 34 := by rw [hp]; omega
  unfold Value.G2
  rw [dif_pos (lt_of_lt_of_eq hN N_0.symm), ← Value.outsAt0_sweep m c _ (lt_of_lt_of_eq hN N_0.symm)]
  have hl : Value.loc2Of y = ix2 ⟨(y 0).val % 512, Nat.mod_lt _ (by decide)⟩ ⟨(y 1).val % 1024, Nat.mod_lt _ (by decide)⟩ := by
    funext a
    fin_cases a <;> rfl
  rw [hl, (state m c _ (lt_of_lt_of_eq hN N_0.symm) hN).2]
  have hr : row (Value.pt2Of y) ⟨(y 0).val % 512, Nat.mod_lt _ (by decide)⟩ = y 0 :=
    Fin.ext (by show Value.pt2Of y % 17 * 512 + (y 0).val % 512 = (y 0).val; rw [hp]; omega)
  have hc : col (Value.pt2Of y) hN ⟨(y 1).val % 1024, Nat.mod_lt _ (by decide)⟩ = y 1 :=
    Fin.ext (by show Value.pt2Of y / 17 * 1024 + (y 1).val % 1024 = (y 1).val; rw [hp]; omega)
  rw [hr, hc]

/-- The reference's product, at an index. -/
theorem ref_read (x : Vec Ideal S8704x2048 .f32) (w : Vec Ideal S2048x2048 .f32) (y : S8704x2048.Idx) :
    Cert.Reference3Ideal.Read.val_main_v0 (F := Ideal) x w y = prod x w (y 0) (y 1) := by
  rw [Cert.Reference3Ideal.Read.val_main_v0_apply]
  refine Finset.sum_congr rfl fun d _ => congrArg₂ (fun a b : EReal => a * b) (congrArg x ?_) (congrArg w ?_)
  · funext a; fin_cases a <;> rfl
  · funext a; fin_cases a <;> rfl

end Cert.Mat3

end
-- ==== Proof.Mat4.lean ====
/- The product of the rows with the query weights: what one grid point leaves in the result block and in the carried
   rounded weights, the result array after the run, and that it is the reference's product. -/
module

public import proofs.«01_k».proof.Proof.Gen.Kernel4Ideal.Value
public import proofs.«01_k».proof.Proof.Gen.Reference4Ideal.Read
public import Idealize.ShloMosaic.Lib.Pointwise
public import Idealize.ShloMosaic.Lib.Pipeline.Value
public import Idealize.ShloMosaic.Lib.Pipeline.ReadBack
public import Idealize.ShloMosaic.Lib.Pipeline.ValueKit.Geometry
public import Idealize.ShloMosaic.Lib.Pipeline.ValueKit.Acc

@[expose] public section

noncomputable section

namespace Cert.Mat4

open Cert.Kernel4Ideal Cert.Kernel4Ideal.Gen Idealize.ShloMosaic Idealize.ShloMosaic.TcCoe

variable (m : (ℓ : Loc nD τ sig) → Buf (Elt Ideal) ℓ)

/-- The first point of a block of columns: the weights are copied, rounded, and used. -/
theorem first_point (c : Dev nD) (t : Fin cfg0.N) (h0 : t.val % 17 = 0) :
    outsAt0 m c t.val t.isLt = (k0_pay2 (k0_pay1 (iblk m c 1 t)) (iblk m c 0 t), k0_pay1 (iblk m c 1 t)) := by
  rw [outsAt0_A m c t h0]
  frame_out

/-- Any other point uses the copy the point before left. -/
theorem other_point (c : Dev nD) (t : Fin cfg0.N) (h0 : ¬t.val % 17 = 0)
    (p : Vec Ideal S512x1024 .bf16 × Vec Ideal S2048x1024 .bf16)
    (hp : outsAt0 m c (t.val - 1) (Nat.lt_of_le_of_lt (Nat.sub_le _ _) t.isLt) = p) :
    outsAt0 m c t.val t.isLt = (k0_pay2 p.2 (iblk m c 0 t), p.2) := by
  rw [outsAt0_B m c t h0, hp]
  frame_out
  try simp only [read_unread_whole]
  try unfold sout0_B_0
  try rfl

theorem pay1_read (w : Vec Ideal S2048x1024 .f32) (d : Fin 2048) (l : Fin 1024) :
    k0_pay1 w (ix2 d l) = w (ix2 d l) := by
  unfold k0_pay1
  pointwise

theorem pay2_read (w : Vec Ideal S2048x1024 .bf16) (x : Vec Ideal S512x2048 .f32) (r : Fin 512) (l : Fin 1024) :
    k0_pay2 w x (ix2 r l) = ∑ d, x (ix2 r d) * w (ix2 d l) := by
  unfold k0_pay2
  pointwise

/-- Row `r` of the block of rows at point `n`. -/
def row (n : ℕ) (r : Fin 512) : Fin 8704 := ⟨n % 17 * 512 + r.val, by omega⟩
/-- Column `l` of the block of columns at point `n`. -/
def col (n : ℕ) (hn : n < 34) (l : Fin 1024) : Fin 2048 := ⟨n / 17 * 1024 + l.val, by omega⟩

theorem index0 : ∀ t : Fin cfg0.N, win0_0.index t = ![t.val % 17, 0] := (by decide +kernel : ∀ t : Fin grid0.N, _)
theorem index1 : ∀ t : Fin cfg0.N, win0_1.index t = ![0, t.val / 17] := (by decide +kernel : ∀ t : Fin grid0.N, _)

theorem iblk0_read (c : Dev nD) (t : Fin cfg0.N) (r : Fin 512) (d : Fin 2048) :
    iblk m c 0 t (ix2 r d) = V m c main_arg0 (ix2 (row t.val r) d) := by
  blk_simp [iblk]
  refine congrArg _ (funext fun a => Fin.ext ?_)
  fin_cases a
  · blk_simp [index0]; rfl
  · blk_simp [index0]; rfl

theorem iblk1_read (c : Dev nD) (t : Fin cfg0.N) (d : Fin 2048) (l : Fin 1024) :
    iblk m c 1 t (ix2 d l) = V m c main_arg1 (ix2 d (col t.val (lt_of_lt_of_eq t.isLt N_0) l)) := by
  blk_simp [iblk]
  refine congrArg _ (funext fun a => Fin.ext ?_)
  fin_cases a
  · blk_simp [index1]; rfl
  · blk_simp [index1]; rfl

/-- A row times a column. -/
def prod (x : Vec Ideal S8704x2048 .f32) (w : Vec Ideal S2048x2048 .f32) (R : Fin 8704) (L : Fin 2048) : EReal :=
  ∑ d : Fin 2048, x (ix2 R d) * w (ix2 d L)

/-- After point `n` the carried copy is its block of columns and the result block the rows times these columns. -/
theorem state (c : Dev nD) : ∀ (n : ℕ) (hn : n < cfg0.N) (hN : n < 34),
    (∀ d l, (outsAt0 m c n hn).2 (ix2 d l) = V m c main_arg1 (ix2 d (col n hN l))) ∧
    (∀ r l, (outsAt0 m c n hn).1 (ix2 r l) = prod (V m c main_arg0) (V m c main_arg1) (row n r) (col n hN l)) := by
  intro n
  induction n with
  | zero =>
    intro hn hN
    rw [first_point m c ⟨0, hn⟩ rfl]
    refine ⟨fun d l => ?_, fun r l => ?_⟩
    · exact (pay1_read _ _ _).trans (iblk1_read m c _ d l)
    · refine (pay2_read _ _ _ _).trans ?_
      refine Finset.sum_congr rfl fun d _ => ?_
      rw [pay1_read, iblk1_read, iblk0_read]
  | succ n ih =>
    intro hn hN
    by_cases h0 : (n + 1) % 17 = 0
    · rw [first_point m c ⟨n + 1, hn⟩ h0]
      refine ⟨fun d l => ?_, fun r l => ?_⟩
      · exact (pay1_read _ _ _).trans (iblk1_read m c _ d l)
      · refine (pay2_read _ _ _ _).trans ?_
        refine Finset.sum_congr rfl fun d _ => ?_
        rw [pay1_read, iblk1_read, iblk0_read]
    · have hc : ∀ l, col n (by omega) l = col (n + 1) hN l := fun l => Fin.ext (by
        show n / 17 * 1024 + l.val = (n + 1) / 17 * 1024 + l.val
        have : n / 17 = (n + 1) / 17 := by omega
        rw [this])
      have hs := (ih (Nat.lt_of_succ_lt hn) (by omega)).1
      rw [other_point m c ⟨n + 1, hn⟩ h0 _ rfl]
      refine ⟨fun d l => (hs d l).trans (by rw [hc]), fun r l => ?_⟩
      refine (pay2_read _ _ _ _).trans ?_
      refine Finset.sum_congr rfl fun d _ => ?_
      rw [iblk0_read]
      exact congrArg₂ (fun a b : EReal => a * b) rfl ((hs d l).trans (by rw [hc]))

/-- The result array after the run. -/
theorem final (c : Dev nD) (y : S8704x2048.Idx) :
    Value.G2 m c y = prod (V m c main_arg0) (V m c main_arg1) (y 0) (y 1) := by
  have h0 : (y 0).val < 8704 := (y 0).isLt
  have h1 : (y 1).val < 2048 := (y 1).isLt
  have hp : Value.pt2Of y = (y 0).val / 512 + 17 * ((y 1).val / 1024) := by
    show 1 * ((y 0).val / 512 - 0) + 17 * ((y 1).val / 1024 - 0) = _
    omega
  have hN : Value.pt2Of y < 34 := by rw [hp]; omega
  unfold Value.G2
  rw [dif_pos (lt_of_lt_of_eq hN N_0.symm), ← Value.outsAt0_sweep m c _ (lt_of_lt_of_eq hN N_0.symm)]
  have hl : Value.loc2Of y = ix2 ⟨(y 0).val % 512, Nat.mod_lt _ (by decide)⟩ ⟨(y 1).val % 1024, Nat.mod_lt _ (by decide)⟩ := by
    funext a
    fin_cases a <;> rfl
  rw [hl, (state m c _ (lt_of_lt_of_eq hN N_0.symm) hN).2]
  have hr : row (Value.pt2Of y) ⟨(y 0).val % 512, Nat.mod_lt _ (by decide)⟩ = y 0 :=
    Fin.ext (by show Value.pt2Of y % 17 * 512 + (y 0).val % 512 = (y 0).val; rw [hp]; omega)
  have hc : col (Value.pt2Of y) hN ⟨(y 1).val % 1024, Nat.mod_lt _ (by decide)⟩ = y 1 :=
    Fin.ext (by show Value.pt2Of y / 17 * 1024 + (y 1).val % 1024 = (y 1).val; rw [hp]; omega)
  rw [hr, hc]

/-- The reference's product, at an index. -/
theorem ref_read (x : Vec Ideal S8704x2048 .f32) (w : Vec Ideal S2048x2048 .f32) (y : S8704x2048.Idx) :
    Cert.Reference4Ideal.Read.val_main_v1 (F := Ideal) x w y = prod x w (y 0) (y 1) := by
  rw [Cert.Reference4Ideal.Read.val_main_v1_apply]
  show Cert.Reference4Ideal.Read.val_main_v0 (F := Ideal) x w y = _
  rw [Cert.Reference4Ideal.Read.val_main_v0_apply]
  refine Finset.sum_congr rfl fun d _ => congrArg₂ (fun a b : EReal => a * b) (congrArg x ?_) (congrArg w ?_)
  · funext a; fin_cases a <;> rfl
  · funext a; fin_cases a <;> rfl

end Cert.Mat4

end
-- ==== Proof.Mat5.lean ====
/- The product of the rows with the receptance weights: what one grid point leaves in the result block and in the carried
   rounded weights, the result array after the run, and that it is the reference's product. -/
module

public import proofs.«01_k».proof.Proof.Gen.Kernel5Ideal.Value
public import proofs.«01_k».proof.Proof.Gen.Reference5Ideal.Read
public import Idealize.ShloMosaic.Lib.Pointwise
public import Idealize.ShloMosaic.Lib.Pipeline.Value
public import Idealize.ShloMosaic.Lib.Pipeline.ReadBack
public import Idealize.ShloMosaic.Lib.Pipeline.ValueKit.Geometry
public import Idealize.ShloMosaic.Lib.Pipeline.ValueKit.Acc

@[expose] public section

noncomputable section

namespace Cert.Mat5

open Cert.Kernel5Ideal Cert.Kernel5Ideal.Gen Idealize.ShloMosaic Idealize.ShloMosaic.TcCoe

variable (m : (ℓ : Loc nD τ sig) → Buf (Elt Ideal) ℓ)

/-- The first point of a block of columns: the weights are copied, rounded, and used. -/
theorem first_point (c : Dev nD) (t : Fin cfg0.N) (h0 : t.val % 17 = 0) :
    outsAt0 m c t.val t.isLt = (k0_pay2 (k0_pay1 (iblk m c 1 t)) (iblk m c 0 t), k0_pay1 (iblk m c 1 t)) := by
  rw [outsAt0_A m c t h0]
  frame_out

/-- Any other point uses the copy the point before left. -/
theorem other_point (c : Dev nD) (t : Fin cfg0.N) (h0 : ¬t.val % 17 = 0)
    (p : Vec Ideal S512x1024 .f32 × Vec Ideal S2048x1024 .bf16)
    (hp : outsAt0 m c (t.val - 1) (Nat.lt_of_le_of_lt (Nat.sub_le _ _) t.isLt) = p) :
    outsAt0 m c t.val t.isLt = (k0_pay2 p.2 (iblk m c 0 t), p.2) := by
  rw [outsAt0_B m c t h0, hp]
  frame_out
  try simp only [read_unread_whole]
  try unfold sout0_B_0
  try rfl

theorem pay1_read (w : Vec Ideal S2048x1024 .f32) (d : Fin 2048) (l : Fin 1024) :
    k0_pay1 w (ix2 d l) = w (ix2 d l) := by
  unfold k0_pay1
  pointwise

theorem pay2_read (w : Vec Ideal S2048x1024 .bf16) (x : Vec Ideal S512x2048 .bf16) (r : Fin 512) (l : Fin 1024) :
    k0_pay2 w x (ix2 r l) = ∑ d, x (ix2 r d) * w (ix2 d l) := by
  unfold k0_pay2
  pointwise

/-- Row `r` of the block of rows at point `n`. -/
def row (n : ℕ) (r : Fin 512) : Fin 8704 := ⟨n % 17 * 512 + r.val, by omega⟩
/-- Column `l` of the block of columns at point `n`. -/
def col (n : ℕ) (hn : n < 34) (l : Fin 1024) : Fin 2048 := ⟨n / 17 * 1024 + l.val, by omega⟩

theorem index0 : ∀ t : Fin cfg0.N, win0_0.index t = ![t.val % 17, 0] := (by decide +kernel : ∀ t : Fin grid0.N, _)
theorem index1 : ∀ t : Fin cfg0.N, win0_1.index t = ![0, t.val / 17] := (by decide +kernel : ∀ t : Fin grid0.N, _)

theorem iblk0_read (c : Dev nD) (t : Fin cfg0.N) (r : Fin 512) (d : Fin 2048) :
    iblk m c 0 t (ix2 r d) = V m c main_arg0 (ix2 (row t.val r) d) := by
  blk_simp [iblk]
  refine congrArg _ (funext fun a => Fin.ext ?_)
  fin_cases a
  · blk_simp [index0]; rfl
  · blk_simp [index0]; rfl

theorem iblk1_read (c : Dev nD) (t : Fin cfg0.N) (d : Fin 2048) (l : Fin 1024) :
    iblk m c 1 t (ix2 d l) = V m c main_arg1 (ix2 d (col t.val (lt_of_lt_of_eq t.isLt N_0) l)) := by
  blk_simp [iblk]
  refine congrArg _ (funext fun a => Fin.ext ?_)
  fin_cases a
  · blk_simp [index1]; rfl
  · blk_simp [index1]; rfl

/-- A row times a column. -/
def prod (x : Vec Ideal S8704x2048 .bf16) (w : Vec Ideal S2048x2048 .f32) (R : Fin 8704) (L : Fin 2048) : EReal :=
  ∑ d : Fin 2048, x (ix2 R d) * w (ix2 d L)

/-- After point `n` the carried copy is its block of columns and the result block the rows times these columns. -/
theorem state (c : Dev nD) : ∀ (n : ℕ) (hn : n < cfg0.N) (hN : n < 34),
    (∀ d l, (outsAt0 m c n hn).2 (ix2 d l) = V m c main_arg1 (ix2 d (col n hN l))) ∧
    (∀ r l, (outsAt0 m c n hn).1 (ix2 r l) = prod (V m c main_arg0) (V m c main_arg1) (row n r) (col n hN l)) := by
  intro n
  induction n with
  | zero =>
    intro hn hN
    rw [first_point m c ⟨0, hn⟩ rfl]
    refine ⟨fun d l => ?_, fun r l => ?_⟩
    · exact (pay1_read _ _ _).trans (iblk1_read m c _ d l)
    · refine (pay2_read _ _ _ _).trans ?_
      refine Finset.sum_congr rfl fun d _ => ?_
      rw [pay1_read, iblk1_read, iblk0_read]
  | succ n ih =>
    intro hn hN
    by_cases h0 : (n + 1) % 17 = 0
    · rw [first_point m c ⟨n + 1, hn⟩ h0]
      refine ⟨fun d l => ?_, fun r l => ?_⟩
      · exact (pay1_read _ _ _).trans (iblk1_read m c _ d l)
      · refine (pay2_read _ _ _ _).trans ?_
        refine Finset.sum_congr rfl fun d _ => ?_
        rw [pay1_read, iblk1_read, iblk0_read]
    · have hc : ∀ l, col n (by omega) l = col (n + 1) hN l := fun l => Fin.ext (by
        show n / 17 * 1024 + l.val = (n + 1) / 17 * 1024 + l.val
        have : n / 17 = (n + 1) / 17 := by omega
        rw [this])
      have hs := (ih (Nat.lt_of_succ_lt hn) (by omega)).1
      rw [other_point m c ⟨n + 1, hn⟩ h0 _ rfl]
      refine ⟨fun d l => (hs d l).trans (by rw [hc]), fun r l => ?_⟩
      refine (pay2_read _ _ _ _).trans ?_
      refine Finset.sum_congr rfl fun d _ => ?_
      rw [iblk0_read]
      exact congrArg₂ (fun a b : EReal => a * b) rfl ((hs d l).trans (by rw [hc]))

/-- The result array after the run. -/
theorem final (c : Dev nD) (y : S8704x2048.Idx) :
    Value.G2 m c y = prod (V m c main_arg0) (V m c main_arg1) (y 0) (y 1) := by
  have h0 : (y 0).val < 8704 := (y 0).isLt
  have h1 : (y 1).val < 2048 := (y 1).isLt
  have hp : Value.pt2Of y = (y 0).val / 512 + 17 * ((y 1).val / 1024) := by
    show 1 * ((y 0).val / 512 - 0) + 17 * ((y 1).val / 1024 - 0) = _
    omega
  have hN : Value.pt2Of y < 34 := by rw [hp]; omega
  unfold Value.G2
  rw [dif_pos (lt_of_lt_of_eq hN N_0.symm), ← Value.outsAt0_sweep m c _ (lt_of_lt_of_eq hN N_0.symm)]
  have hl : Value.loc2Of y = ix2 ⟨(y 0).val % 512, Nat.mod_lt _ (by decide)⟩ ⟨(y 1).val % 1024, Nat.mod_lt _ (by decide)⟩ := by
    funext a
    fin_cases a <;> rfl
  rw [hl, (state m c _ (lt_of_lt_of_eq hN N_0.symm) hN).2]
  have hr : row (Value.pt2Of y) ⟨(y 0).val % 512, Nat.mod_lt _ (by decide)⟩ = y 0 :=
    Fin.ext (by show Value.pt2Of y % 17 * 512 + (y 0).val % 512 = (y 0).val; rw [hp]; omega)
  have hc : col (Value.pt2Of y) hN ⟨(y 1).val % 1024, Nat.mod_lt _ (by decide)⟩ = y 1 :=
    Fin.ext (by show Value.pt2Of y / 17 * 1024 + (y 1).val % 1024 = (y 1).val; rw [hp]; omega)
  rw [hr, hc]

/-- The reference's product, at an index. -/
theorem ref_read (x : Vec Ideal S8704x2048 .bf16) (w : Vec Ideal S2048x2048 .f32) (y : S8704x2048.Idx) :
    Cert.Reference5Ideal.Read.val_main_v1 (F := Ideal) x w y = prod x w (y 0) (y 1) := by
  rw [Cert.Reference5Ideal.Read.val_main_v1_apply]
  refine Finset.sum_congr rfl fun d _ => congrArg₂ (fun a b : EReal => a * b) (congrArg x ?_) (congrArg w ?_)
  · funext a; fin_cases a <;> rfl
  · funext a; fin_cases a <;> rfl

end Cert.Mat5

end
-- ==== Proof.Mat6.lean ====
/- The product of the rows with the key weights of an RWKV layer: what one grid point leaves in the result block and in the carried
   rounded weights, the result array after the run, and that it is the reference's product. -/
module

public import proofs.«01_k».proof.Proof.Gen.Kernel6Ideal.Value
public import proofs.«01_k».proof.Proof.Gen.Reference6Ideal.Read
public import Idealize.ShloMosaic.Lib.Pointwise
public import Idealize.ShloMosaic.Lib.Pipeline.Value
public import Idealize.ShloMosaic.Lib.Pipeline.ReadBack
public import Idealize.ShloMosaic.Lib.Pipeline.ValueKit.Geometry
public import Idealize.ShloMosaic.Lib.Pipeline.ValueKit.Acc

@[expose] public section

noncomputable section

namespace Cert.Mat6

open Cert.Kernel6Ideal Cert.Kernel6Ideal.Gen Idealize.ShloMosaic Idealize.ShloMosaic.TcCoe

variable (m : (ℓ : Loc nD τ sig) → Buf (Elt Ideal) ℓ)

/-- The first point of a block of columns: the weights are copied, rounded, and used. -/
theorem first_point (c : Dev nD) (t : Fin cfg0.N) (h0 : t.val % 17 = 0) :
    outsAt0 m c t.val t.isLt = (k0_pay2 (k0_pay1 (iblk m c 1 t)) (iblk m c 0 t), k0_pay1 (iblk m c 1 t)) := by
  rw [outsAt0_A m c t h0]
  frame_out

/-- Any other point uses the copy the point before left. -/
theorem other_point (c : Dev nD) (t : Fin cfg0.N) (h0 : ¬t.val % 17 = 0)
    (p : Vec Ideal S512x1024 .f32 × Vec Ideal S2048x1024 .bf16)
    (hp : outsAt0 m c (t.val - 1) (Nat.lt_of_le_of_lt (Nat.sub_le _ _) t.isLt) = p) :
    outsAt0 m c t.val t.isLt = (k0_pay2 p.2 (iblk m c 0 t), p.2) := by
  rw [outsAt0_B m c t h0, hp]
  frame_out
  try simp only [read_unread_whole]
  try unfold sout0_B_0
  try rfl

theorem pay1_read (w : Vec Ideal S2048x1024 .f32) (d : Fin 2048) (l : Fin 1024) :
    k0_pay1 w (ix2 d l) = w (ix2 d l) := by
  unfold k0_pay1
  pointwise

theorem pay2_read (w : Vec Ideal S2048x1024 .bf16) (x : Vec Ideal S512x2048 .bf16) (r : Fin 512) (l : Fin 1024) :
    k0_pay2 w x (ix2 r l) = ∑ d, x (ix2 r d) * w (ix2 d l) := by
  unfold k0_pay2
  pointwise

/-- Row `r` of the block of rows at point `n`. -/
def row (n : ℕ) (r : Fin 512) : Fin 8704 := ⟨n % 17 * 512 + r.val, by omega⟩
/-- Column `l` of the block of columns at point `n`. -/
def col (n : ℕ) (hn : n < 34) (l : Fin 1024) : Fin 2048 := ⟨n / 17 * 1024 + l.val, by omega⟩

theorem index0 : ∀ t : Fin cfg0.N, win0_0.index t = ![t.val % 17, 0] := (by decide +kernel : ∀ t : Fin grid0.N, _)
theorem index1 : ∀ t : Fin cfg0.N, win0_1.index t = ![0, t.val / 17] := (by decide +kernel : ∀ t : Fin grid0.N, _)

theorem iblk0_read (c : Dev nD) (t : Fin cfg0.N) (r : Fin 512) (d : Fin 2048) :
    iblk m c 0 t (ix2 r d) = V m c main_arg0 (ix2 (row t.val r) d) := by
  blk_simp [iblk]
  refine congrArg _ (funext fun a => Fin.ext ?_)
  fin_cases a
  · blk_simp [index0]; rfl
  · blk_simp [index0]; rfl

theorem iblk1_read (c : Dev nD) (t : Fin cfg0.N) (d : Fin 2048) (l : Fin 1024) :
    iblk m c 1 t (ix2 d l) = V m c main_arg1 (ix2 d (col t.val (lt_of_lt_of_eq t.isLt N_0) l)) := by
  blk_simp [iblk]
  refine congrArg _ (funext fun a => Fin.ext ?_)
  fin_cases a
  · blk_simp [index1]; rfl
  · blk_simp [index1]; rfl

/-- A row times a column. -/
def prod (x : Vec Ideal S8704x2048 .bf16) (w : Vec Ideal S2048x2048 .f32) (R : Fin 8704) (L : Fin 2048) : EReal :=
  ∑ d : Fin 2048, x (ix2 R d) * w (ix2 d L)

/-- After point `n` the carried copy is its block of columns and the result block the rows times these columns. -/
theorem state (c : Dev nD) : ∀ (n : ℕ) (hn : n < cfg0.N) (hN : n < 34),
    (∀ d l, (outsAt0 m c n hn).2 (ix2 d l) = V m c main_arg1 (ix2 d (col n hN l))) ∧
    (∀ r l, (outsAt0 m c n hn).1 (ix2 r l) = prod (V m c main_arg0) (V m c main_arg1) (row n r) (col n hN l)) := by
  intro n
  induction n with
  | zero =>
    intro hn hN
    rw [first_point m c ⟨0, hn⟩ rfl]
    refine ⟨fun d l => ?_, fun r l => ?_⟩
    · exact (pay1_read _ _ _).trans (iblk1_read m c _ d l)
    · refine (pay2_read _ _ _ _).trans ?_
      refine Finset.sum_congr rfl fun d _ => ?_
      rw [pay1_read, iblk1_read, iblk0_read]
  | succ n ih =>
    intro hn hN
    by_cases h0 : (n + 1) % 17 = 0
    · rw [first_point m c ⟨n + 1, hn⟩ h0]
      refine ⟨fun d l => ?_, fun r l => ?_⟩
      · exact (pay1_read _ _ _).trans (iblk1_read m c _ d l)
      · refine (pay2_read _ _ _ _).trans ?_
        refine Finset.sum_congr rfl fun d _ => ?_
        rw [pay1_read, iblk1_read, iblk0_read]
    · have hc : ∀ l, col n (by omega) l = col (n + 1) hN l := fun l => Fin.ext (by
        show n / 17 * 1024 + l.val = (n + 1) / 17 * 1024 + l.val
        have : n / 17 = (n + 1) / 17 := by omega
        rw [this])
      have hs := (ih (Nat.lt_of_succ_lt hn) (by omega)).1
      rw [other_point m c ⟨n + 1, hn⟩ h0 _ rfl]
      refine ⟨fun d l => (hs d l).trans (by rw [hc]), fun r l => ?_⟩
      refine (pay2_read _ _ _ _).trans ?_
      refine Finset.sum_congr rfl fun d _ => ?_
      rw [iblk0_read]
      exact congrArg₂ (fun a b : EReal => a * b) rfl ((hs d l).trans (by rw [hc]))

/-- The result array after the run. -/
theorem final (c : Dev nD) (y : S8704x2048.Idx) :
    Value.G2 m c y = prod (V m c main_arg0) (V m c main_arg1) (y 0) (y 1) := by
  have h0 : (y 0).val < 8704 := (y 0).isLt
  have h1 : (y 1).val < 2048 := (y 1).isLt
  have hp : Value.pt2Of y = (y 0).val / 512 + 17 * ((y 1).val / 1024) := by
    show 1 * ((y 0).val / 512 - 0) + 17 * ((y 1).val / 1024 - 0) = _
    omega
  have hN : Value.pt2Of y < 34 := by rw [hp]; omega
  unfold Value.G2
  rw [dif_pos (lt_of_lt_of_eq hN N_0.symm), ← Value.outsAt0_sweep m c _ (lt_of_lt_of_eq hN N_0.symm)]
  have hl : Value.loc2Of y = ix2 ⟨(y 0).val % 512, Nat.mod_lt _ (by decide)⟩ ⟨(y 1).val % 1024, Nat.mod_lt _ (by decide)⟩ := by
    funext a
    fin_cases a <;> rfl
  rw [hl, (state m c _ (lt_of_lt_of_eq hN N_0.symm) hN).2]
  have hr : row (Value.pt2Of y) ⟨(y 0).val % 512, Nat.mod_lt _ (by decide)⟩ = y 0 :=
    Fin.ext (by show Value.pt2Of y % 17 * 512 + (y 0).val % 512 = (y 0).val; rw [hp]; omega)
  have hc : col (Value.pt2Of y) hN ⟨(y 1).val % 1024, Nat.mod_lt _ (by decide)⟩ = y 1 :=
    Fin.ext (by show Value.pt2Of y / 17 * 1024 + (y 1).val % 1024 = (y 1).val; rw [hp]; omega)
  rw [hr, hc]

/-- The reference's product, at an index. -/
theorem ref_read (x : Vec Ideal S8704x2048 .bf16) (w : Vec Ideal S2048x2048 .f32) (y : S8704x2048.Idx) :
    Cert.Reference6Ideal.Read.val_main_v1 (F := Ideal) x w y = prod x w (y 0) (y 1) := by
  rw [Cert.Reference6Ideal.Read.val_main_v1_apply]
  refine Finset.sum_congr rfl fun d _ => congrArg₂ (fun a b : EReal => a * b) (congrArg x ?_) (congrArg w ?_)
  · funext a; fin_cases a <;> rfl
  · funext a; fin_cases a <;> rfl

end Cert.Mat6

end
-- ==== Proof.Mat7.lean ====
/- The product of the rows with the value weights of the first RWKV layer: what one grid point leaves in the result block and in the carried
   rounded weights, the result array after the run, and that it is the reference's product. -/
module

public import proofs.«01_k».proof.Proof.Gen.Kernel7Ideal.Value
public import proofs.«01_k».proof.Proof.Gen.Reference7Ideal.Read
public import Idealize.ShloMosaic.Lib.Pointwise
public import Idealize.ShloMosaic.Lib.Pipeline.Value
public import Idealize.ShloMosaic.Lib.Pipeline.ReadBack
public import Idealize.ShloMosaic.Lib.Pipeline.ValueKit.Geometry
public import Idealize.ShloMosaic.Lib.Pipeline.ValueKit.Acc

@[expose] public section

noncomputable section

namespace Cert.Mat7

open Cert.Kernel7Ideal Cert.Kernel7Ideal.Gen Idealize.ShloMosaic Idealize.ShloMosaic.TcCoe

variable (m : (ℓ : Loc nD τ sig) → Buf (Elt Ideal) ℓ)

/-- The first point of a block of columns: the weights are copied, rounded, and used. -/
theorem first_point (c : Dev nD) (t : Fin cfg0.N) (h0 : t.val % 17 = 0) :
    outsAt0 m c t.val t.isLt = (k0_pay2 (k0_pay1 (iblk m c 1 t)) (iblk m c 0 t), k0_pay1 (iblk m c 1 t)) := by
  rw [outsAt0_A m c t h0]
  frame_out

/-- Any other point uses the copy the point before left. -/
theorem other_point (c : Dev nD) (t : Fin cfg0.N) (h0 : ¬t.val % 17 = 0)
    (p : Vec Ideal S512x1024 .f32 × Vec Ideal S2048x1024 .bf16)
    (hp : outsAt0 m c (t.val - 1) (Nat.lt_of_le_of_lt (Nat.sub_le _ _) t.isLt) = p) :
    outsAt0 m c t.val t.isLt = (k0_pay2 p.2 (iblk m c 0 t), p.2) := by
  rw [outsAt0_B m c t h0, hp]
  frame_out
  try simp only [read_unread_whole]
  try unfold sout0_B_0
  try rfl

theorem pay1_read (w : Vec Ideal S2048x1024 .f32) (d : Fin 2048) (l : Fin 1024) :
    k0_pay1 w (ix2 d l) = w (ix2 d l) := by
  unfold k0_pay1
  pointwise

theorem pay2_read (w : Vec Ideal S2048x1024 .bf16) (x : Vec Ideal S512x2048 .bf16) (r : Fin 512) (l : Fin 1024) :
    k0_pay2 w x (ix2 r l) = ∑ d, x (ix2 r d) * w (ix2 d l) := by
  unfold k0_pay2
  pointwise

/-- Row `r` of the block of rows at point `n`. -/
def row (n : ℕ) (r : Fin 512) : Fin 8704 := ⟨n % 17 * 512 + r.val, by omega⟩
/-- Column `l` of the block of columns at point `n`. -/
def col (n : ℕ) (hn : n < 34) (l : Fin 1024) : Fin 2048 := ⟨n / 17 * 1024 + l.val, by omega⟩

theorem index0 : ∀ t : Fin cfg0.N, win0_0.index t = ![t.val % 17, 0] := (by decide +kernel : ∀ t : Fin grid0.N, _)
theorem index1 : ∀ t : Fin cfg0.N, win0_1.index t = ![0, t.val / 17] := (by decide +kernel : ∀ t : Fin grid0.N, _)

theorem iblk0_read (c : Dev nD) (t : Fin cfg0.N) (r : Fin 512) (d : Fin 2048) :
    iblk m c 0 t (ix2 r d) = V m c main_arg0 (ix2 (row t.val r) d) := by
  blk_simp [iblk]
  refine congrArg _ (funext fun a => Fin.ext ?_)
  fin_cases a
  · blk_simp [index0]; rfl
  · blk_simp [index0]; rfl

theorem iblk1_read (c : Dev nD) (t : Fin cfg0.N) (d : Fin 2048) (l : Fin 1024) :
    iblk m c 1 t (ix2 d l) = V m c main_arg1 (ix2 d (col t.val (lt_of_lt_of_eq t.isLt N_0) l)) := by
  blk_simp [iblk]
  refine congrArg _ (funext fun a => Fin.ext ?_)
  fin_cases a
  · blk_simp [index1]; rfl
  · blk_simp [index1]; rfl

/-- A row times a column. -/
def prod (x : Vec Ideal S8704x2048 .bf16) (w : Vec Ideal S2048x2048 .f32) (R : Fin 8704) (L : Fin 2048) : EReal :=
  ∑ d : Fin 2048, x (ix2 R d) * w (ix2 d L)

/-- After point `n` the carried copy is its block of columns and the result block the rows times these columns. -/
theorem state (c : Dev nD) : ∀ (n : ℕ) (hn : n < cfg0.N) (hN : n < 34),
    (∀ d l, (outsAt0 m c n hn).2 (ix2 d l) = V m c main_arg1 (ix2 d (col n hN l))) ∧
    (∀ r l, (outsAt0 m c n hn).1 (ix2 r l) = prod (V m c main_arg0) (V m c main_arg1) (row n r) (col n hN l)) := by
  intro n
  induction n with
  | zero =>
    intro hn hN
    rw [first_point m c ⟨0, hn⟩ rfl]
    refine ⟨fun d l => ?_, fun r l => ?_⟩
    · exact (pay1_read _ _ _).trans (iblk1_read m c _ d l)
    · refine (pay2_read _ _ _ _).trans ?_
      refine Finset.sum_congr rfl fun d _ => ?_
      rw [pay1_read, iblk1_read, iblk0_read]
  | succ n ih =>
    intro hn hN
    by_cases h0 : (n + 1) % 17 = 0
    · rw [first_point m c ⟨n + 1, hn⟩ h0]
      refine ⟨fun d l => ?_, fun r l => ?_⟩
      · exact (pay1_read _ _ _).trans (iblk1_read m c _ d l)
      · refine (pay2_read _ _ _ _).trans ?_
        refine Finset.sum_congr rfl fun d _ => ?_
        rw [pay1_read, iblk1_read, iblk0_read]
    · have hc : ∀ l, col n (by omega) l = col (n + 1) hN l := fun l => Fin.ext (by
        show n / 17 * 1024 + l.val = (n + 1) / 17 * 1024 + l.val
        have : n / 17 = (n + 1) / 17 := by omega
        rw [this])
      have hs := (ih (Nat.lt_of_succ_lt hn) (by omega)).1
      rw [other_point m c ⟨n + 1, hn⟩ h0 _ rfl]
      refine ⟨fun d l => (hs d l).trans (by rw [hc]), fun r l => ?_⟩
      refine (pay2_read _ _ _ _).trans ?_
      refine Finset.sum_congr rfl fun d _ => ?_
      rw [iblk0_read]
      exact congrArg₂ (fun a b : EReal => a * b) rfl ((hs d l).trans (by rw [hc]))

/-- The result array after the run. -/
theorem final (c : Dev nD) (y : S8704x2048.Idx) :
    Value.G2 m c y = prod (V m c main_arg0) (V m c main_arg1) (y 0) (y 1) := by
  have h0 : (y 0).val < 8704 := (y 0).isLt
  have h1 : (y 1).val < 2048 := (y 1).isLt
  have hp : Value.pt2Of y = (y 0).val / 512 + 17 * ((y 1).val / 1024) := by
    show 1 * ((y 0).val / 512 - 0) + 17 * ((y 1).val / 1024 - 0) = _
    omega
  have hN : Value.pt2Of y < 34 := by rw [hp]; omega
  unfold Value.G2
  rw [dif_pos (lt_of_lt_of_eq hN N_0.symm), ← Value.outsAt0_sweep m c _ (lt_of_lt_of_eq hN N_0.symm)]
  have hl : Value.loc2Of y = ix2 ⟨(y 0).val % 512, Nat.mod_lt _ (by decide)⟩ ⟨(y 1).val % 1024, Nat.mod_lt _ (by decide)⟩ := by
    funext a
    fin_cases a <;> rfl
  rw [hl, (state m c _ (lt_of_lt_of_eq hN N_0.symm) hN).2]
  have hr : row (Value.pt2Of y) ⟨(y 0).val % 512, Nat.mod_lt _ (by decide)⟩ = y 0 :=
    Fin.ext (by show Value.pt2Of y % 17 * 512 + (y 0).val % 512 = (y 0).val; rw [hp]; omega)
  have hc : col (Value.pt2Of y) hN ⟨(y 1).val % 1024, Nat.mod_lt _ (by decide)⟩ = y 1 :=
    Fin.ext (by show Value.pt2Of y / 17 * 1024 + (y 1).val % 1024 = (y 1).val; rw [hp]; omega)
  rw [hr, hc]

/-- The reference's product, at an index. -/
theorem ref_read (x : Vec Ideal S8704x2048 .bf16) (w : Vec Ideal S2048x2048 .f32) (y : S8704x2048.Idx) :
    Cert.Reference7Ideal.Read.val_main_v1 (F := Ideal) x w y = prod x w (y 0) (y 1) := by
  rw [Cert.Reference7Ideal.Read.val_main_v1_apply]
  refine Finset.sum_congr rfl fun d _ => congrArg₂ (fun a b : EReal => a * b) (congrArg x ?_) (congrArg w ?_)
  · funext a; fin_cases a <;> rfl
  · funext a; fin_cases a <;> rfl

end Cert.Mat7

end
-- ==== Proof.Mat8.lean ====
/- The product of the rows with the value weights of the second RWKV layer: what one grid point leaves in the result block and in the carried
   rounded weights, the result array after the run, and that it is the reference's product. -/
module

public import proofs.«01_k».proof.Proof.Gen.Kernel8Ideal.Value
public import proofs.«01_k».proof.Proof.Gen.Reference8Ideal.Read
public import Idealize.ShloMosaic.Lib.Pointwise
public import Idealize.ShloMosaic.Lib.Pipeline.Value
public import Idealize.ShloMosaic.Lib.Pipeline.ReadBack
public import Idealize.ShloMosaic.Lib.Pipeline.ValueKit.Geometry
public import Idealize.ShloMosaic.Lib.Pipeline.ValueKit.Acc

@[expose] public section

noncomputable section

namespace Cert.Mat8

open Cert.Kernel8Ideal Cert.Kernel8Ideal.Gen Idealize.ShloMosaic Idealize.ShloMosaic.TcCoe

variable (m : (ℓ : Loc nD τ sig) → Buf (Elt Ideal) ℓ)

/-- The first point of a block of columns: the weights are copied, rounded, and used. -/
theorem first_point (c : Dev nD) (t : Fin cfg0.N) (h0 : t.val % 17 = 0) :
    outsAt0 m c t.val t.isLt = (k0_pay2 (k0_pay1 (iblk m c 1 t)) (iblk m c 0 t) (iblk m c 2 t) (iblk m c 3 t), k0_pay1 (iblk m c 1 t)) := by
  rw [outsAt0_A m c t h0]
  frame_out

/-- Any other point uses the copy the point before left. -/
theorem other_point (c : Dev nD) (t : Fin cfg0.N) (h0 : ¬t.val % 17 = 0)
    (p : Vec Ideal S512x1024 .f32 × Vec Ideal S2048x1024 .bf16)
    (hp : outsAt0 m c (t.val - 1) (Nat.lt_of_le_of_lt (Nat.sub_le _ _) t.isLt) = p) :
    outsAt0 m c t.val t.isLt = (k0_pay2 p.2 (iblk m c 0 t) (iblk m c 2 t) (iblk m c 3 t), p.2) := by
  rw [outsAt0_B m c t h0, hp]
  frame_out
  try simp only [read_unread_whole]
  try unfold sout0_B_0
  try rfl

theorem pay1_read (w : Vec Ideal S2048x1024 .f32) (d : Fin 2048) (l : Fin 1024) :
    k0_pay1 w (ix2 d l) = w (ix2 d l) := by
  unfold k0_pay1
  pointwise

/-- A value moved towards the first layer's by its weight. -/
def mixed (a v g : EReal) : EReal := a + (v - a) * g

theorem pay2_read (w : Vec Ideal S2048x1024 .bf16) (x : Vec Ideal S512x2048 .bf16) (v g : Vec Ideal S512x1024 .f32)
    (r : Fin 512) (l : Fin 1024) :
    k0_pay2 w x v g (ix2 r l) = mixed (∑ d, x (ix2 r d) * w (ix2 d l)) (v (ix2 r l)) (g (ix2 r l)) := by
  unfold k0_pay2 mixed
  pointwise

/-- Row `r` of the block of rows at point `n`. -/
def row (n : ℕ) (r : Fin 512) : Fin 8704 := ⟨n % 17 * 512 + r.val, by omega⟩
/-- Column `l` of the block of columns at point `n`. -/
def col (n : ℕ) (hn : n < 34) (l : Fin 1024) : Fin 2048 := ⟨n / 17 * 1024 + l.val, by omega⟩

theorem index0 : ∀ t : Fin cfg0.N, win0_0.index t = ![t.val % 17, 0] := (by decide +kernel : ∀ t : Fin grid0.N, _)
theorem index1 : ∀ t : Fin cfg0.N, win0_1.index t = ![0, t.val / 17] := (by decide +kernel : ∀ t : Fin grid0.N, _)

theorem index2 : ∀ t : Fin cfg0.N, win0_2.index t = ![t.val % 17, t.val / 17] := (by decide +kernel : ∀ t : Fin grid0.N, _)
theorem index3 : ∀ t : Fin cfg0.N, win0_3.index t = ![t.val % 17, t.val / 17] := (by decide +kernel : ∀ t : Fin grid0.N, _)

theorem iblk0_read (c : Dev nD) (t : Fin cfg0.N) (r : Fin 512) (d : Fin 2048) :
    iblk m c 0 t (ix2 r d) = V m c main_arg0 (ix2 (row t.val r) d) := by
  blk_simp [iblk]
  refine congrArg _ (funext fun a => Fin.ext ?_)
  fin_cases a
  · blk_simp [index0]; rfl
  · blk_simp [index0]; rfl

theorem iblk1_read (c : Dev nD) (t : Fin cfg0.N) (d : Fin 2048) (l : Fin 1024) :
    iblk m c 1 t (ix2 d l) = V m c main_arg1 (ix2 d (col t.val (lt_of_lt_of_eq t.isLt N_0) l)) := by
  blk_simp [iblk]
  refine congrArg _ (funext fun a => Fin.ext ?_)
  fin_cases a
  · blk_simp [index1]; rfl
  · blk_simp [index1]; rfl

theorem iblk2_read (c : Dev nD) (t : Fin cfg0.N) (r : Fin 512) (l : Fin 1024) :
    iblk m c 2 t (ix2 r l) = V m c main_arg2 (ix2 (row t.val r) (col t.val (lt_of_lt_of_eq t.isLt N_0) l)) := by
  blk_simp [iblk]
  refine congrArg _ (funext fun a => Fin.ext ?_)
  fin_cases a
  · blk_simp [index2]; rfl
  · blk_simp [index2]; rfl

theorem iblk3_read (c : Dev nD) (t : Fin cfg0.N) (r : Fin 512) (l : Fin 1024) :
    iblk m c 3 t (ix2 r l) = V m c main_arg3 (ix2 (row t.val r) (col t.val (lt_of_lt_of_eq t.isLt N_0) l)) := by
  blk_simp [iblk]
  refine congrArg _ (funext fun a => Fin.ext ?_)
  fin_cases a
  · blk_simp [index3]; rfl
  · blk_simp [index3]; rfl

/-- A row times a column. -/
def prod (x : Vec Ideal S8704x2048 .bf16) (w : Vec Ideal S2048x2048 .f32) (R : Fin 8704) (L : Fin 2048) : EReal :=
  ∑ d : Fin 2048, x (ix2 R d) * w (ix2 d L)

/-- The row times the column, moved towards the first layer's value. -/
def out (x : Vec Ideal S8704x2048 .bf16) (w : Vec Ideal S2048x2048 .f32) (v g : Vec Ideal S8704x2048 .f32) (R : Fin 8704)
    (L : Fin 2048) : EReal := mixed (prod x w R L) (v (ix2 R L)) (g (ix2 R L))

/-- After point `n` the carried copy is its block of columns and the result block the rows times these columns, moved. -/
theorem state (c : Dev nD) : ∀ (n : ℕ) (hn : n < cfg0.N) (hN : n < 34),
    (∀ d l, (outsAt0 m c n hn).2 (ix2 d l) = V m c main_arg1 (ix2 d (col n hN l))) ∧
    (∀ r l, (outsAt0 m c n hn).1 (ix2 r l) = out (V m c main_arg0) (V m c main_arg1) (V m c main_arg2) (V m c main_arg3) (row n r) (col n hN l)) := by
  intro n
  induction n with
  | zero =>
    intro hn hN
    rw [first_point m c ⟨0, hn⟩ rfl]
    refine ⟨fun d l => ?_, fun r l => ?_⟩
    · exact (pay1_read _ _ _).trans (iblk1_read m c _ d l)
    · refine (pay2_read _ _ _ _ _ _).trans ?_
      rw [iblk2_read, iblk3_read]
      refine congrArg (mixed · _ _) (Finset.sum_congr rfl fun d _ => ?_)
      rw [pay1_read, iblk1_read, iblk0_read]
  | succ n ih =>
    intro hn hN
    by_cases h0 : (n + 1) % 17 = 0
    · rw [first_point m c ⟨n + 1, hn⟩ h0]
      refine ⟨fun d l => ?_, fun r l => ?_⟩
      · exact (pay1_read _ _ _).trans (iblk1_read m c _ d l)
      · refine (pay2_read _ _ _ _ _ _).trans ?_
        rw [iblk2_read, iblk3_read]
        refine congrArg (mixed · _ _) (Finset.sum_congr rfl fun d _ => ?_)
        rw [pay1_read, iblk1_read, iblk0_read]
    · have hc : ∀ l, col n (by omega) l = col (n + 1) hN l := fun l => Fin.ext (by
        show n / 17 * 1024 + l.val = (n + 1) / 17 * 1024 + l.val
        have : n / 17 = (n + 1) / 17 := by omega
        rw [this])
      have hs := (ih (Nat.lt_of_succ_lt hn) (by omega)).1
      rw [other_point m c ⟨n + 1, hn⟩ h0 _ rfl]
      refine ⟨fun d l => (hs d l).trans (by rw [hc]), fun r l => ?_⟩
      refine (pay2_read _ _ _ _ _ _).trans ?_
      rw [iblk2_read, iblk3_read]
      refine congrArg (mixed · _ _) (Finset.sum_congr rfl fun d _ => ?_)
      rw [iblk0_read]
      exact congrArg₂ (fun a b : EReal => a * b) rfl ((hs d l).trans (by rw [hc]))

/-- The result array after the run. -/
theorem final (c : Dev nD) (y : S8704x2048.Idx) :
    Value.G4 m c y = out (V m c main_arg0) (V m c main_arg1) (V m c main_arg2) (V m c main_arg3) (y 0) (y 1) := by
  have h0 : (y 0).val < 8704 := (y 0).isLt
  have h1 : (y 1).val < 2048 := (y 1).isLt
  have hp : Value.pt4Of y = (y 0).val / 512 + 17 * ((y 1).val / 1024) := by
    show 1 * ((y 0).val / 512 - 0) + 17 * ((y 1).val / 1024 - 0) = _
    omega
  have hN : Value.pt4Of y < 34 := by rw [hp]; omega
  unfold Value.G4
  rw [dif_pos (lt_of_lt_of_eq hN N_0.symm), ← Value.outsAt0_sweep m c _ (lt_of_lt_of_eq hN N_0.symm)]
  have hl : Value.loc4Of y = ix2 ⟨(y 0).val % 512, Nat.mod_lt _ (by decide)⟩ ⟨(y 1).val % 1024, Nat.mod_lt _ (by decide)⟩ := by
    funext a
    fin_cases a <;> rfl
  rw [hl, (state m c _ (lt_of_lt_of_eq hN N_0.symm) hN).2]
  have hr : row (Value.pt4Of y) ⟨(y 0).val % 512, Nat.mod_lt _ (by decide)⟩ = y 0 :=
    Fin.ext (by show Value.pt4Of y % 17 * 512 + (y 0).val % 512 = (y 0).val; rw [hp]; omega)
  have hc : col (Value.pt4Of y) hN ⟨(y 1).val % 1024, Nat.mod_lt _ (by decide)⟩ = y 1 :=
    Fin.ext (by show Value.pt4Of y / 17 * 1024 + (y 1).val % 1024 = (y 1).val; rw [hp]; omega)
  rw [hr, hc]

/-- The reference's product, at an index. -/
theorem ref_read (x : Vec Ideal S8704x2048 .bf16) (w : Vec Ideal S2048x2048 .f32) (y : S8704x2048.Idx) :
    Cert.Reference8Ideal.Read.val_main_v1 (F := Ideal) x w y = prod x w (y 0) (y 1) := by
  rw [Cert.Reference8Ideal.Read.val_main_v1_apply]
  refine Finset.sum_congr rfl fun d _ => congrArg₂ (fun a b : EReal => a * b) (congrArg x ?_) (congrArg w ?_)
  · funext a; fin_cases a <;> rfl
  · funext a; fin_cases a <;> rfl

/-- The reference's result, at an index. -/
theorem out_read (x : Vec Ideal S8704x2048 .bf16) (w : Vec Ideal S2048x2048 .f32) (v g : Vec Ideal S8704x2048 .f32)
    (y : S8704x2048.Idx) : Cert.Reference8Ideal.Read.val_main_v4 (F := Ideal) x w v g y = out x w v g (y 0) (y 1) := by
  obtain ⟨R, l, rfl⟩ : ∃ R l, y = ix2 R l := ⟨y 0, y 1, by funext a; fin_cases a <;> rfl⟩
  rw [Cert.Reference8Ideal.Read.val_main_v4_apply, Cert.Reference8Ideal.Read.val_main_v3_apply,
    Cert.Reference8Ideal.Read.val_main_v2_apply, ref_read]
  rfl

end Cert.Mat8

end
-- ==== Proof.Ln9.lean ====
/- The output projection of an RWKV layer with the residual and the layer norm: what one grid point leaves in the result block,
   the result array after the run, and that it is the reference's. -/
module

public import proofs.«01_k».proof.Proof.Gen.Kernel9Ideal.Value
public import proofs.«01_k».proof.Proof.Gen.Reference9Ideal.Read
public import Idealize.ShloMosaic.Lib.Pointwise
public import Idealize.ShloMosaic.Lib.Pipeline.Value
public import Idealize.ShloMosaic.Lib.Pipeline.ReadBack
public import Idealize.ShloMosaic.Lib.Pipeline.ValueKit.Geometry
public import Idealize.ShloMosaic.Lib.Pipeline.ValueKit.Acc

@[expose] public section

noncomputable section

namespace Cert.Ln9

open Cert.Kernel9Ideal Cert.Kernel9Ideal.Gen Idealize.ShloMosaic Idealize.ShloMosaic.TcCoe

variable (m : (ℓ : Loc nD τ sig) → Buf (Elt Ideal) ℓ)

/-- A row `y` normalized: its mean taken off, divided by its deviation, scaled by `g` and shifted by `b`, at column `l`. -/
def normed (y : Fin 2048 → EReal) (g b : EReal) (l : Fin 2048) : EReal :=
  (y l - Ideal.div (∑ x, y x) (Ideal.ofBits FTy.f32 1157627904#32)) *
      Ideal.rsqrt (Ideal.div (∑ x, (y x - Ideal.div (∑ x, y x) (Ideal.ofBits FTy.f32 1157627904#32)) *
          (y x - Ideal.div (∑ x, y x) (Ideal.ofBits FTy.f32 1157627904#32))) (Ideal.ofBits FTy.f32 1157627904#32) +
        Ideal.ofBits FTy.f32 925353388#32) * g + b

theorem pay_read (w : Vec Ideal S2048x2048 .bf16) (z : Vec Ideal S256x2048 .bf16) (x : Vec Ideal S256x2048 .f32)
    (g b : Vec Ideal S1x2048 .f32) (r : Fin 256) (l : Fin 2048) : k0_pay1 w z x g b (ix2 r l) =
      normed (fun k => Ideal.ofBits FTy.f32 1071072509#32 * x (ix2 r k) + ∑ d, z (ix2 r d) * w (ix2 d k))
        (g (ix2 0 l)) (b (ix2 0 l)) l := by
  unfold k0_pay1 normed
  pointwise

/-- Row `r` of the block of rows at point `n`. -/
def row (n : ℕ) (hn : n < 34) (r : Fin 256) : Fin 8704 := ⟨n * 256 + r.val, by omega⟩

theorem index0 : ∀ t : Fin cfg0.N, win0_0.index t = ![t.val, 0] := (by decide +kernel : ∀ t : Fin grid0.N, _)
theorem index1 : ∀ t : Fin cfg0.N, win0_1.index t = ![0, 0] := (by decide +kernel : ∀ t : Fin grid0.N, _)
theorem index2 : ∀ t : Fin cfg0.N, win0_2.index t = ![t.val, 0] := (by decide +kernel : ∀ t : Fin grid0.N, _)
theorem index3 : ∀ t : Fin cfg0.N, win0_3.index t = ![0, 0] := (by decide +kernel : ∀ t : Fin grid0.N, _)
theorem index4 : ∀ t : Fin cfg0.N, win0_4.index t = ![0, 0] := (by decide +kernel : ∀ t : Fin grid0.N, _)
theorem index5 : ∀ t : Fin cfg0.N, win0_5.index t = ![t.val, 0] := (by decide +kernel : ∀ t : Fin grid0.N, _)
theorem flush5 : ∀ t : Fin cfg0.N, (cfg0.win 5).flush t = true := (by decide +kernel : ∀ t : Fin grid0.N, _)

theorem iblk0_read (c : Dev nD) (t : Fin cfg0.N) (r : Fin 256) (l : Fin 2048) :
    iblk m c 0 t (ix2 r l) = V m c main_arg0 (ix2 (row t.val (lt_of_lt_of_eq t.isLt N_0) r) l) := by
  blk_simp [iblk]
  refine congrArg _ (funext fun a => Fin.ext ?_)
  fin_cases a
  · blk_simp [index0]; rfl
  · blk_simp [index0]; rfl

theorem iblk1_read (c : Dev nD) (t : Fin cfg0.N) (d l : Fin 2048) :
    iblk m c 1 t (ix2 d l) = V m c main_v0 (ix2 d l) := by
  blk_simp [iblk]
  refine congrArg _ (funext fun a => Fin.ext ?_)
  fin_cases a
  · blk_simp [index1]; try rfl
  · blk_simp [index1]; try rfl

theorem iblk2_read (c : Dev nD) (t : Fin cfg0.N) (r : Fin 256) (l : Fin 2048) :
    iblk m c 2 t (ix2 r l) = V m c main_arg2 (ix2 (row t.val (lt_of_lt_of_eq t.isLt N_0) r) l) := by
  blk_simp [iblk]
  refine congrArg _ (funext fun a => Fin.ext ?_)
  fin_cases a
  · blk_simp [index2]; rfl
  · blk_simp [index2]; rfl

theorem iblk3_read (c : Dev nD) (t : Fin cfg0.N) (l : Fin 2048) :
    iblk m c 3 t (ix2 0 l) = V m c main_arg3 (ix2 0 l) := by
  blk_simp [iblk]
  refine congrArg _ (funext fun a => Fin.ext ?_)
  fin_cases a
  · blk_simp [index3]
  · blk_simp [index3]

theorem iblk4_read (c : Dev nD) (t : Fin cfg0.N) (l : Fin 2048) :
    iblk m c 4 t (ix2 0 l) = V m c main_arg4 (ix2 0 l) := by
  blk_simp [iblk]
  refine congrArg _ (funext fun a => Fin.ext ?_)
  fin_cases a
  · blk_simp [index4]
  · blk_simp [index4]

section
variable (z : Vec Ideal S8704x2048 .bf16) (w : Vec Ideal S2048x2048 .bf16) (x : Vec Ideal S8704x2048 .f32)
  (g b : Vec Ideal S1x2048 .f32)

/-- The row that is normalized. -/
def sum (R : Fin 8704) (k : Fin 2048) : EReal :=
  Ideal.ofBits FTy.f32 1071072509#32 * x (ix2 R k) + ∑ d : Fin 2048, z (ix2 R d) * w (ix2 d k)

/-- What the kernel leaves in its result array. -/
def kerOut (y : S8704x2048.Idx) : EReal := normed (sum z w x (y 0)) (g (ix2 0 (y 1))) (b (ix2 0 (y 1))) (y 1)
end

/-- What one point leaves in the result block. -/
theorem point_read (c : Dev nD) (t : Fin cfg0.N) (r : Fin 256) (l : Fin 2048) :
    out0_5 (iblk m c 0 t) (iblk m c 1 t) (iblk m c 2 t) (iblk m c 3 t) (iblk m c 4 t) (ix2 r l)
      = kerOut (V m c main_arg0) (V m c main_v0) (V m c main_arg2) (V m c main_arg3) (V m c main_arg4)
          (ix2 (row t.val (lt_of_lt_of_eq t.isLt N_0) r) l) := by
  have h : out0_5 (iblk m c 0 t) (iblk m c 1 t) (iblk m c 2 t) (iblk m c 3 t) (iblk m c 4 t)
      = k0_pay1 (iblk m c 1 t) (iblk m c 0 t) (iblk m c 2 t) (iblk m c 3 t) (iblk m c 4 t) := by
    frame_out
  rw [h, pay_read, iblk3_read, iblk4_read]
  refine congrArg (fun y => normed y _ _ l) (funext fun k => ?_)
  rw [iblk2_read]
  unfold sum
  refine congrArg (_ + ·) (Finset.sum_congr rfl fun d _ => ?_)
  rw [iblk0_read, iblk1_read]
  rfl

/-- The result array after the run. -/
theorem final (c : Dev nD) : (dats m 0 c).arrAt 5 cfg0.N
    = kerOut (V m c main_arg0) (V m c main_v0) (V m c main_arg2) (V m c main_arg3) (V m c main_arg4) := by
  refine (dats m 0 c).arrAt_eq_of_covers 5 _ (by decide +kernel) fun t hf y => ?_
  blk_simp
  rw [after0_5]
  obtain ⟨r, l, rfl⟩ : ∃ r l, y = ix2 (n0 := 256) (n1 := 2048) r l := ⟨y 0, y 1, eq_ix2 y⟩
  have hemb : (win0_5.blk t).view.emb (ix2 (n0 := 256) (n1 := 2048) r l)
      = ix2 (n0 := 8704) (n1 := 2048) (row t.val (lt_of_lt_of_eq t.isLt N_0) r) l := by
    refine funext fun a => Fin.ext ?_
    fin_cases a
    · blk_simp [index5]; rfl
    · blk_simp [index5]; rfl
  exact (point_read m c t r l).trans (congrArg (kerOut _ _ _ _ _) hemb).symm

/-- The weights rounded. -/
def low (w : FVec Ideal S2048x2048 .f32) : FVec Ideal S2048x2048 .bf16 := truncf .bf16 w bitsLt_bf16_f32

theorem V_w (c : Dev nD) : V m c main_v0 = low (m ((c : Thread nD τ).loc main_arg1)) := by
  simp only [V, hostOps0, List.flatten_cons, List.flatten_nil, List.cons_append, List.nil_append, List.append_nil,
    StableHlo.TRef.unary, StableHlo.TRef.toBuf, StableHlo.TRef.ofBuf, cast_eq]
  after_results_simp
  rfl

namespace Ref

open Cert.Reference9Ideal.Read

variable (z : Vec Ideal S8704x2048 .bf16) (w : Vec Ideal S2048x2048 .f32) (x : Vec Ideal S8704x2048 .f32)
  (g b : Vec Ideal S1x2048 .f32)

theorem zero_bits : Ideal.ofBits FTy.f32 0x00000000#32 = 0 := by simp [Ideal.ofBits, Ideal.ieee]

/-- The row the reference normalizes. -/
theorem sum_read (R : Fin 8704) (l : Fin 2048) : val_main_v4 (F := Ideal) z w x (ix2 R l) = sum z (low w) x R l := by
  rw [val_main_v4_apply, val_main_v1_apply, val_main_v0_apply, val_main_cst_apply, val_main_v3_apply]
  refine congrArg₂ (fun a b : EReal => a + b) rfl (Finset.sum_congr rfl fun d _ => ?_)
  refine congrArg₂ (fun a b : EReal => a * b) (congrArg z ?_) (congrArg w ?_)
  · funext a; fin_cases a <;> rfl
  · funext a; fin_cases a <;> rfl

/-- A row's mean. -/
theorem mean_read (i : Cert.Reference9Ideal.S8704x1.Idx) (R : Fin 8704) (hi : i 0 = R) : val_main_v8 (F := Ideal) z w x i =
    Ideal.div (∑ k, val_main_v4 (F := Ideal) z w x (ix2 R k)) (Ideal.ofBits FTy.f32 1157627904#32) := by
  rw [val_main_v8_apply, val_main_v7_apply, val_main_cst_1_apply, val_main_v6_apply, val_main_v5_apply, val_main_cst_0_apply]
  refine congrArg₂ Ideal.div ((congrArg (· + _) zero_bits).trans ((zero_add _).trans (Finset.sum_congr rfl fun k _ => ?_))) rfl
  refine congrArg (val_main_v4 (F := Ideal) z w x) ?_
  subst hi
  funext a; fin_cases a <;> rfl

/-- The reference's result is the kernel's. -/
theorem out_read (y : S8704x2048.Idx) : val_main_v26 (F := Ideal) z w x g b y = kerOut z (low w) x g b y := by
  obtain ⟨R, l, rfl⟩ : ∃ R l, y = ix2 R l := ⟨y 0, y 1, by funext a; fin_cases a <;> rfl⟩
  have hy : kerOut z (low w) x g b (ix2 R l)
      = normed (fun k => val_main_v4 (F := Ideal) z w x (ix2 R k)) (g (ix2 0 l)) (b (ix2 0 l)) l :=
    congrArg (fun y => normed y (g (ix2 0 l)) (b (ix2 0 l)) l) (funext fun k => (sum_read z w x R k).symm)
  rw [hy, val_main_v26_apply, val_main_v25_apply, val_main_v24_apply, val_main_v23_apply, val_main_v22_apply,
    val_main_v21_apply, val_main_v20_apply, val_main_v19_apply, val_main_v18_apply, val_main_cst_4_apply,
    val_main_v17_apply, val_main_v16_apply, val_main_v15_apply, val_main_v14_apply, val_main_cst_3_apply,
    val_main_v13_apply, val_main_v12_apply, val_main_cst_2_apply, mean_read z w x (idx_main_v16 (ix2 R l)) R rfl]
  unfold normed
  refine congrArg₂ (fun a b : EReal => a + b) (congrArg₂ (fun a b : EReal => a * b) (congrArg₂ (fun a b : EReal => a * b) rfl
    (congrArg Ideal.rsqrt (congrArg₂ (fun a b : EReal => a + b) (congrArg₂ Ideal.div
      ((congrArg (· + _) zero_bits).trans ((zero_add _).trans (Finset.sum_congr rfl fun k _ => ?_))) rfl) rfl)))
      (congrArg g ?_)) (congrArg b ?_)
  · have hk : idx_main_v12 (idx_main_v13 (idx_main_v21 (ix2 R l))) k = ix2 R k := by funext a; fin_cases a <;> rfl
    rw [hk, val_main_v11_apply, val_main_v10_apply, val_main_v9_apply, mean_read z w x (idx_main_v9 (ix2 R k)) R rfl]
    rfl
  · funext a; fin_cases a <;> rfl
  · funext a; fin_cases a <;> rfl

end Ref

end Cert.Ln9

end
-- ==== Proof.Ln10.lean ====
/- The output projection of an attention layer with the residual and the layer norm: what one grid point leaves in the result block,
   the result array after the run, and that it is the reference's. -/
module

public import proofs.«01_k».proof.Proof.Gen.Kernel10Ideal.Value
public import proofs.«01_k».proof.Proof.Gen.Reference10Ideal.Read
public import Idealize.ShloMosaic.Lib.Pointwise
public import Idealize.ShloMosaic.Lib.Pipeline.Value
public import Idealize.ShloMosaic.Lib.Pipeline.ReadBack
public import Idealize.ShloMosaic.Lib.Pipeline.ValueKit.Geometry
public import Idealize.ShloMosaic.Lib.Pipeline.ValueKit.Acc

@[expose] public section

noncomputable section

namespace Cert.Ln10

open Cert.Kernel10Ideal Cert.Kernel10Ideal.Gen Idealize.ShloMosaic Idealize.ShloMosaic.TcCoe

variable (m : (ℓ : Loc nD τ sig) → Buf (Elt Ideal) ℓ)

/-- A row `y` normalized: its mean taken off, divided by its deviation, scaled by `g` and shifted by `b`, at column `l`. -/
def normed (y : Fin 2048 → EReal) (g b : EReal) (l : Fin 2048) : EReal :=
  (y l - Ideal.div (∑ x, y x) (Ideal.ofBits FTy.f32 1157627904#32)) *
      Ideal.rsqrt (Ideal.div (∑ x, (y x - Ideal.div (∑ x, y x) (Ideal.ofBits FTy.f32 1157627904#32)) *
          (y x - Ideal.div (∑ x, y x) (Ideal.ofBits FTy.f32 1157627904#32))) (Ideal.ofBits FTy.f32 1157627904#32) +
        Ideal.ofBits FTy.f32 925353388#32) * g + b

theorem pay_read (w : Vec Ideal S2048x2048 .bf16) (z : Vec Ideal S256x2048 .bf16) (x : Vec Ideal S256x2048 .f32)
    (g b : Vec Ideal S1x2048 .f32) (r : Fin 256) (l : Fin 2048) : k0_pay1 w z x g b (ix2 r l) =
      normed (fun k => Ideal.ofBits FTy.f32 1071072509#32 * x (ix2 r k) + ∑ d, z (ix2 r d) * w (ix2 d k))
        (g (ix2 0 l)) (b (ix2 0 l)) l := by
  unfold k0_pay1 normed
  pointwise

/-- Row `r` of the block of rows at point `n`. -/
def row (n : ℕ) (hn : n < 34) (r : Fin 256) : Fin 8704 := ⟨n * 256 + r.val, by omega⟩

theorem index0 : ∀ t : Fin cfg0.N, win0_0.index t = ![t.val, 0] := (by decide +kernel : ∀ t : Fin grid0.N, _)
theorem index1 : ∀ t : Fin cfg0.N, win0_1.index t = ![0, 0] := (by decide +kernel : ∀ t : Fin grid0.N, _)
theorem index2 : ∀ t : Fin cfg0.N, win0_2.index t = ![t.val, 0] := (by decide +kernel : ∀ t : Fin grid0.N, _)
theorem index3 : ∀ t : Fin cfg0.N, win0_3.index t = ![0, 0] := (by decide +kernel : ∀ t : Fin grid0.N, _)
theorem index4 : ∀ t : Fin cfg0.N, win0_4.index t = ![0, 0] := (by decide +kernel : ∀ t : Fin grid0.N, _)
theorem index5 : ∀ t : Fin cfg0.N, win0_5.index t = ![t.val, 0] := (by decide +kernel : ∀ t : Fin grid0.N, _)
theorem flush5 : ∀ t : Fin cfg0.N, (cfg0.win 5).flush t = true := (by decide +kernel : ∀ t : Fin grid0.N, _)

theorem iblk0_read (c : Dev nD) (t : Fin cfg0.N) (r : Fin 256) (l : Fin 2048) :
    iblk m c 0 t (ix2 r l) = V m c main_arg0 (ix2 (row t.val (lt_of_lt_of_eq t.isLt N_0) r) l) := by
  blk_simp [iblk]
  refine congrArg _ (funext fun a => Fin.ext ?_)
  fin_cases a
  · blk_simp [index0]; rfl
  · blk_simp [index0]; rfl

theorem iblk1_read (c : Dev nD) (t : Fin cfg0.N) (d l : Fin 2048) :
    iblk m c 1 t (ix2 d l) = V m c main_v0 (ix2 d l) := by
  blk_simp [iblk]
  refine congrArg _ (funext fun a => Fin.ext ?_)
  fin_cases a
  · blk_simp [index1]; try rfl
  · blk_simp [index1]; try rfl

theorem iblk2_read (c : Dev nD) (t : Fin cfg0.N) (r : Fin 256) (l : Fin 2048) :
    iblk m c 2 t (ix2 r l) = V m c main_arg2 (ix2 (row t.val (lt_of_lt_of_eq t.isLt N_0) r) l) := by
  blk_simp [iblk]
  refine congrArg _ (funext fun a => Fin.ext ?_)
  fin_cases a
  · blk_simp [index2]; rfl
  · blk_simp [index2]; rfl

theorem iblk3_read (c : Dev nD) (t : Fin cfg0.N) (l : Fin 2048) :
    iblk m c 3 t (ix2 0 l) = V m c main_arg3 (ix2 0 l) := by
  blk_simp [iblk]
  refine congrArg _ (funext fun a => Fin.ext ?_)
  fin_cases a
  · blk_simp [index3]
  · blk_simp [index3]

theorem iblk4_read (c : Dev nD) (t : Fin cfg0.N) (l : Fin 2048) :
    iblk m c 4 t (ix2 0 l) = V m c main_arg4 (ix2 0 l) := by
  blk_simp [iblk]
  refine congrArg _ (funext fun a => Fin.ext ?_)
  fin_cases a
  · blk_simp [index4]
  · blk_simp [index4]

section
variable (z : Vec Ideal S8704x2048 .bf16) (w : Vec Ideal S2048x2048 .bf16) (x : Vec Ideal S8704x2048 .f32)
  (g b : Vec Ideal S1x2048 .f32)

/-- The row that is normalized. -/
def sum (R : Fin 8704) (k : Fin 2048) : EReal :=
  Ideal.ofBits FTy.f32 1071072509#32 * x (ix2 R k) + ∑ d : Fin 2048, z (ix2 R d) * w (ix2 d k)

/-- What the kernel leaves in its result array. -/
def kerOut (y : S8704x2048.Idx) : EReal := normed (sum z w x (y 0)) (g (ix2 0 (y 1))) (b (ix2 0 (y 1))) (y 1)
end

/-- What one point leaves in the result block. -/
theorem point_read (c : Dev nD) (t : Fin cfg0.N) (r : Fin 256) (l : Fin 2048) :
    out0_5 (iblk m c 0 t) (iblk m c 1 t) (iblk m c 2 t) (iblk m c 3 t) (iblk m c 4 t) (ix2 r l)
      = kerOut (V m c main_arg0) (V m c main_v0) (V m c main_arg2) (V m c main_arg3) (V m c main_arg4)
          (ix2 (row t.val (lt_of_lt_of_eq t.isLt N_0) r) l) := by
  have h : out0_5 (iblk m c 0 t) (iblk m c 1 t) (iblk m c 2 t) (iblk m c 3 t) (iblk m c 4 t)
      = k0_pay1 (iblk m c 1 t) (iblk m c 0 t) (iblk m c 2 t) (iblk m c 3 t) (iblk m c 4 t) := by
    frame_out
  rw [h, pay_read, iblk3_read, iblk4_read]
  refine congrArg (fun y => normed y _ _ l) (funext fun k => ?_)
  rw [iblk2_read]
  unfold sum
  refine congrArg (_ + ·) (Finset.sum_congr rfl fun d _ => ?_)
  rw [iblk0_read, iblk1_read]
  rfl

/-- The result array after the run. -/
theorem final (c : Dev nD) : (dats m 0 c).arrAt 5 cfg0.N
    = kerOut (V m c main_arg0) (V m c main_v0) (V m c main_arg2) (V m c main_arg3) (V m c main_arg4) := by
  refine (dats m 0 c).arrAt_eq_of_covers 5 _ (by decide +kernel) fun t hf y => ?_
  blk_simp
  rw [after0_5]
  obtain ⟨r, l, rfl⟩ : ∃ r l, y = ix2 (n0 := 256) (n1 := 2048) r l := ⟨y 0, y 1, eq_ix2 y⟩
  have hemb : (win0_5.blk t).view.emb (ix2 (n0 := 256) (n1 := 2048) r l)
      = ix2 (n0 := 8704) (n1 := 2048) (row t.val (lt_of_lt_of_eq t.isLt N_0) r) l := by
    refine funext fun a => Fin.ext ?_
    fin_cases a
    · blk_simp [index5]; rfl
    · blk_simp [index5]; rfl
  exact (point_read m c t r l).trans (congrArg (kerOut _ _ _ _ _) hemb).symm

/-- The weights rounded. -/
def low (w : FVec Ideal S2048x2048 .f32) : FVec Ideal S2048x2048 .bf16 := truncf .bf16 w bitsLt_bf16_f32

theorem V_w (c : Dev nD) : V m c main_v0 = low (m ((c : Thread nD τ).loc main_arg1)) := by
  simp only [V, hostOps0, List.flatten_cons, List.flatten_nil, List.cons_append, List.nil_append, List.append_nil,
    StableHlo.TRef.unary, StableHlo.TRef.toBuf, StableHlo.TRef.ofBuf, cast_eq]
  after_results_simp
  rfl

namespace Ref

open Cert.Reference10Ideal.Read

variable (z : Vec Ideal S8704x2048 .bf16) (w : Vec Ideal S2048x2048 .f32) (x : Vec Ideal S8704x2048 .f32)
  (g b : Vec Ideal S1x2048 .f32)

theorem zero_bits : Ideal.ofBits FTy.f32 0x00000000#32 = 0 := by simp [Ideal.ofBits, Ideal.ieee]

/-- The row the reference normalizes. -/
theorem sum_read (R : Fin 8704) (l : Fin 2048) : val_main_v4 (F := Ideal) z w x (ix2 R l) = sum z (low w) x R l := by
  rw [val_main_v4_apply, val_main_v1_apply, val_main_v0_apply, val_main_cst_apply, val_main_v3_apply]
  refine congrArg₂ (fun a b : EReal => a + b) rfl (Finset.sum_congr rfl fun d _ => ?_)
  refine congrArg₂ (fun a b : EReal => a * b) (congrArg z ?_) (congrArg w ?_)
  · funext a; fin_cases a <;> rfl
  · funext a; fin_cases a <;> rfl

/-- A row's mean. -/
theorem mean_read (i : Cert.Reference10Ideal.S8704x1.Idx) (R : Fin 8704) (hi : i 0 = R) : val_main_v8 (F := Ideal) z w x i =
    Ideal.div (∑ k, val_main_v4 (F := Ideal) z w x (ix2 R k)) (Ideal.ofBits FTy.f32 1157627904#32) := by
  rw [val_main_v8_apply, val_main_v7_apply, val_main_cst_1_apply, val_main_v6_apply, val_main_v5_apply, val_main_cst_0_apply]
  refine congrArg₂ Ideal.div ((congrArg (· + _) zero_bits).trans ((zero_add _).trans (Finset.sum_congr rfl fun k _ => ?_))) rfl
  refine congrArg (val_main_v4 (F := Ideal) z w x) ?_
  subst hi
  funext a; fin_cases a <;> rfl

/-- The reference's result is the kernel's. -/
theorem out_read (y : S8704x2048.Idx) : val_main_v26 (F := Ideal) z w x g b y = kerOut z (low w) x g b y := by
  obtain ⟨R, l, rfl⟩ : ∃ R l, y = ix2 R l := ⟨y 0, y 1, by funext a; fin_cases a <;> rfl⟩
  have hy : kerOut z (low w) x g b (ix2 R l)
      = normed (fun k => val_main_v4 (F := Ideal) z w x (ix2 R k)) (g (ix2 0 l)) (b (ix2 0 l)) l :=
    congrArg (fun y => normed y (g (ix2 0 l)) (b (ix2 0 l)) l) (funext fun k => (sum_read z w x R k).symm)
  rw [hy, val_main_v26_apply, val_main_v25_apply, val_main_v24_apply, val_main_v23_apply, val_main_v22_apply,
    val_main_v21_apply, val_main_v20_apply, val_main_v19_apply, val_main_v18_apply, val_main_cst_4_apply,
    val_main_v17_apply, val_main_v16_apply, val_main_v15_apply, val_main_v14_apply, val_main_cst_3_apply,
    val_main_v13_apply, val_main_v12_apply, val_main_cst_2_apply, mean_read z w x (idx_main_v16 (ix2 R l)) R rfl]
  unfold normed
  refine congrArg₂ (fun a b : EReal => a + b) (congrArg₂ (fun a b : EReal => a * b) (congrArg₂ (fun a b : EReal => a * b) rfl
    (congrArg Ideal.rsqrt (congrArg₂ (fun a b : EReal => a + b) (congrArg₂ Ideal.div
      ((congrArg (· + _) zero_bits).trans ((zero_add _).trans (Finset.sum_congr rfl fun k _ => ?_))) rfl) rfl)))
      (congrArg g ?_)) (congrArg b ?_)
  · have hk : idx_main_v12 (idx_main_v13 (idx_main_v21 (ix2 R l))) k = ix2 R k := by funext a; fin_cases a <;> rfl
    rw [hk, val_main_v11_apply, val_main_v10_apply, val_main_v9_apply, mean_read z w x (idx_main_v9 (ix2 R k)) R rfl]
    rfl
  · funext a; fin_cases a <;> rfl
  · funext a; fin_cases a <;> rfl

end Ref

end Cert.Ln10

end
-- ==== Proof.DStep.lean ====
/- One grid point of the dense feed-forward kernel: what its body makes of the output block and of the carried rows. -/
module

public import proofs.«01_k».proof.Proof.Gen.Kernel11Ideal.Launch
public import proofs.«01_k».proof.Proof.Gen.Kernel11Ideal.Skeleton
public import Idealize.ShloMosaic.Lib.Pipeline.FrameBody
public import Idealize.ShloMosaic.Lib.Pipeline.Kit
public import Idealize.ShloMosaic.Lib.Pipeline.Value
public import Idealize.ShloMosaic.Lib.Pipeline.ValueKit.Acc
public import Idealize.ShloMosaic.Lib.Ring
public import Idealize.ShloMosaic.Lib.Tactic
public import Idealize.ShloMosaic.Lib.WordCmp

@[expose] public section

set_option maxRecDepth 16384

noncomputable section

namespace Cert.Kernel11Ideal.Dense

open Cert.Kernel11Ideal Cert.Kernel11Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The resources a proof about the machine holds. -/
abbrev Mod (F : FTy → Type) := MT nD τ sig Unit (Elt F) ℕ (UR sig nD τ) ℕ

/-- The two tables, as the body is handed them, and the array it carries the rounded rows in. -/
abbrev tabE : Memref sig .tc .smem S16 .i32 := Memref.whole main_v6
abbrev tabN : Memref sig .tc .smem S1 .i32 := Memref.whole main_v7
abbrev carried : Memref sig .tc .vmem S544x2048 .bf16 := Memref.whole cc0_scratch0

/-- The contents of a table on core `c`. -/
abbrev Words (c : Dev nD) {S : Shape} (M : Memref sig .tc .smem S .i32) : Type := Buf (Elt F) (M.view.loc (c : Thread nD τ))

/-- A table held for reading at the contents `f`. -/
abbrev held (c : Dev nD) {S : Shape} (M : Memref sig .tc .smem S .i32) (f : Words (F := F) c M) : sProp (Mod F) :=
  M.view.loc (c : Thread nD τ) ↦{fullShare.right} f

/-- The count of tiles in use, as the body reads it. -/
abbrev count (c : Dev nD) (f : Words (F := F) c tabN) : BitVec 32 :=
  tabN.view.readAt (Elt F) (Rect.unit (s := S1) ![0] S1.size inb_S1_S1_0).toLoadRect f (Shape.Idx.first (numel1_S1.symm ▸ Nat.one_pos))

/-- What the body makes of the carried rows: rounded afresh at a tile's first point. -/
def stepX (i : grid0.Coords) (x0 : Vec F S544x2048 .f32) (s : Vec F S544x2048 .bf16) : Vec F S544x2048 .bf16 :=
  if k0_cond1 i = 1#1 then k0_pay2 x0 else s

/-- What the body makes of an output block `d`: cleared at a tile's first point, grown by one stripe, normalized with
    the rows at its last point. -/
def stepO (i : grid0.Coords) (v : BitVec 32) (x0 : Vec F S544x2048 .f32) (x1 x2 : Vec F S1x2048x512 .bf16) (x3 : Vec F S1x512x2048 .bf16)
    (x4 x5 : Vec F S1x2048 .f32) (s : Vec F S544x2048 .bf16) (d : Vec F S544x2048 .f32) : Vec F S544x2048 .f32 :=
  let a : Vec F S544x2048 .f32 := if k0_cond1 i = 1#1 then k0_pay1 else d
  let b : Vec F S544x2048 .f32 := if k0_cond2 i v = 1#1 then k0_pay3 (stepX i x0 s) x1 x2 a x3 else a
  if k0_cond3 i = 1#1 then k0_pay4 x0 b x4 x5 else b

/-- A point neither first nor last, of a tile not in use, leaves the block as it is. -/
theorem stepO_idle {i : grid0.Coords} {v : BitVec 32} {x0 : Vec F S544x2048 .f32} {x1 x2 : Vec F S1x2048x512 .bf16} {x3 : Vec F S1x512x2048 .bf16}
    {x4 x5 : Vec F S1x2048 .f32} {s : Vec F S544x2048 .bf16} {d : Vec F S544x2048 .f32} (h1 : ¬k0_cond1 i = 1#1) (h2 : ¬k0_cond2 i v = 1#1)
    (h3 : ¬k0_cond3 i = 1#1) : stepO i v x0 x1 x2 x3 x4 x5 s d = d := by
  unfold stepO
  simp only [if_neg h1, if_neg h2, if_neg h3]

/-- A store of a whole block, last, leaves what it stored. -/
theorem last_store {S : Shape} {e : EltTy} {sp : Space} (v : View sig .tc sp S e) (f : v.ty.Contents (Elt F)) {off : Fin S.rank → Nat}
    (inb : ∀ a, off a + S.size a ≤ S.size a) (w : S.Idx → Elt F e) (L : List (View.Piece (Elt F) S e)) (h : off = fun _ => 0) :
    v.read (Elt F) (v.writes (Elt F) f ((⟨Rect.unit off S.size inb, w⟩ : View.Piece (Elt F) S e) :: L)) = w := by
  rw [View.read_writes_eq_canon v f _ (fun y => ⟨_, List.mem_cons_self, View.mem_set_unit_zero h inb y⟩), View.canon_cons_unit_zero h inb w L]

theorem zero2 : (![0, 0] : Fin 2 → ℕ) = fun _ => 0 := by decide

set_option maxHeartbeats 1600000 in
/-- The body at any point, on any whole buffers: the inputs and the tables as they were, the output block and the carried
    rows one step on. -/
theorem body_run (c : Dev nD) (i : grid0.Coords)
    (a4 : Memref sig .tc .vmem S544x2048 .f32) (w4 : a4.IsWhole)
    (a5 : Memref sig .tc .vmem S1x2048x512 .bf16) (w5 : a5.IsWhole)
    (a6 : Memref sig .tc .vmem S1x2048x512 .bf16) (w6 : a6.IsWhole)
    (a7 : Memref sig .tc .vmem S1x512x2048 .bf16) (w7 : a7.IsWhole)
    (a8 : Memref sig .tc .vmem S1x2048 .f32) (w8 : a8.IsWhole)
    (a9 : Memref sig .tc .vmem S1x2048 .f32) (w9 : a9.IsWhole)
    (a10 : Memref sig .tc .vmem S544x2048 .f32) (w10 : a10.IsWhole)
    (a11 : Memref sig .tc .vmem S544x2048 .bf16) (w11 : a11.IsWhole)
    (x0 : Vec F S544x2048 .f32) (x1 x2 : Vec F S1x2048x512 .bf16) (x3 : Vec F S1x512x2048 .bf16) (x4 x5 : Vec F S1x2048 .f32)
    (d : Vec F S544x2048 .f32) (s : Vec F S544x2048 .bf16) (te : Words (F := F) c tabE) (tn : Words (F := F) c tabN)
    (E : Set ℕ) (K : PUnit → sProp (Mod F)) :
    iprop(owns (c : Thread nD τ) a4 fullShare x0 ∗ owns (c : Thread nD τ) a5 fullShare x1 ∗ owns (c : Thread nD τ) a6 fullShare x2 ∗ owns (c : Thread nD τ) a7 fullShare x3 ∗ owns (c : Thread nD τ) a8 fullShare x4 ∗ owns (c : Thread nD τ) a9 fullShare x5
        ∗ owns (c : Thread nD τ) a10 fullShare d ∗ owns (c : Thread nD τ) a11 fullShare s ∗ held c tabE te ∗ held c tabN tn
        ∗ (iprop(owns (c : Thread nD τ) a4 fullShare x0 ∗ owns (c : Thread nD τ) a5 fullShare x1 ∗ owns (c : Thread nD τ) a6 fullShare x2 ∗ owns (c : Thread nD τ) a7 fullShare x3 ∗ owns (c : Thread nD τ) a8 fullShare x4 ∗ owns (c : Thread nD τ) a9 fullShare x5
            ∗ owns (c : Thread nD τ) a10 fullShare (stepO i (count c tn) x0 x1 x2 x3 x4 x5 s d) ∗ owns (c : Thread nD τ) a11 fullShare (stepX i x0 s)
            ∗ held c tabE te ∗ held c tabN tn) -∗ K ⟨⟩))
      ⊢ wp frame (wpE (defs₀ (F := F)) Variants.none c none) E
          (cc0_dense_ffn i tabE (Memref.isWhole_whole _) tabN (Memref.isWhole_whole _) a4 w4 a5 w5 a6 w6 a7 w7 a8 w8 a9 w9 a10 w10 a11 w11) K := by
  simp only [cc0_dense_ffn_eq_skeleton]; unfold cc0_dense_ffn_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, HT0, HT1, Hk⟩
  obtain rfl := w4.eq_unread hf0
  obtain rfl := w5.eq_unread hf1
  obtain rfl := w6.eq_unread hf2
  obtain rfl := w7.eq_unread hf3
  obtain rfl := w8.eq_unread hf4
  obtain rfl := w9.eq_unread hf5
  obtain rfl := w10.eq_unread hf6
  obtain rfl := w11.eq_unread hf7
  by_cases h1 : k0_cond1 i = 1#1 <;> by_cases h2 : k0_cond2 i (count c tn) = 1#1 <;> by_cases h3 : k0_cond3 i = 1#1
  all_goals
    sl_exec (disch := first | sl_exact h1 | sl_exact h2 | sl_exact h3)
    sl_step
    iapply Hk
    isplitl [H0]
    · iexists _; isplitr; · ipureintro; exact w4.read_unread _
      iexact H0
    isplitl [H1]
    · iexists _; isplitr; · ipureintro; exact w5.read_unread _
      iexact H1
    isplitl [H2]
    · iexists _; isplitr; · ipureintro; exact w6.read_unread _
      iexact H2
    isplitl [H3]
    · iexists _; isplitr; · ipureintro; exact w7.read_unread _
      iexact H3
    isplitl [H4]
    · iexists _; isplitr; · ipureintro; exact w8.read_unread _
      iexact H4
    isplitl [H5]
    · iexists _; isplitr; · ipureintro; exact w9.read_unread _
      iexact H5
    isplitl [H6]
    · iexists _; isplitr
      swap; · iexact H6
      ipureintro
      unfold stepO stepX
      simp only [h1, h2, h3, if_true, if_false]
      first
        | refine (last_store a10.view _ _ _ _ zero2).trans ?_
          frame_out
        | exact hf6
    isplitl [H7]
    · iexists _; isplitr
      swap; · iexact H7
      ipureintro
      unfold stepX
      simp only [h1, if_true, if_false]
      first
        | refine (last_store a11.view _ _ _ _ zero2).trans ?_
          frame_out
        | exact hf7
    isplitl [HT0]; · iexact HT0
    iexact HT1

end Cert.Kernel11Ideal.Dense

end
-- ==== Proof.DFrame.lean ====
/- The dense feed-forward kernel runs to the end from any memory whose tables pick blocks inside the arrays, and what its
   output block and its carried rows hold at every point. -/
module

public import proofs.«01_k».proof.Proof.DStep
public import Idealize.ShloMosaic.Lib.Claim

@[expose] public section

set_option maxRecDepth 16384

noncomputable section

namespace Cert.Kernel11Ideal.Dense

open Cert.Kernel11Ideal Cert.Kernel11Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-! ## The memory when the pipeline begins -/

/-- Core `c`'s buffers after the host's operations. -/
abbrev entry (c : Dev nD) (b : Ref sig .tc) : Buf (Elt F) ((c : Thread nD τ).loc b) := StableHlo.after hostOps0 (fun b => m (c, b)) b

theorem host_fresh : (hostOps0 : List (HloOp τ sig (Elt F))).Forall fun op => op.fresh = ∅ := by
  simp only [List.Forall]; repeat' constructor

set_option maxHeartbeats 800000 in
theorem host_main (𝒱₀ : Variants) :
    Pipeline.HMainP (Ix := Unit) (Name := ℕ) (U := UR sig nD τ) (Lvl := ℕ) pcfgs 0 defs₀ 𝒱₀ m (main (F := F)) (entry m) :=
  Pipeline.hmainP_prefix pcfgs 0 defs₀ 𝒱₀ m main hostOps0 hostOps0_sub host_fresh main_chain

/-- The host's operations write no argument. -/
theorem entry_arg (c : Dev nD) (b : Ref sig .tc) (hb : b ∈ [main_arg0, main_arg1, main_arg2, main_arg3, main_arg4, main_arg5]) :
    entry m c b = m ((c : Thread nD τ).loc b) := by
  simp only [List.mem_cons, List.not_mem_nil, or_false] at hb
  rcases hb with rfl | rfl | rfl | rfl | rfl | rfl
  all_goals
    refine StableHlo.after_of_forall_not_mem (b := Proc.devRef .tc _) _ _ (List.forall_iff_forall_mem.mp ?_)
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)

/-! ## The tables -/

/-- The tables' words when the pipeline begins. -/
def tbl : pre0.Contents (Elt F) := fun j => entry m (0 : Dev nD) (pre0.ref j)

theorem entry_pre (c : Dev nD) (j : Fin 2) : entry m c (pre0.ref j) = tbl m j := by
  obtain rfl : c = 0 := Subsingleton.elim _ _; rfl

/-- The blocks the tables' words pick lie inside the arrays. -/
abbrev Ok : Prop := ok0 (F := F) (tbl m)
abbrev adm (hO : Ok m) : (pcfg0 (F := F)).Adm := ⟨tbl m, hO⟩
abbrev cfgM (hO : Ok m) : Pipeline.Cfg sig Λ₀ := cfg0 (adm m hO)

theorem tables_held (c : Dev nD) :
    (Pipeline.ΦT pre0 (tbl m) c : sProp (Mod F)) = iprop(held c tabE (tbl m 0) ∗ held c tabN (tbl m 1)) := by
  unfold Pipeline.ΦT Pipeline.prefHeld
  rw [show (Finset.univ : Finset (Fin 2)) = insert (0 : Fin 2) {(1 : Fin 2)} from by decide,
    bigSep_insert (by decide), bigSep_singleton]
  rfl

/-- The count of tiles in use. -/
abbrev cnt : BitVec 32 := (tbl m).atD 1 ![0]

theorem count_eq (c : Dev nD) : count c (tbl m 1) = cnt m := by
  obtain rfl : c = 0 := Subsingleton.elim _ _
  rfl

/-! ## The windows' blocks -/

/-- Window `w`'s block at point `t`. -/
def iblk (hO : Ok m) (c : Dev nD) (w : Fin (cfgM m hO).W) (t : Fin (cfgM m hO).N) :
    (((cfgM m hO).win w).xblock ((cfgM m hO).grid.coords t)).Idx → Elt F ((cfgM m hO).win w).elt :=
  (((cfgM m hO).win w).blk t).view.read (Elt F) (entry m c (Pipeline.arrRef spec0 w))

theorem first_iff : ∀ t : Fin grid0.N, k0_cond1 (grid0.coords t) = 1#1 ↔ t.val % 11 = 0 :=
  (fun t => by
    have ht : t.val < 176 := Nat.lt_of_lt_of_eq t.isLt N_0
    have e0 : (grid0.coords t 0).val = t.val / 11 % 16 := Pipeline.Grid.coords_val t 0 (by decide) rfl
    have e1 : (grid0.coords t 1).val = t.val / 1 % 11 := Pipeline.Grid.coords_val t 1 (by decide) rfl
    simp only [k0_cond1, e0, e1]
    word_cmp
   : ∀ t : Fin grid0.N, k0_cond1 (grid0.coords t) = 1#1 ↔ t.val % 11 = 0)

theorem last_iff : ∀ t : Fin grid0.N, k0_cond3 (grid0.coords t) = 1#1 ↔ t.val % 11 = 10 :=
  (fun t => by
    have ht : t.val < 176 := Nat.lt_of_lt_of_eq t.isLt N_0
    have e0 : (grid0.coords t 0).val = t.val / 11 % 16 := Pipeline.Grid.coords_val t 0 (by decide) rfl
    have e1 : (grid0.coords t 1).val = t.val / 1 % 11 := Pipeline.Grid.coords_val t 1 (by decide) rfl
    simp only [k0_cond3, e0, e1]
    word_cmp
   : ∀ t : Fin grid0.N, k0_cond3 (grid0.coords t) = 1#1 ↔ t.val % 11 = 10)

/-- The output block is written back at a tile's last point. -/
theorem flush6 (a : (pcfg0 (F := F)).Adm) : ∀ t : Fin (cfg0 a).N, ((cfg0 a).win 6).flush t = true ↔ t.val % 11 = 10 :=
  (fun t => Pipeline.Window.flushOf_reads cc0_transform_6 reads0_6 hreads0_6 0 (by decide) (by decide) (Pipeline.Window.sep_of_coord cc0_transform_6 0 0 (fun _ => rfl) (by decide)) (P := 11) (m := 10) (by decide) rfl t : ∀ t : Fin grid0.N, Pipeline.Window.flushOf grid0 true cc0_transform_6 t = true ↔ t.val % 11 = 10)

/-! ## The output block, point by point -/

/-- The output block and the carried rows. -/
abbrev Pair (F : FTy → Type) : Type := Vec F S544x2048 .f32 × Vec F S544x2048 .bf16

/-- One step at point `t`, on the blocks there. -/
def stepAt (hO : Ok m) (c : Dev nD) (t : Fin (cfgM m hO).N) (p : Pair F) : Pair F :=
  (stepO (grid0.coords t) (cnt m) (iblk m hO c 0 t) (iblk m hO c 1 t) (iblk m hO c 2 t) (iblk m hO c 3 t) (iblk m hO c 4 t) (iblk m hO c 5 t) p.2 p.1,
    stepX (grid0.coords t) (iblk m hO c 0 t) p.2)

/-- What the output block and the carried rows hold after point `n`. -/
def outs (hO : Ok m) (c : Dev nD) : (n : ℕ) → n < (cfgM m hO).N → Pair F
  | 0, h => stepAt m hO c ⟨0, h⟩ (k0_pay1, k0_pay2 (iblk m hO c 0 ⟨0, h⟩))
  | n + 1, h => stepAt m hO c ⟨n + 1, h⟩ (outs hO c n (Nat.lt_of_succ_lt h))

/-- At a tile's first point the step takes nothing from the point before. -/
theorem stepAt_first (hO : Ok m) (c : Dev nD) (t : Fin (cfgM m hO).N) (h : t.val % 11 = 0) (p p' : Pair F) :
    stepAt m hO c t p = stepAt m hO c t p' := by
  unfold stepAt stepO stepX
  simp only [if_pos ((first_iff t).mpr h)]

theorem outs_first (hO : Ok m) (c : Dev nD) (t : Fin (cfgM m hO).N) (h : t.val % 11 = 0) (p : Pair F) :
    outs m hO c t.val t.isLt = stepAt m hO c t p := by
  obtain ⟨n, hn⟩ := t
  cases n with
  | zero => exact stepAt_first m hO c _ h _ _
  | succ n => exact stepAt_first m hO c _ h _ _

theorem outs_next (hO : Ok m) (c : Dev nD) (t : Fin (cfgM m hO).N) (h : t.val ≠ 0) :
    outs m hO c t.val t.isLt = stepAt m hO c t (outs m hO c (t.val - 1) (Nat.lt_of_le_of_lt (Nat.sub_le _ _) t.isLt)) := by
  obtain ⟨n, hn⟩ := t
  cases n with
  | zero => exact absurd rfl h
  | succ n => rfl

/-- What the core holds before point `n`: the carried rows as the point before left them, and the generator's state. -/
def phi (hO : Ok m) (c : Dev nD) : (n : ℕ) → n ≤ (cfgM m hO).N → sProp (Mod F)
  | 0, _ => Pipeline.ΦA spec0 c
  | n + 1, h => iprop(owns (c : Thread nD τ) carried fullShare (outs m hO c n h).2 ∗ (∃ r, prngReg c r))

theorem phiA_eq (c : Dev nD) :
    (Pipeline.ΦA spec0 c : sProp (Mod F)) = iprop((∃ d, owns (c : Thread nD τ) carried fullShare d) ∗ (∃ r, prngReg c r)) := by
  unfold Pipeline.ΦA; rw [scopedRest0_eq]; simp only [carried, owns_whole]; try rfl

theorem phi_pos (hO : Ok m) (c : Dev nD) (n : ℕ) (h : n ≤ (cfgM m hO).N) (hz : n ≠ 0) :
    phi m hO c n h = iprop(owns (c : Thread nD τ) carried fullShare (outs m hO c (n - 1) (by omega)).2 ∗ (∃ r, prngReg c r)) := by
  cases n with
  | zero => exact absurd rfl hz
  | succ n => rfl

/-! ## The pipeline's proof data -/

def dats (hO : Ok m) (_ : Fin 1) (c : Dev nD) : Dat τ (Elt F) Unit ℕ (UR sig nD τ) ℕ (cfgM m hO) c where
  A w := entry m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => iblk m hO c 4 t
    | ⟨5, _⟩ => iblk m hO c 5 t
    | ⟨6, _⟩ => (outs m hO c t.val t.isLt).1
  Φ t := iprop(phi m hO c t.val (Nat.le_of_lt_succ t.isLt) ∗ Pipeline.ΦT pre0 (tbl m) c)
  q _ := fullShare
  owed _ := 0

theorem A_eq (hO : Ok m) (c : Dev nD) (w : Fin (cfgM m hO).W) : (dats m hO 0 c).A w = entry m c (Pipeline.arrRef spec0 w) := by
  dsimp only [dats]

theorem after0 (hO : Ok m) (c : Dev nD) (t : Fin (cfgM m hO).N) : (dats m hO 0 c).after 0 t = iblk m hO c 0 t := by dsimp only [dats]; try rfl
theorem after1 (hO : Ok m) (c : Dev nD) (t : Fin (cfgM m hO).N) : (dats m hO 0 c).after 1 t = iblk m hO c 1 t := by dsimp only [dats]; try rfl
theorem after2 (hO : Ok m) (c : Dev nD) (t : Fin (cfgM m hO).N) : (dats m hO 0 c).after 2 t = iblk m hO c 2 t := by dsimp only [dats]; try rfl
theorem after3 (hO : Ok m) (c : Dev nD) (t : Fin (cfgM m hO).N) : (dats m hO 0 c).after 3 t = iblk m hO c 3 t := by dsimp only [dats]; try rfl
theorem after4 (hO : Ok m) (c : Dev nD) (t : Fin (cfgM m hO).N) : (dats m hO 0 c).after 4 t = iblk m hO c 4 t := by dsimp only [dats]; try rfl
theorem after5 (hO : Ok m) (c : Dev nD) (t : Fin (cfgM m hO).N) : (dats m hO 0 c).after 5 t = iblk m hO c 5 t := by dsimp only [dats]; try rfl
theorem after6 (hO : Ok m) (c : Dev nD) (t : Fin (cfgM m hO).N) : (dats m hO 0 c).after 6 t = (outs m hO c t.val t.isLt).1 := by dsimp only [dats]; try rfl

theorem before0 (hO : Ok m) (c : Dev nD) (t : Fin (cfgM m hO).N) (d) : (dats m hO 0 c).before 0 t d = iblk m hO c 0 t :=
  ((dats m hO 0 c).before_in_eq_fetched 0 rfl (fun _ => rfl) (fun _ _ _ => rfl)
    (fun t => by rw [after0]; unfold Dat.blockOf iblk; rw [A_eq]; try rfl) t d).trans (by unfold Dat.fetched Dat.blockOf iblk; rw [A_eq]; try rfl)
theorem before1 (hO : Ok m) (c : Dev nD) (t : Fin (cfgM m hO).N) (d) : (dats m hO 0 c).before 1 t d = iblk m hO c 1 t :=
  ((dats m hO 0 c).before_in_eq_fetched 1 rfl (fun _ => rfl) (fun _ _ _ => rfl)
    (fun t => by rw [after1]; unfold Dat.blockOf iblk; rw [A_eq]; try rfl) t d).trans (by unfold Dat.fetched Dat.blockOf iblk; rw [A_eq]; try rfl)
theorem before2 (hO : Ok m) (c : Dev nD) (t : Fin (cfgM m hO).N) (d) : (dats m hO 0 c).before 2 t d = iblk m hO c 2 t :=
  ((dats m hO 0 c).before_in_eq_fetched 2 rfl (fun _ => rfl) (fun _ _ _ => rfl)
    (fun t => by rw [after2]; unfold Dat.blockOf iblk; rw [A_eq]; try rfl) t d).trans (by unfold Dat.fetched Dat.blockOf iblk; rw [A_eq]; try rfl)
theorem before3 (hO : Ok m) (c : Dev nD) (t : Fin (cfgM m hO).N) (d) : (dats m hO 0 c).before 3 t d = iblk m hO c 3 t :=
  ((dats m hO 0 c).before_in_eq_fetched 3 rfl (fun _ => rfl) (fun _ _ _ => rfl)
    (fun t => by rw [after3]; unfold Dat.blockOf iblk; rw [A_eq]; try rfl) t d).trans (by unfold Dat.fetched Dat.blockOf iblk; rw [A_eq]; try rfl)
theorem before4 (hO : Ok m) (c : Dev nD) (t : Fin (cfgM m hO).N) (d) : (dats m hO 0 c).before 4 t d = iblk m hO c 4 t :=
  ((dats m hO 0 c).before_in_eq_fetched 4 rfl (fun _ => rfl) (fun _ _ _ => rfl)
    (fun t => by rw [after4]; unfold Dat.blockOf iblk; rw [A_eq]; try rfl) t d).trans (by unfold Dat.fetched Dat.blockOf iblk; rw [A_eq]; try rfl)
theorem before5 (hO : Ok m) (c : Dev nD) (t : Fin (cfgM m hO).N) (d) : (dats m hO 0 c).before 5 t d = iblk m hO c 5 t :=
  ((dats m hO 0 c).before_in_eq_fetched 5 rfl (fun _ => rfl) (fun _ _ _ => rfl)
    (fun t => by rw [after5]; unfold Dat.blockOf iblk; rw [A_eq]; try rfl) t d).trans (by unfold Dat.fetched Dat.blockOf iblk; rw [A_eq]; try rfl)

/-- Where the output block is left alone. -/
theorem idle6 (hO : Ok m) (t : Fin (cfgM m hO).N) (h : (cfgM m hO).idle 6 ((cfgM m hO).grid.coords t) = true) :
    ¬k0_cond1 (grid0.coords t) = 1#1 ∧ ¬k0_cond2 (grid0.coords t) (cnt m) = 1#1 ∧ ¬k0_cond3 (grid0.coords t) = 1#1 := by
  have h' : (!(k0_cond1 (grid0.coords t) == 1#1) && !(k0_cond2 (grid0.coords t) (cnt m) == 1#1) && !(k0_cond3 (grid0.coords t) == 1#1)) = true := h
  simp only [Bool.and_eq_true, Bool.not_eq_true', beq_eq_false_iff_ne, ne_eq] at h'
  exact ⟨h'.1.1, h'.1.2, h'.2⟩

theorem stepAt_idle (hO : Ok m) (c : Dev nD) (t : Fin (cfgM m hO).N) (h : (cfgM m hO).idle 6 ((cfgM m hO).grid.coords t) = true)
    (p : Pair F) : (stepAt m hO c t p).1 = p.1 :=
  stepO_idle (idle6 m hO t h).1 (idle6 m hO t h).2.1 (idle6 m hO t h).2.2

/-- Past a tile's first point the body finds the output block as the point before left it. -/
theorem before6 (hO : Ok m) (c : Dev nD) : ∀ (n : ℕ) (t : Fin (cfgM m hO).N), t.val = n → ¬t.val % 11 = 0 → ∀ d,
    (dats m hO 0 c).before 6 t d = (outs m hO c (t.val - 1) (Nat.lt_of_le_of_lt (Nat.sub_le _ _) t.isLt)).1 := by
  intro n
  induction n with
  | zero => intro t ht h0; omega
  | succ n ih =>
    intro t ht h0 d
    have hp : t.val - 1 < (cfgM m hO).N := Nat.lt_of_le_of_lt (Nat.sub_le _ _) t.isLt
    rw [(dats m hO 0 c).before_of_pos 6 t (by omega) (((cfgM m hO).win 6).fetch_out rfl t) d,
      if_neg (fun h => by have := (flush6 (adm m hO) _).mp h; dsimp only at this; omega)]
    unfold Dat.left
    cases hi : (cfgM m hO).idle 6 ((cfgM m hO).grid.coords ⟨t.val - 1, hp⟩) with
    | false =>
      dsimp only
      unfold Dat.kept
      rw [Pipeline.fill_of_clip_none 6 _ (fun _ => rfl) d ((dats m hO 0 c).after 6 _), Window.fill_cut]
      exact after6 m hO c ⟨t.val - 1, hp⟩
    | true =>
      dsimp only
      have h1 : ¬(t.val - 1) % 11 = 0 := fun h => (idle6 m hO _ hi).1 ((first_iff ⟨t.val - 1, hp⟩).mpr h)
      rw [ih ⟨t.val - 1, hp⟩ (by simp only; omega) h1 d]
      exact ((congrArg Prod.fst (outs_next m hO c ⟨t.val - 1, hp⟩ (by simp only; omega))).trans (stepAt_idle m hO c ⟨t.val - 1, hp⟩ hi _)).symm

/-- The carried rows the body may find at point `t`: any at the first, later those the point before left. -/
def Carries (hO : Ok m) (c : Dev nD) (t : Fin (cfgM m hO).N) (s : Vec F S544x2048 .bf16) : Prop :=
  t.val ≠ 0 → s = (outs m hO c (t.val - 1) (Nat.lt_of_le_of_lt (Nat.sub_le _ _) t.isLt)).2

/-- The step on what the body finds is what it is then to hold. -/
theorem stepAt_before (hO : Ok m) (c : Dev nD) (t : Fin (cfgM m hO).N) (d) (s : Vec F S544x2048 .bf16) (hs : Carries m hO c t s) :
    stepAt m hO c t ((dats m hO 0 c).before 6 t d, s) = outs m hO c t.val t.isLt := by
  by_cases h : t.val % 11 = 0
  · exact (outs_first m hO c t h _).symm
  · have hz : t.val ≠ 0 := fun h' => h (by rw [h'])
    rw [before6 m hO c t.val t rfl h d, hs hz]
    exact (outs_next m hO c t hz).symm

/-! ## The body obligation -/

abbrev ms0 (hO : Ok m) (t : Fin (cfgM m hO).N) : Memref sig .tc .vmem S544x2048 .f32 := spec0_0.stage ((cfgM m hO).slots t 0)
abbrev ms1 (hO : Ok m) (t : Fin (cfgM m hO).N) : Memref sig .tc .vmem S1x2048x512 .bf16 := spec0_1.stage ((cfgM m hO).slots t 1)
abbrev ms2 (hO : Ok m) (t : Fin (cfgM m hO).N) : Memref sig .tc .vmem S1x2048x512 .bf16 := spec0_2.stage ((cfgM m hO).slots t 2)
abbrev ms3 (hO : Ok m) (t : Fin (cfgM m hO).N) : Memref sig .tc .vmem S1x512x2048 .bf16 := spec0_3.stage ((cfgM m hO).slots t 3)
abbrev ms4 (hO : Ok m) (t : Fin (cfgM m hO).N) : Memref sig .tc .vmem S1x2048 .f32 := spec0_4.stage ((cfgM m hO).slots t 4)
abbrev ms5 (hO : Ok m) (t : Fin (cfgM m hO).N) : Memref sig .tc .vmem S1x2048 .f32 := spec0_5.stage ((cfgM m hO).slots t 5)
abbrev ms6 (hO : Ok m) (t : Fin (cfgM m hO).N) : Memref sig .tc .vmem S544x2048 .f32 := spec0_6.stage ((cfgM m hO).slots t 6)

/-- The kernel's body at point `t`. -/
abbrev bodyAt (a : (pcfg0 (F := F)).Adm) (t : Fin (cfg0 a).N) : Prog (TpuEff nD τ sig (Elt F) Λ₀ .tc) PUnit :=
  cc0_dense_ffn (grid0.coords t) (Memref.whole main_v6) (Memref.isWhole_whole _) (Memref.whole main_v7) (Memref.isWhole_whole _) (spec0_0.stage ((cfg0 a).slots t 0)) (hstage0_0 (((cfg0 a).slots t 0).cast nbuf0_0)) (spec0_1.stage ((cfg0 a).slots t 1)) (hstage0_1 (((cfg0 a).slots t 1).cast nbuf0_1)) (spec0_2.stage ((cfg0 a).slots t 2)) (hstage0_2 (((cfg0 a).slots t 2).cast nbuf0_2)) (spec0_3.stage ((cfg0 a).slots t 3)) (hstage0_3 (((cfg0 a).slots t 3).cast nbuf0_3)) (spec0_4.stage ((cfg0 a).slots t 4)) (hstage0_4 (((cfg0 a).slots t 4).cast nbuf0_4)) (spec0_5.stage ((cfg0 a).slots t 5)) (hstage0_5 (((cfg0 a).slots t 5).cast nbuf0_5)) (spec0_6.stage ((cfg0 a).slots t 6)) (hstage0_6 (((cfg0 a).slots t 6).cast nbuf0_6)) (Memref.whole cc0_scratch0) (Memref.isWhole_whole _)

def bodyPre (hO : Ok m) (c : Dev nD) (t : Fin (cfgM m hO).N) : sProp (Mod F) :=
  iprop((dats m hO 0 c).Φ t.castSucc ∗ (dats m hO 0 c).owesAt () t.castSucc
    ∗ (∃ d, owns (c : Thread nD τ) (ms0 m hO t) fullShare ((dats m hO 0 c).before 0 t d))
    ∗ (∃ d, owns (c : Thread nD τ) (ms1 m hO t) fullShare ((dats m hO 0 c).before 1 t d))
    ∗ (∃ d, owns (c : Thread nD τ) (ms2 m hO t) fullShare ((dats m hO 0 c).before 2 t d))
    ∗ (∃ d, owns (c : Thread nD τ) (ms3 m hO t) fullShare ((dats m hO 0 c).before 3 t d))
    ∗ (∃ d, owns (c : Thread nD τ) (ms4 m hO t) fullShare ((dats m hO 0 c).before 4 t d))
    ∗ (∃ d, owns (c : Thread nD τ) (ms5 m hO t) fullShare ((dats m hO 0 c).before 5 t d))
    ∗ (∃ d, owns (c : Thread nD τ) (ms6 m hO t) fullShare ((dats m hO 0 c).before 6 t d)))

/-- What the body hands back of the output block. -/
def left6 (hO : Ok m) (c : Dev nD) (t : Fin (cfgM m hO).N) : sProp (Mod F) :=
  match (cfgM m hO).idle 6 ((cfgM m hO).grid.coords t) with
  | true =>
    match ((cfgM m hO).win 6).flush t with
    | false => iprop(∃ d, owns (c : Thread nD τ) (ms6 m hO t) fullShare ((dats m hO 0 c).before 6 t d))
    | true => owns (c : Thread nD τ) (ms6 m hO t) fullShare ((dats m hO 0 c).after 6 t)
  | false => owns (c : Thread nD τ) (ms6 m hO t) fullShare ((dats m hO 0 c).after 6 t)

def bodyPost (hO : Ok m) (c : Dev nD) (t : Fin (cfgM m hO).N) : sProp (Mod F) :=
  iprop((dats m hO 0 c).Φ t.succ ∗ (dats m hO 0 c).owesAt () t.succ
    ∗ owns (c : Thread nD τ) (ms0 m hO t) fullShare ((dats m hO 0 c).after 0 t)
    ∗ owns (c : Thread nD τ) (ms1 m hO t) fullShare ((dats m hO 0 c).after 1 t)
    ∗ owns (c : Thread nD τ) (ms2 m hO t) fullShare ((dats m hO 0 c).after 2 t)
    ∗ owns (c : Thread nD τ) (ms3 m hO t) fullShare ((dats m hO 0 c).after 3 t)
    ∗ owns (c : Thread nD τ) (ms4 m hO t) fullShare ((dats m hO 0 c).after 4 t)
    ∗ owns (c : Thread nD τ) (ms5 m hO t) fullShare ((dats m hO 0 c).after 5 t)
    ∗ left6 m hO c t)

/-- The output block one step on is what the body is to hand back. -/
theorem left6_of (hO : Ok m) (c : Dev nD) (t : Fin (cfgM m hO).N) (d) (s : Vec F S544x2048 .bf16) (hs : Carries m hO c t s) :
    (owns (c : Thread nD τ) (ms6 m hO t) fullShare (stepAt m hO c t ((dats m hO 0 c).before 6 t d, s)).1 : sProp (Mod F)) ⊢ left6 m hO c t := by
  unfold left6
  cases hi : (cfgM m hO).idle 6 ((cfgM m hO).grid.coords t) with
  | false =>
    dsimp only
    rw [stepAt_before m hO c t d s hs, after6]
  | true =>
    cases hf : ((cfgM m hO).win 6).flush t with
    | false =>
      dsimp only
      refine BIBase.Entails.trans (BIBase.Entails.of_eq (congrArg (fun x => (owns (c : Thread nD τ) (ms6 m hO t) fullShare x : sProp (Mod F))) (stepAt_idle m hO c t hi ((dats m hO 0 c).before 6 t d, s)))) ?_
      iintro H
      iexists d
      iexact H
    | true =>
      dsimp only
      rw [stepAt_before m hO c t d s hs, after6]

/-- The core's part before point `t`: the carried rows at something the body may find there. -/
theorem phi_in (hO : Ok m) (c : Dev nD) (t : Fin (cfgM m hO).N) :
    phi m hO c t.val (Nat.le_of_lt t.isLt)
      ⊢ iprop((∃ s, ⌜Carries m hO c t s⌝ ∗ owns (c : Thread nD τ) carried fullShare s) ∗ (∃ r, prngReg c r)) := by
  by_cases hz : t.val = 0
  · have e : phi m hO c t.val (Nat.le_of_lt t.isLt) = Pipeline.ΦA spec0 c := by
      obtain ⟨n, hn⟩ := t
      dsimp only at hz
      subst hz
      rfl
    rw [e, phiA_eq]
    iintro ⟨⟨%s, H⟩, Hg⟩
    isplitl [H]
    · iexists s
      isplitr
      · ipureintro; exact fun h => absurd hz h
      iexact H
    iexact Hg
  · rw [phi_pos m hO c _ _ hz]
    iintro ⟨H, Hg⟩
    isplitl [H]
    · iexists _
      isplitr
      swap; · iexact H
      ipureintro; exact fun _ => rfl
    iexact Hg

set_option maxHeartbeats 1600000 in
theorem sound_body (hO : Ok m) (c : Dev nD) (t : Fin (cfgM m hO).N) :
    bodyPre m hO c t ⊢ wp frame (wpE (defs₀ (F := F)) Variants.none c none) Set.univ (bodyAt (adm m hO) t) (fun _ => bodyPost m hO c t) := by
  unfold bodyPre bodyPost bodyAt
  simp only [before0, before1, before2, before3, before4, before5]
  rw [show (dats m hO 0 c).owesAt () t.succ = (dats m hO 0 c).owesAt () t.castSucc from rfl,
    after0, after1, after2, after3, after4, after5]
  rw [show (dats m hO 0 c).Φ t.castSucc = iprop(phi m hO c t.val (Nat.le_of_lt t.isLt) ∗ Pipeline.ΦT pre0 (tbl m) c) from rfl,
    show (dats m hO 0 c).Φ t.succ = iprop(iprop(owns (c : Thread nD τ) carried fullShare (outs m hO c t.val t.isLt).2 ∗ (∃ r, prngReg c r)) ∗ Pipeline.ΦT pre0 (tbl m) c) from rfl,
    tables_held]
  iintro ⟨⟨HΦ, ⟨HT0, HT1⟩⟩, Ho, ⟨%d0, H0⟩, ⟨%d1, H1⟩, ⟨%d2, H2⟩, ⟨%d3, H3⟩, ⟨%d4, H4⟩, ⟨%d5, H5⟩, ⟨%d6, H6⟩⟩
  ihave HΦ := phi_in m hO c t $$ HΦ
  icases HΦ with ⟨⟨%s, %hs, HS⟩, Hg⟩
  iapply (body_run c (grid0.coords t) _ _ _ _ _ _ _ _ _ _ _ _ _ _ _ _ (iblk m hO c 0 t) (iblk m hO c 1 t) (iblk m hO c 2 t) (iblk m hO c 3 t) (iblk m hO c 4 t) (iblk m hO c 5 t)
    ((dats m hO 0 c).before 6 t d6) s (tbl m 0) (tbl m 1) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [HS]; · iexact HS
  isplitl [HT0]; · iexact HT0
  isplitl [HT1]; · iexact HT1
  iintro ⟨H0, H1, H2, H3, H4, H5, H6, HS, HT0, HT1⟩
  isplitl [HS Hg HT0 HT1]
  · isplitl [HS Hg]
    · isplitl [HS]
      · rw [← stepAt_before m hO c t d6 s hs]
        unfold stepAt
        iexact HS
      iexact Hg
    isplitl [HT0]; · iexact HT0
    iexact HT1
  isplitl [Ho]; · iexact Ho
  isplitl [H0]; · iexact H0
  isplitl [H1]; · iexact H1
  isplitl [H2]; · iexact H2
  isplitl [H3]; · iexact H3
  isplitl [H4]; · iexact H4
  isplitl [H5]; · iexact H5
  iapply (left6_of m hO c t d6 s hs)
  unfold stepAt
  rw [← count_eq m c]
  iexact H6

theorem body_row (hO : Ok m) (t : Fin (cfgM m hO).N) :
    defs₀ (F := F) .tc (cfgM m hO).body ((cfgM m hO).bodyArgs t ((cfgM m hO).slots t)) = bodyAt (adm m hO) t := by
  unfold defs₀; rw [Defs.onTc_tc]

theorem body_obligation (hO : Ok m) (c : Dev nD) : BodyObligation (dats (F := F) m hO 0 c) (defs₀ (F := F)) Variants.none () Set.univ := fun t => by
  rw [bigSep_W0, bigSep_W0, body_row m hO]
  exact triple_restated (sound_body m hO c t) rfl .rfl fun _ => .rfl

/-- What the launch gives is what the first point is to find. -/
theorem phi_first (hO : Ok m) (c : Dev nD) : iprop(Pipeline.ΦA spec0 c ∗ Pipeline.ΦT pre0 (tbl m) c) ⊢ (dats m hO 0 c).Φ 0 := by
  rw [show (dats m hO 0 c).Φ 0 = iprop(Pipeline.ΦA spec0 c ∗ Pipeline.ΦT pre0 (tbl m) c) from rfl]

/-- After the last point the carried rows are forgotten. -/
theorem phi_last (hO : Ok m) (c : Dev nD) : (dats m hO 0 c).Φ (Fin.last (cfgM m hO).N) ⊢ Pipeline.ΦA spec0 c := by
  have hN : (cfgM m hO).N = 176 := N_0
  rw [show (dats m hO 0 c).Φ (Fin.last (cfgM m hO).N) = iprop(phi m hO c (cfgM m hO).N (Nat.le_refl _) ∗ Pipeline.ΦT pre0 (tbl m) c) from rfl,
    phi_pos m hO c _ _ (by omega), phiA_eq]
  iintro ⟨⟨H, Hg⟩, -⟩
  isplitl [H]
  · iexists _; iexact H
  iexact Hg

/-! ## The run -/

set_option backward.isDefEq.respectTransparency.types false in
/-- Every run ends, with the arrays at what the proof data says and every counter at zero. -/
theorem run_quiescent (hO : Ok m) : θ_run defs (onTc (τ := τ) (main (F := F))) (s₀ m ρ)
    (fun r => (Pipeline.FramePost (Pipeline.pin pcfgs fun _ => adm m hO) (dats m hO) 0 (entry m)) r ∧ r.2.sem = fun _ => 0) :=
  Pipeline.θ_run_frameP_track (Q' := _) pcfgs (fun _ => adm m hO) (dats m hO) (0 : Fin 1) launch0 defs₀ Variants.none m ρ main
    (hbody := fun c => (body_obligation m hO c).loose) (hshare := fun c => (dats m hO 0 c).share_full fun _ => rfl)
    (howed := fun _ _ => rfl) (V := entry m) (hmain := host_main m Variants.none) (hA := A_eq m hO) (hpf := entry_pre m)
    (hin := phi_first m hO) (hout := phi_last m hO)

/-- The arguments end as they began, and every counter at zero. -/
theorem frame (hO : Ok m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun _ h => ⟨fun c =>
    ⟨(h.1 c).1 0 |>.trans (((dats m hO 0 c).arrAt_in 0 rfl _).trans ((A_eq m hO c 0).trans (entry_arg m c main_arg0 (by decide)))),
      ((h.1 c).2 main_arg1 (by decide : main_arg1 ∈ Pipeline.restRefs sig spec0)).trans (entry_arg m c main_arg1 (by decide)),
      ((h.1 c).2 main_arg2 (by decide : main_arg2 ∈ Pipeline.restRefs sig spec0)).trans (entry_arg m c main_arg2 (by decide)),
      ((h.1 c).2 main_arg3 (by decide : main_arg3 ∈ Pipeline.restRefs sig spec0)).trans (entry_arg m c main_arg3 (by decide)),
      (h.1 c).1 4 |>.trans (((dats m hO 0 c).arrAt_in 4 rfl _).trans ((A_eq m hO c 4).trans (entry_arg m c main_arg4 (by decide)))),
      (h.1 c).1 5 |>.trans (((dats m hO 0 c).arrAt_in 5 rfl _).trans ((A_eq m hO c 5).trans (entry_arg m c main_arg5 (by decide))))⟩, h.2⟩)
    (run_quiescent m ρ hO)

end Cert.Kernel11Ideal.Dense

end
-- ==== Proof.DTable.lean ====
/- The words of the dense feed-forward's two tables, the blocks they pick, and that these lie inside the arrays. -/
module

public import proofs.«01_k».proof.Proof.DFrame
public import Idealize.ShloMosaic.Lib.Routing.OpsSet
public import Idealize.ShloMosaic.Lib.Pointwise
public import Idealize.ShloMosaic.Lib.WordArith
public import Idealize.ShloMosaic.Lib.Affine

@[expose] public section

noncomputable section

namespace Cert.Kernel11Ideal.Dense

open Cert.Kernel11Ideal Cert.Kernel11Ideal.Gen
open Idealize.ShloMosaic Idealize.ShloMosaic.TcCoe Idealize.SL.Sem

variable {F : FTy → Type} [FloatOps F]
variable (m : (ℓ : Loc nD τ sig) → Buf (Elt F) ℓ)

/-- Every tile is of the one expert. -/
theorem tbl_expert (i : S16.Idx) : (tbl m 0 : IVec S16 32) i = 0#32 := by
  have e : (tbl m 0 : IVec S16 32) = broadcastInDim S16 ![] bcast_S_S16 (constantI S_ 32 0#32) := by
    unfold tbl entry
    show StableHlo.after hostOps0 (fun b => m ((0 : Dev nD), b)) (Proc.devRef .tc main_v6) = _
    simp only [hostOps0, List.flatten_cons, List.flatten_nil, List.cons_append, List.nil_append, List.append_nil]
    after_results_simp
  rw [e]
  rfl

/-- All sixteen tiles are in use. -/
theorem tbl_count (i : S1.Idx) : (tbl m 1 : IVec S1 32) i = 16#32 := by
  have e : (tbl m 1 : IVec S1 32) = broadcastInDim S1 ![] bcast_S_S1 (constantI S_ 32 16#32) := by
    unfold tbl entry
    show StableHlo.after hostOps0 (fun b => m ((0 : Dev nD), b)) (Proc.devRef .tc main_v7) = _
    simp only [hostOps0, List.flatten_cons, List.flatten_nil, List.cons_append, List.nil_append, List.append_nil]
    after_results_simp
  rw [e]
  rfl

theorem cnt_eq : cnt m = 16#32 := tbl_count m _

/-! ## The blocks the tables pick -/

theorem rows_word : ∀ a : Fin 16, (Scalar.minsi (BitVec.ofNat 32 a.val) (Scalar.subi 16#32 1#32)).toNat = a.val := by decide

theorem stripe_word : ∀ (a : Fin 16) (b : Fin 11),
    (Scalar.select (Scalar.cmpi .slt (BitVec.ofNat 32 a.val) 16#32) (BitVec.ofNat 32 b.val) 10#32).toNat = b.val := by decide

theorem count_at : (tbl m).at 1 (Rect.unit (s := S1) ![0] S1.size inb_S1_S1_0) numel1_S1 = 16#32 := tbl_count m _

theorem expert_at (i : grid0.Coords) :
    (tbl m).at 0 (Rect.unit (s := S16) ![(Scalar.indexCast (BitVec.ofNat 32 (i 0).val) : Index).toNat] S1.size (k0_off1_inb i)) numel1_S1
      = 0#32 := tbl_expert m _

theorem ix_rows (i : grid0.Coords) : cc0_transform_0 inb_S1_S1_0 numel1_S1 (tbl m) i = ![(i 0).val, 0] := by
  unfold cc0_transform_0
  dsimp only
  rw [count_at]
  exact congrArg (fun n : ℕ => (![n, 0] : Fin 2 → ℕ)) (rows_word (i 0))

theorem ix_up (i : grid0.Coords) : cc0_transform_1 k0_off1_inb numel1_S1 inb_S1_S1_0 (tbl m) i = ![0, 0, (i 1).val] := by
  unfold cc0_transform_1
  dsimp only
  rw [expert_at, count_at]
  exact congrArg (fun n : ℕ => (![0, 0, n] : Fin 3 → ℕ)) (stripe_word (i 0) (i 1))

theorem ix_down (i : grid0.Coords) : cc0_transform_3 k0_off1_inb numel1_S1 inb_S1_S1_0 (tbl m) i = ![0, (i 1).val, 0] := by
  unfold cc0_transform_3
  dsimp only
  rw [expert_at, count_at]
  exact congrArg (fun n : ℕ => (![0, n, 0] : Fin 3 → ℕ)) (stripe_word (i 0) (i 1))

/-- The blocks the tables pick lie inside the arrays. -/
theorem ok_of : Ok m := by
  refine ⟨fun i => ⟨?_, .inl rfl⟩, fun i => ⟨?_, .inr ?_⟩, fun i => ⟨?_, .inr ?_⟩, fun i => ⟨?_, .inr ?_⟩⟩
  · have h0 : (i 0).val < 16 := (i 0).isLt
    rw [ix_rows]
    intro a
    fin_cases a
    · show ((i 0).val + 1) * 544 ≤ 8704
      omega
    · show (0 + 1) * 2048 ≤ 2048
      omega
  · have h1 : (i 1).val < 11 := (i 1).isLt
    rw [ix_up]
    intro a
    fin_cases a
    · show (0 + 1) * 1 ≤ 1
      omega
    · show (0 + 1) * 2048 ≤ 2048
      omega
    · show ((i 1).val + 1) * 512 ≤ 5632
      omega
  · exact Affine.block_words_dvd (of_decide_eq_true rfl) (by decide)
  · have h1 : (i 1).val < 11 := (i 1).isLt
    rw [show cc0_transform_2 k0_off1_inb numel1_S1 inb_S1_S1_0 (tbl m) i = cc0_transform_1 k0_off1_inb numel1_S1 inb_S1_S1_0 (tbl m) i from rfl, ix_up]
    intro a
    fin_cases a
    · show (0 + 1) * 1 ≤ 1
      omega
    · show (0 + 1) * 2048 ≤ 2048
      omega
    · show ((i 1).val + 1) * 512 ≤ 5632
      omega
  · exact Affine.block_words_dvd (of_decide_eq_true rfl) (by decide)
  · have h1 : (i 1).val < 11 := (i 1).isLt
    rw [ix_down]
    intro a
    fin_cases a
    · show (0 + 1) * 1 ≤ 1
      omega
    · show ((i 1).val + 1) * 512 ≤ 5632
      omega
    · show (0 + 1) * 2048 ≤ 2048
      omega
  · exact Affine.block_words_dvd (of_decide_eq_true rfl) (by decide)

end Cert.Kernel11Ideal.Dense

end
-- ==== Proof.DValue.lean ====
/- What the dense feed-forward kernel leaves in its result array, over the extended reals: each row's scaled self plus its
   feed-forward, normalized. -/
module

public import proofs.«01_k».proof.Proof.DTable
public import Idealize.ShloMosaic.Lib.Pipeline.Value
public import Idealize.ShloMosaic.Lib.Pipeline.ReadBack
public import Idealize.ShloMosaic.Lib.Pipeline.ValueKit.Geometry

@[expose] public section

noncomputable section

namespace Cert.Kernel11Ideal.Dense

open Cert.Kernel11Ideal Cert.Kernel11Ideal.Gen
open Idealize.ShloMosaic Idealize.ShloMosaic.TcCoe Idealize.SL.Sem
open Idealize.ShloMosaic.Pipeline (Dat)

/-! ## The result -/

/-- A row `y` normalized: its mean taken off, divided by its deviation, scaled by `g` and shifted by `b`, at column `l`. -/
def normed (y : Fin 2048 → EReal) (g b : EReal) (l : Fin 2048) : EReal :=
  (y l - Ideal.div (∑ x, y x) (Ideal.ofBits FTy.f32 1157627904#32)) *
      Ideal.rsqrt (Ideal.div (∑ x, (y x - Ideal.div (∑ x, y x) (Ideal.ofBits FTy.f32 1157627904#32)) *
          (y x - Ideal.div (∑ x, y x) (Ideal.ofBits FTy.f32 1157627904#32))) (Ideal.ofBits FTy.f32 1157627904#32) +
        Ideal.ofBits FTy.f32 925353388#32) * g + b

/-- A hidden value: the gate's sum times its logistic, times the other sum. -/
def gated (a b : EReal) : EReal := a * Ideal.logistic a * b

section
variable (x : Vec Ideal S8704x2048 .f32) (w1 w3 : Vec Ideal S2048x5632 .f32) (w2 : Vec Ideal S5632x2048 .f32)
  (g b : Vec Ideal S1x2048 .f32)

/-- A row's hidden value at column `k`. -/
def hid (R : Fin 8704) (k : Fin 5632) : EReal :=
  gated (∑ d : Fin 2048, x (ix2 R d) * w1 (ix2 d k)) (∑ d : Fin 2048, x (ix2 R d) * w3 (ix2 d k))

/-- What hidden column `k` adds to a row's result at column `l`. -/
def term (R : Fin 8704) (l : Fin 2048) (k : ℕ) : EReal :=
  if h : k < 5632 then hid x w1 w3 R ⟨k, h⟩ * w2 (ix2 ⟨k, h⟩ l) else 0

/-- What the kernel leaves in its result array. -/
def kerOut (y : S8704x2048.Idx) : EReal :=
  normed (fun z => Ideal.ofBits FTy.f32 1071072509#32 * x (ix2 (y 0) z)
    + ∑ k ∈ Finset.range 5632, term x w1 w3 w2 (y 0) z k) (g (ix2 (0 : Fin 1) (y 1))) (b (ix2 (0 : Fin 1) (y 1))) (y 1)

end

/-! ## The body's stores -/

theorem pay1_read (r : Fin 544) (l : Fin 2048) : k0_pay1 (F := Ideal) (ix2 r l) = 0 := by
  unfold k0_pay1
  pointwise

theorem pay2_read (x : Vec Ideal S544x2048 .f32) (r : Fin 544) (l : Fin 2048) : k0_pay2 x (ix2 r l) = x (ix2 r l) := by
  unfold k0_pay2
  pointwise

theorem pay3_read (x : Vec Ideal S544x2048 .bf16) (w1 w3 : Vec Ideal S1x2048x512 .bf16) (a : Vec Ideal S544x2048 .f32)
    (w2 : Vec Ideal S1x512x2048 .bf16) (r : Fin 544) (l : Fin 2048) : k0_pay3 x w1 w3 a w2 (ix2 r l) =
      a (ix2 r l) + ∑ j, gated (∑ d, x (ix2 r d) * w1 (ix3 (0 : Fin 1) d j)) (∑ d, x (ix2 r d) * w3 (ix3 (0 : Fin 1) d j)) * w2 (ix3 (0 : Fin 1) j l) := by
  unfold k0_pay3 gated
  pointwise

theorem pay4_read (x a : Vec Ideal S544x2048 .f32) (g b : Vec Ideal S1x2048 .f32) (r : Fin 544) (l : Fin 2048) :
    k0_pay4 x a g b (ix2 r l) =
      normed (fun z => Ideal.ofBits FTy.f32 1071072509#32 * x (ix2 r z) + a (ix2 r z)) (g (ix2 (0 : Fin 1) l)) (b (ix2 (0 : Fin 1) l)) l := by
  unfold k0_pay4 normed
  pointwise

/-! ## The weights the host hands over -/

variable {m : (ℓ : Loc nD τ sig) → Buf (Elt Ideal) ℓ} (hO : Ok m)

theorem entry_w1 (c : Dev nD) (d : Fin 2048) (k : Fin 5632) :
    entry m c main_v1 (ix3 (0 : Fin 1) d k) = m ((c : Thread nD τ).loc main_arg1) (ix2 d k) := by
  have e : entry m c main_v1 = (truncf .bf16 (broadcastInDim S1x2048x5632 ![1, 2] bcast_S2048x5632_S1x2048x5632_1_2 (m ((c : Thread nD τ).loc main_arg1) : FVec Ideal S2048x5632 .f32)) bitsLt_bf16_f32 : FVec Ideal S1x2048x5632 .bf16) := by
    unfold entry
    simp only [hostOps0, List.flatten_cons, List.flatten_nil, List.cons_append, List.nil_append, List.append_nil]
    after_results_simp
    try rfl
  rw [e]
  refine congrArg (m ((c : Thread nD τ).loc main_arg1)) (funext fun a => Fin.ext ?_)
  fin_cases a <;> rfl

theorem entry_w3 (c : Dev nD) (d : Fin 2048) (k : Fin 5632) :
    entry m c main_v3 (ix3 (0 : Fin 1) d k) = m ((c : Thread nD τ).loc main_arg2) (ix2 d k) := by
  have e : entry m c main_v3 = (truncf .bf16 (broadcastInDim S1x2048x5632 ![1, 2] bcast_S2048x5632_S1x2048x5632_1_2 (m ((c : Thread nD τ).loc main_arg2) : FVec Ideal S2048x5632 .f32)) bitsLt_bf16_f32 : FVec Ideal S1x2048x5632 .bf16) := by
    unfold entry
    simp only [hostOps0, List.flatten_cons, List.flatten_nil, List.cons_append, List.nil_append, List.append_nil]
    after_results_simp
    try rfl
  rw [e]
  refine congrArg (m ((c : Thread nD τ).loc main_arg2)) (funext fun a => Fin.ext ?_)
  fin_cases a <;> rfl

theorem entry_w2 (c : Dev nD) (k : Fin 5632) (l : Fin 2048) :
    entry m c main_v5 (ix3 (0 : Fin 1) k l) = m ((c : Thread nD τ).loc main_arg3) (ix2 k l) := by
  have e : entry m c main_v5 = (truncf .bf16 (broadcastInDim S1x5632x2048 ![1, 2] bcast_S5632x2048_S1x5632x2048_1_2 (m ((c : Thread nD τ).loc main_arg3) : FVec Ideal S5632x2048 .f32)) bitsLt_bf16_f32 : FVec Ideal S1x5632x2048 .bf16) := by
    unfold entry
    simp only [hostOps0, List.flatten_cons, List.flatten_nil, List.cons_append, List.nil_append, List.append_nil]
    after_results_simp
    try rfl
  rw [e]
  refine congrArg (m ((c : Thread nD τ).loc main_arg3)) (funext fun a => Fin.ext ?_)
  fin_cases a <;> rfl

/-! ## The blocks -/

theorem coord0 (t : Fin grid0.N) : (grid0.coords t 0).val = t.val / 11 := by
  have ht : t.val < 176 := Nat.lt_of_lt_of_eq t.isLt N_0
  have e0 : (grid0.coords t 0).val = t.val / 11 % 16 := Pipeline.Grid.coords_val t 0 (by decide) rfl
  omega

theorem coord1 (t : Fin grid0.N) : (grid0.coords t 1).val = t.val % 11 := by
  have e1 : (grid0.coords t 1).val = t.val / 1 % 11 := Pipeline.Grid.coords_val t 1 (by decide) rfl
  omega

/-- The body adds to the output block at every point. -/
theorem active (m : (ℓ : Loc nD τ sig) → Buf (Elt Ideal) ℓ) (t : Fin grid0.N) : k0_cond2 (grid0.coords t) (cnt m) = 1#1 := by
  have ht : t.val < 176 := Nat.lt_of_lt_of_eq t.isLt N_0
  have h : k0_cond2 (grid0.coords t) (cnt m) = 1#1 ↔ t.val / 11 < 16 := by
    rw [cnt_eq]
    unfold k0_cond2
    rw [coord0]
    word_cmp
  exact h.2 (by omega)

/-- Row `r` of the tile at point `n`. -/
def row (n : ℕ) (hn : n < 176) (r : Fin 544) : Fin 8704 := ⟨n / 11 * 544 + r.val, by omega⟩

/-- Point `t` is one of the 176. -/
theorem lt176 (t : Fin (cfgM m hO).N) : t.val < 176 := lt_of_lt_of_eq t.isLt N_0

theorem index0 (t : Fin (cfgM m hO).N) : ((cfgM m hO).win 0).index t = ![t.val / 11, 0] := by
  refine (show ((cfgM m hO).win 0).index t = _ from ix_rows m (grid0.coords t)).trans ?_
  exact congrArg (fun n : ℕ => (![n, 0] : Fin 2 → ℕ)) (coord0 t)

theorem index1 (t : Fin (cfgM m hO).N) : ((cfgM m hO).win 1).index t = ![0, 0, t.val % 11] := by
  refine (show ((cfgM m hO).win 1).index t = _ from ix_up m (grid0.coords t)).trans ?_
  exact congrArg (fun n : ℕ => (![0, 0, n] : Fin 3 → ℕ)) (coord1 t)

theorem index2 (t : Fin (cfgM m hO).N) : ((cfgM m hO).win 2).index t = ![0, 0, t.val % 11] := index1 hO t

theorem index3 (t : Fin (cfgM m hO).N) : ((cfgM m hO).win 3).index t = ![0, t.val % 11, 0] := by
  refine (show ((cfgM m hO).win 3).index t = _ from ix_down m (grid0.coords t)).trans ?_
  exact congrArg (fun n : ℕ => (![0, n, 0] : Fin 3 → ℕ)) (coord1 t)

theorem index4 (t : Fin (cfgM m hO).N) : ((cfgM m hO).win 4).index t = ![0, 0] := rfl
theorem index5 (t : Fin (cfgM m hO).N) : ((cfgM m hO).win 5).index t = ![0, 0] := rfl

theorem index6 (t : Fin (cfgM m hO).N) : ((cfgM m hO).win 6).index t = ![t.val / 11, 0] := by
  refine (show ((cfgM m hO).win 6).index t = cc0_transform_6 (grid0.coords t) from rfl).trans ?_
  have ht : t.val < 176 := lt176 hO t
  unfold cc0_transform_6
  dsimp only
  rw [coord0, WordCmp.toNat_ofNat_of_lt (by omega)]
  rfl

theorem iblk0_read (c : Dev nD) (t : Fin (cfgM m hO).N) (r : Fin 544) (d : Fin 2048) :
    iblk m hO c 0 t (ix2 r d) = m ((c : Thread nD τ).loc main_arg0) (ix2 (row t.val (lt176 hO t) r) d) := by
  rw [← entry_arg m c main_arg0 (by decide)]
  blk_simp [iblk]
  refine congrArg _ (funext fun a => Fin.ext ?_)
  fin_cases a
  · blk_simp [index0 hO t]; rfl
  · blk_simp [index0 hO t]; rfl

theorem iblk1_read (c : Dev nD) (t : Fin (cfgM m hO).N) (d : Fin 2048) (j : Fin 512) :
    iblk m hO c 1 t (ix3 (0 : Fin 1) d j) = m ((c : Thread nD τ).loc main_arg1)
      (ix2 d (⟨t.val % 11 * 512 + j.val, by omega⟩ : Fin 5632)) := by
  rw [← entry_w1 (m := m) c]
  blk_simp [iblk]
  refine congrArg _ (funext fun a => Fin.ext ?_)
  fin_cases a
  · blk_simp [index1 hO t]
  · blk_simp [index1 hO t]; rfl
  · blk_simp [index1 hO t]; rfl

theorem iblk2_read (c : Dev nD) (t : Fin (cfgM m hO).N) (d : Fin 2048) (j : Fin 512) :
    iblk m hO c 2 t (ix3 (0 : Fin 1) d j) = m ((c : Thread nD τ).loc main_arg2)
      (ix2 d (⟨t.val % 11 * 512 + j.val, by omega⟩ : Fin 5632)) := by
  rw [← entry_w3 (m := m) c]
  blk_simp [iblk]
  refine congrArg _ (funext fun a => Fin.ext ?_)
  fin_cases a
  · blk_simp [index2 hO t]
  · blk_simp [index2 hO t]; rfl
  · blk_simp [index2 hO t]; rfl

theorem iblk3_read (c : Dev nD) (t : Fin (cfgM m hO).N) (j : Fin 512) (l : Fin 2048) :
    iblk m hO c 3 t (ix3 (0 : Fin 1) j l) = m ((c : Thread nD τ).loc main_arg3)
      (ix2 (⟨t.val % 11 * 512 + j.val, by omega⟩ : Fin 5632) l) := by
  rw [← entry_w2 (m := m) c]
  blk_simp [iblk]
  refine congrArg _ (funext fun a => Fin.ext ?_)
  fin_cases a
  · blk_simp [index3 hO t]
  · blk_simp [index3 hO t]; rfl
  · blk_simp [index3 hO t]; rfl

theorem iblk4_read (c : Dev nD) (t : Fin (cfgM m hO).N) (l : Fin 2048) :
    iblk m hO c 4 t (ix2 (0 : Fin 1) l) = m ((c : Thread nD τ).loc main_arg4) (ix2 (0 : Fin 1) l) := by
  rw [← entry_arg m c main_arg4 (by decide)]
  blk_simp [iblk]
  refine congrArg _ (funext fun a => Fin.ext ?_)
  fin_cases a
  · blk_simp [index4 hO t]
  · blk_simp [index4 hO t]

theorem iblk5_read (c : Dev nD) (t : Fin (cfgM m hO).N) (l : Fin 2048) :
    iblk m hO c 5 t (ix2 (0 : Fin 1) l) = m ((c : Thread nD τ).loc main_arg5) (ix2 (0 : Fin 1) l) := by
  rw [← entry_arg m c main_arg5 (by decide)]
  blk_simp [iblk]
  refine congrArg _ (funext fun a => Fin.ext ?_)
  fin_cases a
  · blk_simp [index5 hO t]
  · blk_simp [index5 hO t]

/-! ## The output block and the carried rows from point to point -/

/-- The sum of a row's terms over the first `k` hidden columns. -/
def upTo (m : (ℓ : Loc nD τ sig) → Buf (Elt Ideal) ℓ) (c : Dev nD) (R : Fin 8704) (l : Fin 2048) (k : ℕ) : EReal :=
  ∑ i ∈ Finset.range k, term (m ((c : Thread nD τ).loc main_arg0)) (m ((c : Thread nD τ).loc main_arg1)) (m ((c : Thread nD τ).loc main_arg2))
    (m ((c : Thread nD τ).loc main_arg3)) R l i

/-- What the output block holds at a row and column after point `n`. -/
def after (m : (ℓ : Loc nD τ sig) → Buf (Elt Ideal) ℓ) (c : Dev nD) (n : ℕ) (hn : n < 176) (r : Fin 544) (l : Fin 2048) : EReal :=
  if n % 11 = 10 then normed (fun z => Ideal.ofBits FTy.f32 1071072509#32 * m ((c : Thread nD τ).loc main_arg0) (ix2 (row n hn r) z)
      + upTo m c (row n hn r) z 5632) (m ((c : Thread nD τ).loc main_arg4) (ix2 (0 : Fin 1) l)) (m ((c : Thread nD τ).loc main_arg5) (ix2 (0 : Fin 1) l)) l
  else upTo m c (row n hn r) l (n % 11 * 512 + 512)

/-- One point's products, added to the sum so far. -/
theorem added (c : Dev nD) (t : Fin (cfgM m hO).N) (s : Vec Ideal S544x2048 .bf16) (a : Vec Ideal S544x2048 .f32) (r : Fin 544) (l : Fin 2048)
    (hs : ∀ d, s (ix2 r d) = m ((c : Thread nD τ).loc main_arg0) (ix2 (row t.val (lt176 hO t) r) d))
    (ha : a (ix2 r l) = upTo m c (row t.val (lt176 hO t) r) l (t.val % 11 * 512)) :
    k0_pay3 s (iblk m hO c 1 t) (iblk m hO c 2 t) a (iblk m hO c 3 t) (ix2 r l)
      = upTo m c (row t.val (lt176 hO t) r) l (t.val % 11 * 512 + 512) := by
  refine (pay3_read _ _ _ _ _ r l).trans ?_
  rw [ha]
  unfold upTo
  rw [Finset.sum_range_add]
  refine congrArg (_ + ·) ?_
  rw [Finset.sum_range (n := 512)]
  refine Finset.sum_congr rfl fun j _ => ?_
  have hk : t.val % 11 * 512 + j.val < 5632 := by omega
  unfold term hid
  rw [dif_pos hk]
  refine congrArg₂ (· * ·) (congrArg₂ gated (Finset.sum_congr rfl fun d _ => ?_) (Finset.sum_congr rfl fun d _ => ?_)) ?_
  · rw [hs, iblk1_read hO c t]
  · rw [hs, iblk2_read hO c t]
  · rw [iblk3_read hO c t]

/-- One step's carried rows. -/
theorem stepX_read (c : Dev nD) (t : Fin (cfgM m hO).N) (s : Vec Ideal S544x2048 .bf16)
    (hs : t.val % 11 ≠ 0 → ∀ r d, s (ix2 r d) = m ((c : Thread nD τ).loc main_arg0) (ix2 (row t.val (lt176 hO t) r) d)) (r : Fin 544) (d : Fin 2048) :
    stepX (grid0.coords t) (iblk m hO c 0 t) s (ix2 r d) = m ((c : Thread nD τ).loc main_arg0) (ix2 (row t.val (lt176 hO t) r) d) := by
  unfold stepX
  by_cases h : k0_cond1 (grid0.coords t) = 1#1
  · rw [if_pos h]
    exact (pay2_read _ r d).trans (iblk0_read hO c t r d)
  · rw [if_neg h]
    exact hs (fun h' => h ((first_iff t).2 h')) r d

/-- One step's output block. -/
theorem step_read (c : Dev nD) (t : Fin (cfgM m hO).N) (p : Pair Ideal)
    (hs : t.val % 11 ≠ 0 → ∀ r d, p.2 (ix2 r d) = m ((c : Thread nD τ).loc main_arg0) (ix2 (row t.val (lt176 hO t) r) d))
    (hd : t.val % 11 ≠ 0 → ∀ r l, p.1 (ix2 r l) = upTo m c (row t.val (lt176 hO t) r) l (t.val % 11 * 512)) (r : Fin 544) (l : Fin 2048) :
    (stepAt m hO c t p).1 (ix2 r l) = after m c t.val (lt176 hO t) r l := by
  have hX := stepX_read hO c t p.2 hs
  have ha : ∀ r l, ((if k0_cond1 (grid0.coords t) = 1#1 then (k0_pay1 (F := Ideal)) else p.1 : Vec Ideal S544x2048 .f32)) (ix2 r l)
      = upTo m c (row t.val (lt176 hO t) r) l (t.val % 11 * 512) := by
    intro r l
    by_cases h : k0_cond1 (grid0.coords t) = 1#1
    · rw [if_pos h]
      refine (pay1_read r l).trans ?_
      unfold upTo
      rw [(first_iff t).1 h]
      simp
    · rw [if_neg h]
      exact hd (fun h' => h ((first_iff t).2 h')) r l
  unfold stepAt stepO
  dsimp only
  rw [if_pos (active m t)]
  revert ha hX
  generalize (if k0_cond1 (grid0.coords t) = 1#1 then (k0_pay1 (F := Ideal)) else p.1 : Vec Ideal S544x2048 .f32) = a
  generalize stepX (grid0.coords t) (iblk m hO c 0 t) p.2 = s
  intro hX ha
  have hb := fun r l => added hO c t s a r l (hX r) (ha r l)
  revert hb
  generalize k0_pay3 s (iblk m hO c 1 t) (iblk m hO c 2 t) a (iblk m hO c 3 t) = b
  intro hb
  unfold after
  by_cases h : k0_cond3 (grid0.coords t) = 1#1
  · have h10 := (last_iff t).1 h
    rw [if_pos h, if_pos h10]
    refine (pay4_read _ _ _ _ r l).trans ?_
    rw [iblk4_read hO c t, iblk5_read hO c t]
    refine congrArg (fun y => normed y _ _ l) (funext fun z => ?_)
    rw [iblk0_read hO c t]
    refine congrArg (_ + ·) ((hb r z).trans ?_)
    rw [h10]
  · rw [if_neg h, if_neg (fun h' => h ((last_iff t).2 h'))]
    exact hb r l

theorem state (c : Dev nD) : ∀ (n : ℕ) (hn : n < (cfgM m hO).N) (hN : n < 176),
    (∀ r d, (outs m hO c n hn).2 (ix2 r d) = m ((c : Thread nD τ).loc main_arg0) (ix2 (row n hN r) d))
    ∧ ∀ r l, (outs m hO c n hn).1 (ix2 r l) = after m c n hN r l := by
  intro n
  induction n with
  | zero =>
    intro hn hN
    exact ⟨stepX_read hO c ⟨0, hn⟩ _ (fun h => absurd (Nat.zero_mod _) h),
      step_read hO c ⟨0, hn⟩ _ (fun h => absurd (Nat.zero_mod _) h) (fun h => absurd (Nat.zero_mod _) h)⟩
  | succ n ih =>
    intro hn hN
    obtain ⟨i1, i2⟩ := ih (Nat.lt_of_succ_lt hn) (Nat.lt_of_succ_lt hN)
    have hrow : (n + 1) % 11 ≠ 0 → ∀ r, row n (Nat.lt_of_succ_lt hN) r = row (n + 1) hN r := fun h r =>
      Fin.ext (by show n / 11 * 544 + r.val = (n + 1) / 11 * 544 + r.val; omega)
    have h2 : (n + 1) % 11 ≠ 0 → ∀ r d, (outs m hO c n (Nat.lt_of_succ_lt hn)).2 (ix2 r d)
        = m ((c : Thread nD τ).loc main_arg0) (ix2 (row (n + 1) hN r) d) := fun h r d => by rw [i1, hrow h]
    have h1 : (n + 1) % 11 ≠ 0 → ∀ r l, (outs m hO c n (Nat.lt_of_succ_lt hn)).1 (ix2 r l)
        = upTo m c (row (n + 1) hN r) l ((n + 1) % 11 * 512) := fun h r l => by
      rw [i2]
      unfold after
      rw [if_neg (by omega), hrow h, show n % 11 * 512 + 512 = (n + 1) % 11 * 512 by omega]
    exact ⟨stepX_read hO c ⟨n + 1, hn⟩ _ h2, step_read hO c ⟨n + 1, hn⟩ _ h2 h1⟩

/-! ## The result array -/

/-- The result, as an array. -/
def G (m : (ℓ : Loc nD τ sig) → Buf (Elt Ideal) ℓ) (c : Dev nD) : Buf (Elt Ideal) ((c : Thread nD τ).loc main_v8) :=
  kerOut (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))

/-- The block after a tile's last point is the result at the tile's rows. -/
theorem last_block (c : Dev nD) (t : Fin (cfgM m hO).N) (hm : t.val % 11 = 10) (y : S544x2048.Idx) (z : S8704x2048.Idx)
    (h0 : (z 0).val = t.val / 11 * 544 + (y 0).val) (h1 : (z 1).val = (y 1).val) :
    (outs m hO c t.val t.isLt).1 y = G m c z := by
  have ht : t.val < 176 := lt176 hO t
  have hy0 : (y 0).val < 544 := (y 0).isLt
  have hy1 : (y 1).val < 2048 := (y 1).isLt
  have hx : y = ix2 (⟨(y 0).val, hy0⟩ : Fin 544) (⟨(y 1).val, hy1⟩ : Fin 2048) := by
    funext a
    fin_cases a <;> rfl
  have hr : z 0 = row t.val ht ⟨(y 0).val, hy0⟩ := Fin.ext h0
  have hl : z 1 = (⟨(y 1).val, hy1⟩ : Fin 2048) := Fin.ext h1
  rw [hx, (state hO c t.val t.isLt ht).2]
  unfold G kerOut
  rw [hr, hl]
  unfold after upTo
  rw [if_pos hm]

/-- Where an element of the block at point `t` lies in the array. -/
theorem emb6 (t : Fin (cfgM m hO).N) (y : S544x2048.Idx) (z : S8704x2048.Idx) (f : Fin 2 → ℕ) (hf : f = ![t.val / 11, 0])
    (k0 : (z 0).val = f 0 * 544 + 1 * (y 0).val) (k1 : (z 1).val = f 1 * 2048 + 1 * (y 1).val) :
    (z 0).val = t.val / 11 * 544 + (y 0).val ∧ (z 1).val = (y 1).val := by
  subst hf
  have k0' : (z 0).val = t.val / 11 * 544 + 1 * (y 0).val := k0
  have k1' : (z 1).val = 0 * 2048 + 1 * (y 1).val := k1
  exact ⟨by omega, by omega⟩

/-- What a tile's last point writes back is its block of the result. -/
theorem flushed6 (c : Dev nD) (t : Fin (cfgM m hO).N) (hf : ((cfgM m hO).win 6).flush t = true) :
    (dats m hO 0 c).flushed 6 t = (((cfgM m hO).win 6).blk t).view.read (Elt Ideal) (G m c) := by
  show ((cfgM m hO).win 6).cut ((cfgM m hO).grid.coords t) ((dats m hO 0 c).after 6 t) = _
  rw [after6]
  have hm : t.val % 11 = 10 := (flush6 (adm m hO) t).mp hf
  refine funext fun (y : S544x2048.Idx) => ?_
  have h := emb6 hO t y ((((cfgM m hO).win 6).blk t).view.emb y) (((cfgM m hO).win 6).index t) (index6 hO t) rfl rfl
  exact last_block hO c t hm y ((((cfgM m hO).win 6).blk t).view.emb y) h.1 h.2

/-- An index of the array is in point `t`'s block exactly when each coordinate is in the block's range. -/
theorem mem_blk6 (t : Fin (cfgM m hO).N) (i : S8704x2048.Idx) :
    i ∈ (((cfgM m hO).win 6).blk t).view.set ↔ ∀ a : Fin 2, ((cfgM m hO).win 6).index t a * S544x2048.size a ≤ (i a).val
      ∧ (i a).val < ((cfgM m hO).win 6).index t a * S544x2048.size a + S544x2048.size a := by
  show i ∈ ((View.whole main_v8).slice (((cfgM m hO).win 6).rect t)).set ↔ _
  refine (Iff.of_eq (congrArg (i ∈ ·) (View.set_slice_whole main_v8 (((cfgM m hO).win 6).rect t)))).trans ?_
  exact Rect.mem_set_unit

/-- Every index is in the block some tile's last point writes back. -/
theorem covered6 (i : S8704x2048.Idx) :
    ∃ t : Fin (cfgM m hO).N, ((cfgM m hO).win 6).flush t = true ∧ i ∈ (((cfgM m hO).win 6).blk t).view.set := by
  have h0 : (i 0).val < 8704 := (i 0).isLt
  have h1 : (i 1).val < 2048 := (i 1).isLt
  have hlt : (i 0).val / 544 * 11 + 10 < (cfgM m hO).N := lt_of_lt_of_eq (by omega : _ < 176) N_0.symm
  refine ⟨⟨(i 0).val / 544 * 11 + 10, hlt⟩, (flush6 (adm m hO) _).2 (by show ((i 0).val / 544 * 11 + 10) % 11 = 10; omega), ?_⟩
  rw [mem_blk6]
  have e := index6 hO ⟨(i 0).val / 544 * 11 + 10, hlt⟩
  intro a
  rw [e]
  match a with
  | ⟨0, _⟩ =>
    show ((i 0).val / 544 * 11 + 10) / 11 * 544 ≤ (i 0).val ∧ (i 0).val < ((i 0).val / 544 * 11 + 10) / 11 * 544 + 544
    omega
  | ⟨1, _⟩ =>
    show 0 * 2048 ≤ (i 1).val ∧ (i 1).val < 0 * 2048 + 2048
    omega

/-- The array after the run. -/
theorem final6 (c : Dev nD) : (dats m hO 0 c).arrAt 6 (cfgM m hO).N = G m c :=
  (dats m hO 0 c).arrAt_eq_of_cover 6 _ (fun t hf => flushed6 hO c t hf) (fun i => covered6 hO i)

/-- The run: the result array as `G` says, the arguments as they began. -/
theorem run (hO : Ok m) (ρ : Dev nD → PrngReg) : θ_run defs (onTc (τ := τ) (main (F := Ideal))) ⟨m, fun _ => 0, ρ⟩ (fun r => ∀ c : Dev nD,
      r.2.mem ((c.tc : Thread nD τ).loc main_v8) = G m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
    ⟨(h.1 c).1 6 |>.trans (final6 hO c),
      (h.1 c).1 0 |>.trans (((dats m hO 0 c).arrAt_in 0 rfl _).trans ((A_eq m hO c 0).trans (entry_arg m c main_arg0 (by decide)))),
      ((h.1 c).2 main_arg1 (by decide : main_arg1 ∈ Pipeline.restRefs sig spec0)).trans (entry_arg m c main_arg1 (by decide)),
      ((h.1 c).2 main_arg2 (by decide : main_arg2 ∈ Pipeline.restRefs sig spec0)).trans (entry_arg m c main_arg2 (by decide)),
      ((h.1 c).2 main_arg3 (by decide : main_arg3 ∈ Pipeline.restRefs sig spec0)).trans (entry_arg m c main_arg3 (by decide)),
      (h.1 c).1 4 |>.trans (((dats m hO 0 c).arrAt_in 4 rfl _).trans ((A_eq m hO c 4).trans (entry_arg m c main_arg4 (by decide)))),
      (h.1 c).1 5 |>.trans (((dats m hO 0 c).arrAt_in 5 rfl _).trans ((A_eq m hO c 5).trans (entry_arg m c main_arg5 (by decide))))⟩)
    (run_quiescent m ρ hO)

end Cert.Kernel11Ideal.Dense

end
-- ==== Proof.DRef.lean ====
/- The dense feed-forward reference's result, at an index, and that it is the kernel's. -/
module

public import proofs.«01_k».proof.Proof.Gen.Reference11Ideal.Read
public import proofs.«01_k».proof.Proof.DValue
public import Idealize.ShloMosaic.Lib.Pointwise

@[expose] public section

noncomputable section

namespace Cert.Kernel11Ideal.Dense.Ref

open Cert.Reference11Ideal Cert.Reference11Ideal.Read Idealize.ShloMosaic Idealize.ShloMosaic.TcCoe

variable (x : (⟨S8704x2048, .f32⟩ : BufTy).Contents (Elt Ideal)) (w1 w3 : (⟨S2048x5632, .f32⟩ : BufTy).Contents (Elt Ideal))
  (w2 : (⟨S5632x2048, .f32⟩ : BufTy).Contents (Elt Ideal)) (g b : (⟨S1x2048, .f32⟩ : BufTy).Contents (Elt Ideal))

theorem one_bits : Ideal.ofBits FTy.f32 0x3F800000#32 = 1 := by
  simp [Ideal.ofBits, Ideal.ieee, -EReal.coe_mul]
  norm_num
theorem zero_bits : Ideal.ofBits FTy.f32 0x00000000#32 = 0 := by simp [Ideal.ofBits, Ideal.ieee]

theorem up_read (R : Fin 8704) (k : Fin 5632) :
    val_main_v2 (F := Ideal) x w1 (ix2 R k) = ∑ d : Fin 2048, x (ix2 R d) * w1 (ix2 d k) := by
  rw [val_main_v2_apply]
  refine Finset.sum_congr rfl fun d _ => congrArg₂ (fun a b : EReal => a * b) (congrArg x ?_) (congrArg w1 ?_)
  · funext a; fin_cases a <;> rfl
  · funext a; fin_cases a <;> rfl

theorem up3_read (R : Fin 8704) (k : Fin 5632) :
    val_main_v4 (F := Ideal) x w3 (ix2 R k) = ∑ d : Fin 2048, x (ix2 R d) * w3 (ix2 d k) := by
  rw [val_main_v4_apply]
  refine Finset.sum_congr rfl fun d _ => congrArg₂ (fun a b : EReal => a * b) (congrArg x ?_) (congrArg w3 ?_)
  · funext a; fin_cases a <;> rfl
  · funext a; fin_cases a <;> rfl

/-- The reference's hidden value is the kernel's. -/
theorem hid_read (R : Fin 8704) (k : Fin 5632) :
    val_main_v5 (F := Ideal) x w1 w3 (ix2 R k) = hid x w1 w3 R k := by
  rw [val_main_v5_apply, val_main_v3_apply, val_main_call0_v5_apply, val_main_call0_v4_apply, val_main_call0_cst_0_apply,
    val_main_call0_v3_apply, val_main_call0_v2_apply, val_main_call0_cst_apply, val_main_call0_v1_apply,
    val_main_call0_v0_apply, up_read, up3_read]
  unfold hid gated Ideal.logistic
  rw [← one_bits]
  rfl

/-- The row the reference normalizes. -/
theorem sum_read (R : Fin 8704) (l : Fin 2048) : val_main_v7 (F := Ideal) x w1 w3 w2 (ix2 R l) =
    Ideal.ofBits FTy.f32 1071072509#32 * x (ix2 R l)
      + ∑ k ∈ Finset.range 5632, term x w1 w3 w2 R l k := by
  rw [val_main_v7_apply, val_main_v1_apply, val_main_v0_apply, val_main_cst_apply, val_main_v6_apply, Finset.sum_range]
  refine congrArg₂ (fun a b : EReal => a + b) rfl (Finset.sum_congr rfl fun k _ => ?_)
  unfold term
  rw [dif_pos k.isLt, ← hid_read]
  refine congrArg₂ (fun a b : EReal => a * b) (congrArg (val_main_v5 (F := Ideal) x w1 w3) ?_) (congrArg w2 ?_)
  · funext a; fin_cases a <;> rfl
  · funext a; fin_cases a <;> rfl

/-- A row's mean. -/
theorem mean_read (i : S8704x1.Idx) (R : Fin 8704) (hi : i 0 = R) : val_main_v11 (F := Ideal) x w1 w3 w2 i =
    Ideal.div (∑ z, val_main_v7 (F := Ideal) x w1 w3 w2 (ix2 R z)) (Ideal.ofBits FTy.f32 1157627904#32) := by
  rw [val_main_v11_apply, val_main_v10_apply, val_main_cst_1_apply, val_main_v9_apply, val_main_v8_apply, val_main_cst_0_apply]
  refine congrArg₂ Ideal.div ((congrArg (· + _) zero_bits).trans ((zero_add _).trans (Finset.sum_congr rfl fun z _ => ?_))) rfl
  refine congrArg (val_main_v7 (F := Ideal) x w1 w3 w2) ?_
  subst hi
  funext a; fin_cases a <;> rfl

/-- The reference's result is the kernel's. -/
theorem out_read (y : S8704x2048.Idx) : val_main_v29 (F := Ideal) x w1 w3 w2 g b y =
    kerOut x w1 w3 w2 g b y := by
  obtain ⟨R, l, rfl⟩ : ∃ R l, y = ix2 R l := ⟨y 0, y 1, by funext a; fin_cases a <;> rfl⟩
  have hy : kerOut x w1 w3 w2 g b (ix2 R l)
      = normed (fun z => val_main_v7 (F := Ideal) x w1 w3 w2 (ix2 R z)) (g (ix2 (0 : Fin 1) l)) (b (ix2 (0 : Fin 1) l)) l :=
    congrArg (fun y => normed y (g (ix2 (0 : Fin 1) l)) (b (ix2 (0 : Fin 1) l)) l) (funext fun z => (sum_read x w1 w3 w2 R z).symm)
  rw [hy, val_main_v29_apply, val_main_v28_apply, val_main_v27_apply, val_main_v26_apply, val_main_v25_apply,
    val_main_v24_apply, val_main_v23_apply, val_main_v22_apply, val_main_v21_apply, val_main_cst_4_apply,
    val_main_v20_apply, val_main_v19_apply, val_main_v18_apply, val_main_v17_apply, val_main_cst_3_apply,
    val_main_v16_apply, val_main_v15_apply, val_main_cst_2_apply, mean_read x w1 w3 w2 (idx_main_v19 (ix2 R l)) R rfl]
  unfold normed
  refine congrArg₂ (fun a b : EReal => a + b) (congrArg₂ (fun a b : EReal => a * b) (congrArg₂ (fun a b : EReal => a * b) rfl
    (congrArg Ideal.rsqrt (congrArg₂ (fun a b : EReal => a + b) (congrArg₂ Ideal.div
      ((congrArg (· + _) zero_bits).trans ((zero_add _).trans (Finset.sum_congr rfl fun z _ => ?_))) rfl) rfl)))
      (congrArg g ?_)) (congrArg b ?_)
  · have hz : idx_main_v15 (idx_main_v16 (idx_main_v24 (ix2 R l))) z = ix2 R z := by funext a; fin_cases a <;> rfl
    rw [hz, val_main_v14_apply, val_main_v13_apply, val_main_v12_apply, mean_read x w1 w3 w2 (idx_main_v12 (ix2 R z)) R rfl]
    rfl
  · funext a; fin_cases a <;> rfl
  · funext a; fin_cases a <;> rfl

end Cert.Kernel11Ideal.Dense.Ref

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Flash
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Flash
public import proofs.«01_k».proof.Proof.Gen.ReferenceIdeal
public import proofs.«01_k».proof.Proof.Gen.Pre_tables
public import proofs.«01_k».proof.Proof.Gen.Kernel2
public import proofs.«01_k».proof.Proof.Gen.Kernel2.Skeleton
public import proofs.«01_k».proof.Proof.Gen.Kernel2.Launch
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Reference2Ideal.Read
public import proofs.«01_k».proof.Proof.Gen.Kernel3
public import proofs.«01_k».proof.Proof.Gen.Kernel3.Skeleton
public import proofs.«01_k».proof.Proof.Gen.Kernel3.Launch
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Reference3Ideal.Read
public import proofs.«01_k».proof.Proof.Gen.Kernel4
public import proofs.«01_k».proof.Proof.Gen.Kernel4.Skeleton
public import proofs.«01_k».proof.Proof.Gen.Kernel4.Launch
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Reference4Ideal.Read
public import proofs.«01_k».proof.Proof.Gen.Kernel5
public import proofs.«01_k».proof.Proof.Gen.Kernel5.Skeleton
public import proofs.«01_k».proof.Proof.Gen.Kernel5.Launch
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Reference5Ideal.Read
public import proofs.«01_k».proof.Proof.Gen.Kernel6
public import proofs.«01_k».proof.Proof.Gen.Kernel6.Skeleton
public import proofs.«01_k».proof.Proof.Gen.Kernel6.Launch
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Reference6Ideal.Read
public import proofs.«01_k».proof.Proof.Gen.Kernel7
public import proofs.«01_k».proof.Proof.Gen.Kernel7.Skeleton
public import proofs.«01_k».proof.Proof.Gen.Kernel7.Launch
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Frame
public import proofs.«01_k».proof.Proof.Gen.Kernel7Ideal.Value
public import proofs.«01_k».proof.Proof.Gen.Reference7Ideal
public import proofs.«01_k».proof.Proof.Gen.Reference7Ideal.Run
public import proofs.«01_k».proof.Proof.Gen.Reference7Ideal.Read
public import proofs.«01_k».proof.Proof.Gen.Kernel8
public import proofs.«01_k».proof.Proof.Gen.Kernel8.Skeleton
public import proofs.«01_k».proof.Proof.Gen.Kernel8.Launch
public import proofs.«01_k».proof.Proof.Gen.Kernel8.Frame
public import proofs.«01_k».proof.Proof.Gen.Kernel8Ideal
public import proofs.«01_k».proof.Proof.Gen.Kernel8Ideal.Skeleton
public import proofs.«01_k».proof.Proof.Gen.Kernel8Ideal.Launch
public import proofs.«01_k».proof.Proof.Gen.Kernel8Ideal.Frame
public import proofs.«01_k».proof.Proof.Gen.Kernel8Ideal.Value
public import proofs.«01_k».proof.Proof.Gen.Reference8Ideal
public import proofs.«01_k».proof.Proof.Gen.Reference8Ideal.Run
public import proofs.«01_k».proof.Proof.Gen.Reference8Ideal.Read
public import proofs.«01_k».proof.Proof.Gen.Kernel9
public import proofs.«01_k».proof.Proof.Gen.Kernel9.Skeleton
public import proofs.«01_k».proof.Proof.Gen.Kernel9.Launch
public import proofs.«01_k».proof.Proof.Gen.Kernel9.Frame
public import proofs.«01_k».proof.Proof.Gen.Kernel9Ideal
public import proofs.«01_k».proof.Proof.Gen.Kernel9Ideal.Skeleton
public import proofs.«01_k».proof.Proof.Gen.Kernel9Ideal.Launch
public import proofs.«01_k».proof.Proof.Gen.Kernel9Ideal.Frame
public import proofs.«01_k».proof.Proof.Gen.Kernel9Ideal.Value
public import proofs.«01_k».proof.Proof.Gen.Reference9Ideal
public import proofs.«01_k».proof.Proof.Gen.Reference9Ideal.Run
public import proofs.«01_k».proof.Proof.Gen.Reference9Ideal.Read
public import proofs.«01_k».proof.Proof.Gen.Kernel10
public import proofs.«01_k».proof.Proof.Gen.Kernel10.Skeleton
public import proofs.«01_k».proof.Proof.Gen.Kernel10.Launch
public import proofs.«01_k».proof.Proof.Gen.Kernel10.Frame
public import proofs.«01_k».proof.Proof.Gen.Kernel10Ideal
public import proofs.«01_k».proof.Proof.Gen.Kernel10Ideal.Skeleton
public import proofs.«01_k».proof.Proof.Gen.Kernel10Ideal.Launch
public import proofs.«01_k».proof.Proof.Gen.Kernel10Ideal.Frame
public import proofs.«01_k».proof.Proof.Gen.Kernel10Ideal.Value
public import proofs.«01_k».proof.Proof.Gen.Reference10Ideal
public import proofs.«01_k».proof.Proof.Gen.Reference10Ideal.Run
public import proofs.«01_k».proof.Proof.Gen.Reference10Ideal.Read
public import proofs.«01_k».proof.Proof.Gen.Kernel11
public import proofs.«01_k».proof.Proof.Gen.Kernel11.Skeleton
public import proofs.«01_k».proof.Proof.Gen.Kernel11.Launch
public import proofs.«01_k».proof.Proof.Gen.Kernel11.Flash
public import proofs.«01_k».proof.Proof.Gen.Kernel11Ideal
public import proofs.«01_k».proof.Proof.Gen.Kernel11Ideal.Skeleton
public import proofs.«01_k».proof.Proof.Gen.Kernel11Ideal.Launch
public import proofs.«01_k».proof.Proof.Gen.Kernel11Ideal.Flash
public import proofs.«01_k».proof.Proof.Gen.Reference11Ideal
public import proofs.«01_k».proof.Proof.Gen.Reference11Ideal.Run
public import proofs.«01_k».proof.Proof.Gen.Reference11Ideal.Read
public import proofs.«01_k».proof.Proof.Ref
public import proofs.«01_k».proof.Proof.Mat2
public import proofs.«01_k».proof.Proof.Mat3
public import proofs.«01_k».proof.Proof.Mat4
public import proofs.«01_k».proof.Proof.Mat5
public import proofs.«01_k».proof.Proof.Mat6
public import proofs.«01_k».proof.Proof.Mat7
public import proofs.«01_k».proof.Proof.Mat8
public import proofs.«01_k».proof.Proof.Ln9
public import proofs.«01_k».proof.Proof.Ln10
public import proofs.«01_k».proof.Proof.DRef
public import proofs.«01_k».proof.Proof.DTableBits
public import proofs.«01_k».proof.Proof.TableBits
public import proofs.«01_k».proof.Proof.Gen.ReferenceIdeal.Run
public import Idealize.ShloMosaic.Adequacy
public import Idealize.ShloMosaic.Init

@[expose] public section

noncomputable section

namespace Cert.Proof

open Idealize.ShloMosaic Idealize.SL.Sem Cert.Kernel

/-- The precondition's three conditions, as the frame takes them. -/
theorem tables_bits (m : (ℓ : Loc Cert.Kernel.nD Cert.Kernel.τ Cert.Kernel.sig) → Buf (Elt Bits) ℓ)
    (h : Cert.Pre_Kernel (hPre_tables := Cert.Pre_tables.Gen.facts) m) :
    ∃ (E : Fin 24 → Fin 8) (N : ℕ), Cert.Kernel.Moe.Tables m E N :=
  Cert.Kernel.Moe.tables_of m (fun p => congrFun (h 0).1 (ix1 p)) (fun p => congrFun (h 0).2.1 (ix1 p))
    (congrFun (h 0).2.2 (ix1 (0 : Fin 1)))
theorem tables_ideal (m : (ℓ : Loc Cert.KernelIdeal.nD Cert.KernelIdeal.τ Cert.KernelIdeal.sig) → Buf (Elt Ideal) ℓ)
    (h : Cert.Pre_KernelIdeal (hPre_tables := Cert.Pre_tables.Gen.facts) m) :
    ∃ (E : Fin 24 → Fin 8) (N : ℕ), Cert.KernelIdeal.Moe.Tables m E N :=
  Cert.KernelIdeal.Moe.tables_of m (fun p => congrFun (h 0).1 (ix1 p)) (fun p => congrFun (h 0).2.1 (ix1 p))
    (congrFun (h 0).2.2 (ix1 (0 : Fin 1)))

theorem frame_p : Cert.quiescent_Kernel (hKernel := Cert.Kernel.Gen.facts) (hPre_tables := Cert.Pre_tables.Gen.facts) := by
  intro m g hpre
  obtain ⟨E, N, hT⟩ := tables_bits m hpre
  exact Cert.Kernel.Moe.frame m g (Cert.Kernel.Moe.ok_of hT)

theorem frame_pi : Cert.quiescent_KernelIdeal (hKernelIdeal := Cert.KernelIdeal.Gen.facts) (hPre_tables := Cert.Pre_tables.Gen.facts) := by
  intro m g hpre
  obtain ⟨E, N, hT⟩ := tables_ideal m hpre
  exact Cert.KernelIdeal.Moe.frame m g (Cert.KernelIdeal.Moe.ok_of hT)

/-- Every final state of the reference has its arguments unchanged and every counter at zero. -/
theorem frame_r : Cert.quiescent_ReferenceIdeal (hReferenceIdeal := Cert.ReferenceIdeal.Gen.facts) (hPre_tables := Cert.Pre_tables.Gen.facts) :=
  fun m ρ _ => (θ_run (Cert.ReferenceIdeal.defs (F := Ideal)) _ _).mono
    (fun r h => ⟨fun c => (h c).2, sem_eq_zero_of_no_sems (by decide) r.2⟩) (Cert.ReferenceIdeal.Value.run (F := Ideal) m ρ)

/-- The expert kernel's result is the reference's. -/
theorem value : Cert.algebraic_KernelIdeal_ReferenceIdeal (hKernelIdeal := Cert.KernelIdeal.Gen.facts)
    (hReferenceIdeal := Cert.ReferenceIdeal.Gen.facts) (hPre_tables := Cert.Pre_tables.Gen.facts) := by
  intro m g m' g' hpre hargs
  obtain ⟨E, N, hT⟩ := tables_ideal m hpre
  refine ⟨fun c => Cert.KernelIdeal.Moe.G m E N c, Cert.KernelIdeal.Moe.run hT (Cert.KernelIdeal.Moe.ok_of hT) g, ?_⟩
  refine (θ_run _ _ _).mono (fun r h c => ⟨((h c).1.trans ?_), (h c).2⟩) (Cert.ReferenceIdeal.Value.run (F := Ideal) m' g')
  rw [Cert.ReferenceIdeal.Read.val_main_v25_eq, (hargs c).1, (hargs c).2.1, (hargs c).2.2.1, (hargs c).2.2.2.1, (hargs c).2.2.2.2.1,
    (hargs c).2.2.2.2.2.1, (hargs c).2.2.2.2.2.2]
  obtain rfl : c = 0 := Subsingleton.elim _ _
  exact funext fun y => Cert.KernelIdeal.Moe.Ref.out_read _ _ _ _ _ _ _ hT.expert hT.count hT.lt y

/-- The reference of the shared keys has its arguments unchanged and every counter at zero in every final state. -/
theorem frame_r2 : Cert.quiescent_Reference2Ideal (hReference2Ideal := Cert.Reference2Ideal.Gen.facts) := fun m ρ _ =>
  (θ_run (Cert.Reference2Ideal.defs (F := Ideal)) _ _).mono
    (fun r h => ⟨fun c => (h c).2, sem_eq_zero_of_no_sems (by decide) r.2⟩) (Cert.Reference2Ideal.Value.run (F := Ideal) m ρ)

/-- The kernel's result of the shared keys is the reference's, for every input. -/
theorem value2 : Cert.algebraic_Kernel2Ideal_Reference2Ideal (hKernel2Ideal := Cert.Kernel2Ideal.Gen.facts)
    (hReference2Ideal := Cert.Reference2Ideal.Gen.facts) := by
  intro m g m' g' _ hargs
  refine ⟨fun c => Cert.Kernel2Ideal.Value.G2 m c, Cert.Kernel2Ideal.Value.run m g, ?_⟩
  refine (θ_run _ _ _).mono (fun r h c => ⟨((h c).1.trans ?_), (h c).2⟩) (Cert.Reference2Ideal.Value.run (F := Ideal) m' g')
  rw [Cert.Reference2Ideal.Read.val_main_v0_eq, (hargs c).1, (hargs c).2]
  funext y
  refine (Cert.Mat2.ref_read _ _ y).trans (Eq.symm ((Cert.Mat2.final m c y).trans ?_))
  rw [Cert.Kernel2Ideal.Gen.V_main_arg0, Cert.Kernel2Ideal.Gen.V_main_arg1]

/-- The reference of the shared values has its arguments unchanged and every counter at zero in every final state. -/
theorem frame_r3 : Cert.quiescent_Reference3Ideal (hReference3Ideal := Cert.Reference3Ideal.Gen.facts) := fun m ρ _ =>
  (θ_run (Cert.Reference3Ideal.defs (F := Ideal)) _ _).mono
    (fun r h => ⟨fun c => (h c).2, sem_eq_zero_of_no_sems (by decide) r.2⟩) (Cert.Reference3Ideal.Value.run (F := Ideal) m ρ)

/-- The kernel's result of the shared values is the reference's, for every input. -/
theorem value3 : Cert.algebraic_Kernel3Ideal_Reference3Ideal (hKernel3Ideal := Cert.Kernel3Ideal.Gen.facts)
    (hReference3Ideal := Cert.Reference3Ideal.Gen.facts) := by
  intro m g m' g' _ hargs
  refine ⟨fun c => Cert.Kernel3Ideal.Value.G2 m c, Cert.Kernel3Ideal.Value.run m g, ?_⟩
  refine (θ_run _ _ _).mono (fun r h c => ⟨((h c).1.trans ?_), (h c).2⟩) (Cert.Reference3Ideal.Value.run (F := Ideal) m' g')
  rw [Cert.Reference3Ideal.Read.val_main_v0_eq, (hargs c).1, (hargs c).2]
  funext y
  refine (Cert.Mat3.ref_read _ _ y).trans (Eq.symm ((Cert.Mat3.final m c y).trans ?_))
  rw [Cert.Kernel3Ideal.Gen.V_main_arg0, Cert.Kernel3Ideal.Gen.V_main_arg1]

/-- The reference of the queries has its arguments unchanged and every counter at zero in every final state. -/
theorem frame_r4 : Cert.quiescent_Reference4Ideal (hReference4Ideal := Cert.Reference4Ideal.Gen.facts) := fun m ρ _ =>
  (θ_run (Cert.Reference4Ideal.defs (F := Ideal)) _ _).mono
    (fun r h => ⟨fun c => (h c).2, sem_eq_zero_of_no_sems (by decide) r.2⟩) (Cert.Reference4Ideal.Value.run (F := Ideal) m ρ)

/-- The kernel's result of the queries is the reference's, for every input. -/
theorem value4 : Cert.algebraic_Kernel4Ideal_Reference4Ideal (hKernel4Ideal := Cert.Kernel4Ideal.Gen.facts)
    (hReference4Ideal := Cert.Reference4Ideal.Gen.facts) := by
  intro m g m' g' _ hargs
  refine ⟨fun c => Cert.Kernel4Ideal.Value.G2 m c, Cert.Kernel4Ideal.Value.run m g, ?_⟩
  refine (θ_run _ _ _).mono (fun r h c => ⟨((h c).1.trans ?_), (h c).2⟩) (Cert.Reference4Ideal.Value.run (F := Ideal) m' g')
  rw [Cert.Reference4Ideal.Read.val_main_v1_eq, (hargs c).1, (hargs c).2]
  funext y
  refine (Cert.Mat4.ref_read _ _ y).trans (Eq.symm ((Cert.Mat4.final m c y).trans ?_))
  rw [Cert.Kernel4Ideal.Gen.V_main_arg0, Cert.Kernel4Ideal.Gen.V_main_arg1]

/-- The reference of the receptance has its arguments unchanged and every counter at zero in every final state. -/
theorem frame_r5 : Cert.quiescent_Reference5Ideal (hReference5Ideal := Cert.Reference5Ideal.Gen.facts) := fun m ρ _ =>
  (θ_run (Cert.Reference5Ideal.defs (F := Ideal)) _ _).mono
    (fun r h => ⟨fun c => (h c).2, sem_eq_zero_of_no_sems (by decide) r.2⟩) (Cert.Reference5Ideal.Value.run (F := Ideal) m ρ)

/-- The kernel's result of the receptance is the reference's, for every input. -/
theorem value5 : Cert.algebraic_Kernel5Ideal_Reference5Ideal (hKernel5Ideal := Cert.Kernel5Ideal.Gen.facts)
    (hReference5Ideal := Cert.Reference5Ideal.Gen.facts) := by
  intro m g m' g' _ hargs
  refine ⟨fun c => Cert.Kernel5Ideal.Value.G2 m c, Cert.Kernel5Ideal.Value.run m g, ?_⟩
  refine (θ_run _ _ _).mono (fun r h c => ⟨((h c).1.trans ?_), (h c).2⟩) (Cert.Reference5Ideal.Value.run (F := Ideal) m' g')
  rw [Cert.Reference5Ideal.Read.val_main_v1_eq, (hargs c).1, (hargs c).2]
  funext y
  refine (Cert.Mat5.ref_read _ _ y).trans (Eq.symm ((Cert.Mat5.final m c y).trans ?_))
  rw [Cert.Kernel5Ideal.Gen.V_main_arg0, Cert.Kernel5Ideal.Gen.V_main_arg1]

/-- The reference of the keys of an RWKV layer has its arguments unchanged and every counter at zero in every final state. -/
theorem frame_r6 : Cert.quiescent_Reference6Ideal (hReference6Ideal := Cert.Reference6Ideal.Gen.facts) := fun m ρ _ =>
  (θ_run (Cert.Reference6Ideal.defs (F := Ideal)) _ _).mono
    (fun r h => ⟨fun c => (h c).2, sem_eq_zero_of_no_sems (by decide) r.2⟩) (Cert.Reference6Ideal.Value.run (F := Ideal) m ρ)

/-- The kernel's result of the keys of an RWKV layer is the reference's, for every input. -/
theorem value6 : Cert.algebraic_Kernel6Ideal_Reference6Ideal (hKernel6Ideal := Cert.Kernel6Ideal.Gen.facts)
    (hReference6Ideal := Cert.Reference6Ideal.Gen.facts) := by
  intro m g m' g' _ hargs
  refine ⟨fun c => Cert.Kernel6Ideal.Value.G2 m c, Cert.Kernel6Ideal.Value.run m g, ?_⟩
  refine (θ_run _ _ _).mono (fun r h c => ⟨((h c).1.trans ?_), (h c).2⟩) (Cert.Reference6Ideal.Value.run (F := Ideal) m' g')
  rw [Cert.Reference6Ideal.Read.val_main_v1_eq, (hargs c).1, (hargs c).2]
  funext y
  refine (Cert.Mat6.ref_read _ _ y).trans (Eq.symm ((Cert.Mat6.final m c y).trans ?_))
  rw [Cert.Kernel6Ideal.Gen.V_main_arg0, Cert.Kernel6Ideal.Gen.V_main_arg1]

/-- The reference of the values of the first RWKV layer has its arguments unchanged and every counter at zero in every final state. -/
theorem frame_r7 : Cert.quiescent_Reference7Ideal (hReference7Ideal := Cert.Reference7Ideal.Gen.facts) := fun m ρ _ =>
  (θ_run (Cert.Reference7Ideal.defs (F := Ideal)) _ _).mono
    (fun r h => ⟨fun c => (h c).2, sem_eq_zero_of_no_sems (by decide) r.2⟩) (Cert.Reference7Ideal.Value.run (F := Ideal) m ρ)

/-- The kernel's result of the values of the first RWKV layer is the reference's, for every input. -/
theorem value7 : Cert.algebraic_Kernel7Ideal_Reference7Ideal (hKernel7Ideal := Cert.Kernel7Ideal.Gen.facts)
    (hReference7Ideal := Cert.Reference7Ideal.Gen.facts) := by
  intro m g m' g' _ hargs
  refine ⟨fun c => Cert.Kernel7Ideal.Value.G2 m c, Cert.Kernel7Ideal.Value.run m g, ?_⟩
  refine (θ_run _ _ _).mono (fun r h c => ⟨((h c).1.trans ?_), (h c).2⟩) (Cert.Reference7Ideal.Value.run (F := Ideal) m' g')
  rw [Cert.Reference7Ideal.Read.val_main_v1_eq, (hargs c).1, (hargs c).2]
  funext y
  refine (Cert.Mat7.ref_read _ _ y).trans (Eq.symm ((Cert.Mat7.final m c y).trans ?_))
  rw [Cert.Kernel7Ideal.Gen.V_main_arg0, Cert.Kernel7Ideal.Gen.V_main_arg1]

/-- The reference of the values of the second RWKV layer has its arguments unchanged and every counter at zero in every final state. -/
theorem frame_r8 : Cert.quiescent_Reference8Ideal (hReference8Ideal := Cert.Reference8Ideal.Gen.facts) := fun m ρ _ =>
  (θ_run (Cert.Reference8Ideal.defs (F := Ideal)) _ _).mono
    (fun r h => ⟨fun c => (h c).2, sem_eq_zero_of_no_sems (by decide) r.2⟩) (Cert.Reference8Ideal.Value.run (F := Ideal) m ρ)

/-- The kernel's result of the values of the second RWKV layer is the reference's, for every input. -/
theorem value8 : Cert.algebraic_Kernel8Ideal_Reference8Ideal (hKernel8Ideal := Cert.Kernel8Ideal.Gen.facts)
    (hReference8Ideal := Cert.Reference8Ideal.Gen.facts) := by
  intro m g m' g' _ hargs
  refine ⟨fun c => Cert.Kernel8Ideal.Value.G4 m c, Cert.Kernel8Ideal.Value.run m g, ?_⟩
  refine (θ_run _ _ _).mono (fun r h c => ⟨((h c).1.trans ?_), (h c).2⟩) (Cert.Reference8Ideal.Value.run (F := Ideal) m' g')
  rw [Cert.Reference8Ideal.Read.val_main_v4_eq, (hargs c).1, (hargs c).2.1, (hargs c).2.2.1, (hargs c).2.2.2]
  funext y
  refine (Cert.Mat8.out_read _ _ _ _ y).trans (Eq.symm ((Cert.Mat8.final m c y).trans ?_))
  rw [Cert.Kernel8Ideal.Gen.V_main_arg0, Cert.Kernel8Ideal.Gen.V_main_arg1, Cert.Kernel8Ideal.Gen.V_main_arg2, Cert.Kernel8Ideal.Gen.V_main_arg3]

/-- The reference of an RWKV layer's output projection and norm has its arguments unchanged and every counter at zero in every final state. -/
theorem frame_r9 : Cert.quiescent_Reference9Ideal (hReference9Ideal := Cert.Reference9Ideal.Gen.facts) := fun m ρ _ =>
  (θ_run (Cert.Reference9Ideal.defs (F := Ideal)) _ _).mono
    (fun r h => ⟨fun c => (h c).2, sem_eq_zero_of_no_sems (by decide) r.2⟩) (Cert.Reference9Ideal.Value.run (F := Ideal) m ρ)

/-- The kernel's result of an RWKV layer's output projection and norm is the reference's, for every input. -/
theorem value9 : Cert.algebraic_Kernel9Ideal_Reference9Ideal (hKernel9Ideal := Cert.Kernel9Ideal.Gen.facts)
    (hReference9Ideal := Cert.Reference9Ideal.Gen.facts) := by
  intro m g m' g' _ hargs
  refine ⟨fun c => (Cert.Kernel9Ideal.Gen.dats m 0 c).arrAt 5 Cert.Kernel9Ideal.cfg0.N, Cert.Kernel9Ideal.Value.run_blocks m g, ?_⟩
  refine (θ_run _ _ _).mono (fun r h c => ⟨((h c).1.trans ?_), (h c).2⟩) (Cert.Reference9Ideal.Value.run (F := Ideal) m' g')
  rw [Cert.Reference9Ideal.Read.val_main_v26_eq, (hargs c).1, (hargs c).2.1, (hargs c).2.2.1, (hargs c).2.2.2.1, (hargs c).2.2.2.2,
    show (fun c => (Cert.Kernel9Ideal.Gen.dats m 0 c).arrAt 5 Cert.Kernel9Ideal.cfg0.N) c = _ from Cert.Ln9.final m c,
    Cert.Ln9.V_w, Cert.Kernel9Ideal.Gen.V_main_arg0, Cert.Kernel9Ideal.Gen.V_main_arg2, Cert.Kernel9Ideal.Gen.V_main_arg3, Cert.Kernel9Ideal.Gen.V_main_arg4]
  exact funext fun y => Cert.Ln9.Ref.out_read _ _ _ _ _ y

/-- The reference of an attention layer's output projection and norm has its arguments unchanged and every counter at zero in every final state. -/
theorem frame_r10 : Cert.quiescent_Reference10Ideal (hReference10Ideal := Cert.Reference10Ideal.Gen.facts) := fun m ρ _ =>
  (θ_run (Cert.Reference10Ideal.defs (F := Ideal)) _ _).mono
    (fun r h => ⟨fun c => (h c).2, sem_eq_zero_of_no_sems (by decide) r.2⟩) (Cert.Reference10Ideal.Value.run (F := Ideal) m ρ)

/-- The kernel's result of an attention layer's output projection and norm is the reference's, for every input. -/
theorem value10 : Cert.algebraic_Kernel10Ideal_Reference10Ideal (hKernel10Ideal := Cert.Kernel10Ideal.Gen.facts)
    (hReference10Ideal := Cert.Reference10Ideal.Gen.facts) := by
  intro m g m' g' _ hargs
  refine ⟨fun c => (Cert.Kernel10Ideal.Gen.dats m 0 c).arrAt 5 Cert.Kernel10Ideal.cfg0.N, Cert.Kernel10Ideal.Value.run_blocks m g, ?_⟩
  refine (θ_run _ _ _).mono (fun r h c => ⟨((h c).1.trans ?_), (h c).2⟩) (Cert.Reference10Ideal.Value.run (F := Ideal) m' g')
  rw [Cert.Reference10Ideal.Read.val_main_v26_eq, (hargs c).1, (hargs c).2.1, (hargs c).2.2.1, (hargs c).2.2.2.1, (hargs c).2.2.2.2,
    show (fun c => (Cert.Kernel10Ideal.Gen.dats m 0 c).arrAt 5 Cert.Kernel10Ideal.cfg0.N) c = _ from Cert.Ln10.final m c,
    Cert.Ln10.V_w, Cert.Kernel10Ideal.Gen.V_main_arg0, Cert.Kernel10Ideal.Gen.V_main_arg2, Cert.Kernel10Ideal.Gen.V_main_arg3, Cert.Kernel10Ideal.Gen.V_main_arg4]
  exact funext fun y => Cert.Ln10.Ref.out_read _ _ _ _ _ y

/-- The dense feed-forward kernel ends with its arguments unchanged and every counter at zero. -/
theorem frame_p11 : Cert.quiescent_Kernel11 (hKernel11 := Cert.Kernel11.Gen.facts) := fun m g _ =>
  Cert.Kernel11.Dense.frame m g (Cert.Kernel11.Dense.ok_of m)
theorem frame_pi11 : Cert.quiescent_Kernel11Ideal (hKernel11Ideal := Cert.Kernel11Ideal.Gen.facts) := fun m g _ =>
  Cert.Kernel11Ideal.Dense.frame m g (Cert.Kernel11Ideal.Dense.ok_of m)

/-- The reference of the dense feed-forward has its arguments unchanged and every counter at zero in every final state. -/
theorem frame_r11 : Cert.quiescent_Reference11Ideal (hReference11Ideal := Cert.Reference11Ideal.Gen.facts) := fun m ρ _ =>
  (θ_run (Cert.Reference11Ideal.defs (F := Ideal)) _ _).mono
    (fun r h => ⟨fun c => (h c).2, sem_eq_zero_of_no_sems (by decide) r.2⟩) (Cert.Reference11Ideal.Value.run (F := Ideal) m ρ)

/-- The kernel's result of the dense feed-forward is the reference's, for every input. -/
theorem value11 : Cert.algebraic_Kernel11Ideal_Reference11Ideal (hKernel11Ideal := Cert.Kernel11Ideal.Gen.facts)
    (hReference11Ideal := Cert.Reference11Ideal.Gen.facts) := by
  intro m g m' g' _ hargs
  refine ⟨fun c => Cert.Kernel11Ideal.Dense.G m c, Cert.Kernel11Ideal.Dense.run (Cert.Kernel11Ideal.Dense.ok_of m) g, ?_⟩
  refine (θ_run _ _ _).mono (fun r h c => ⟨((h c).1.trans ?_), (h c).2⟩) (Cert.Reference11Ideal.Value.run (F := Ideal) m' g')
  rw [Cert.Reference11Ideal.Read.val_main_v29_eq, (hargs c).1, (hargs c).2.1, (hargs c).2.2.1, (hargs c).2.2.2.1, (hargs c).2.2.2.2.1, (hargs c).2.2.2.2.2]
  exact funext fun y => Cert.Kernel11Ideal.Dense.Ref.out_read _ _ _ _ _ _ y

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Kernel8.Gen.facts, Cert.Kernel8Ideal.Gen.facts, Cert.Reference8Ideal.Gen.facts,
  Cert.Kernel9.Gen.facts, Cert.Kernel9Ideal.Gen.facts, Cert.Reference9Ideal.Gen.facts,
  Cert.Kernel10.Gen.facts, Cert.Kernel10Ideal.Gen.facts, Cert.Reference10Ideal.Gen.facts,
  Cert.Kernel11.Gen.facts, Cert.Kernel11Ideal.Gen.facts, Cert.Reference11Ideal.Gen.facts,
  Cert.Pre_tables.Gen.facts, frame_p, frame_pi, frame_r,
  fun m ρ _ => Cert.Kernel2.Gen.frame m ρ, fun m ρ _ => Cert.Kernel2Ideal.Gen.frame m ρ, frame_r2,
  fun m ρ _ => Cert.Kernel3.Gen.frame m ρ, fun m ρ _ => Cert.Kernel3Ideal.Gen.frame m ρ, frame_r3,
  fun m ρ _ => Cert.Kernel4.Gen.frame m ρ, fun m ρ _ => Cert.Kernel4Ideal.Gen.frame m ρ, frame_r4,
  fun m ρ _ => Cert.Kernel5.Gen.frame m ρ, fun m ρ _ => Cert.Kernel5Ideal.Gen.frame m ρ, frame_r5,
  fun m ρ _ => Cert.Kernel6.Gen.frame m ρ, fun m ρ _ => Cert.Kernel6Ideal.Gen.frame m ρ, frame_r6,
  fun m ρ _ => Cert.Kernel7.Gen.frame m ρ, fun m ρ _ => Cert.Kernel7Ideal.Gen.frame m ρ, frame_r7,
  fun m ρ _ => Cert.Kernel8.Gen.frame m ρ, fun m ρ _ => Cert.Kernel8Ideal.Gen.frame m ρ, frame_r8,
  fun m ρ _ => Cert.Kernel9.Gen.frame m ρ, fun m ρ _ => Cert.Kernel9Ideal.Gen.frame m ρ, frame_r9,
  fun m ρ _ => Cert.Kernel10.Gen.frame m ρ, fun m ρ _ => Cert.Kernel10Ideal.Gen.frame m ρ, frame_r10,
  frame_p11, frame_pi11, frame_r11,
  trivial, value, trivial, value2, trivial, value3, trivial, value4, trivial, value5, trivial, value6, trivial, value7, trivial, value8, trivial, value9, trivial, value10, trivial, value11⟩

end Cert.Proof

end
